-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.bf16_pair.Statement Cert.KernelIdeal.S64x256 Cert.KernelIdeal.S32x256
  ∧ IdealRules.shift_out.By16TwiceStatement Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16384x1024 : Shape := ⟨3, ![1, 16384, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1x16384x8x128 : Shape := ⟨4, ![1, 16384, 8, 128]⟩
abbrev S1x8x16384x128 : Shape := ⟨4, ![1, 8, 16384, 128]⟩
abbrev S1x8x512x128 : Shape := ⟨4, ![1, 8, 512, 128]⟩
abbrev S1x512x1024 : Shape := ⟨3, ![1, 512, 1024]⟩
abbrev S8x512x128 : Shape := ⟨3, ![8, 512, 128]⟩
abbrev S11x784x512 : Shape := ⟨3, ![11, 784, 512]⟩
abbrev S11x512x256 : Shape := ⟨3, ![11, 512, 256]⟩
abbrev S11 : Shape := ⟨1, ![11]⟩
abbrev S1 : Shape := ⟨1, ![1]⟩
abbrev S_ : Shape := ⟨0, ![]⟩
abbrev S1x512x512 : Shape := ⟨3, ![1, 512, 512]⟩
abbrev S512x512 : Shape := ⟨2, ![512, 512]⟩
abbrev S1x256x512 : Shape := ⟨3, ![1, 256, 512]⟩
abbrev S256x512 : Shape := ⟨2, ![256, 512]⟩
abbrev S11x8x512 : Shape := ⟨3, ![11, 8, 512]⟩
abbrev S1x1x128x128 : Shape := ⟨4, ![1, 1, 128, 128]⟩
abbrev S128x128 : Shape := ⟨2, ![128, 128]⟩
abbrev S128x1024 : Shape := ⟨2, ![128, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S1024x512 : Shape := ⟨2, ![1024, 512]⟩
abbrev S128x512 : Shape := ⟨2, ![128, 512]⟩
abbrev S1x128x512 : Shape := ⟨3, ![1, 128, 512]⟩
abbrev S3x256 : Shape := ⟨2, ![3, 256]⟩
abbrev S3x512 : Shape := ⟨2, ![3, 512]⟩
abbrev S1x64x512 : Shape := ⟨3, ![1, 64, 512]⟩
abbrev S64x512 : Shape := ⟨2, ![64, 512]⟩
abbrev S1x512 : Shape := ⟨2, ![1, 512]⟩
abbrev S64x256 : Shape := ⟨2, ![64, 256]⟩
abbrev S1x64x256 : Shape := ⟨3, ![1, 64, 256]⟩
abbrev S32x256 : Shape := ⟨2, ![32, 256]⟩
abbrev S32x128 : Shape := ⟨2, ![32, 128]⟩
abbrev S16x128 : Shape := ⟨2, ![16, 128]⟩
abbrev S8x128 : Shape := ⟨2, ![8, 128]⟩
abbrev S64x128 : Shape := ⟨2, ![64, 128]⟩
abbrev S1x512x256 : Shape := ⟨3, ![1, 512, 256]⟩
abbrev S512x256 : Shape := ⟨2, ![512, 256]⟩
abbrev S512x2560 : Shape := ⟨2, ![512, 2560]⟩
abbrev S2560x1024 : Shape := ⟨2, ![2560, 1024]⟩
abbrev S256x1024 : Shape := ⟨2, ![256, 1024]⟩
abbrev S11x1x512 : Shape := ⟨3, ![11, 1, 512]⟩
abbrev S1x128x128 : Shape := ⟨3, ![1, 128, 128]⟩
abbrev S1x512x128 : Shape := ⟨3, ![1, 512, 128]⟩
abbrev S512x128 : Shape := ⟨2, ![512, 128]⟩

abbrev nBuf : Space → Nat
  | .hbm => 13
  | .vmem => 11
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x2816x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S2816x1024, .f32⟩
  | .hbm, ⟨9, _⟩ => ⟨S1x16384x8x128, .f32⟩
  | .hbm, ⟨10, _⟩ => ⟨S1x8x16384x128, .f32⟩
  | .hbm, ⟨11, _⟩ => ⟨S1x1024, .f32⟩
  | .hbm, ⟨12, _⟩ => ⟨S1x16384x1024, .f32⟩
  | .local _ .vmem, ⟨0, _⟩ => ⟨S1x8x512x128, .f32⟩
  | .local _ .vmem, ⟨1, _⟩ => ⟨S1x8x512x128, .f32⟩
  | .local _ .vmem, ⟨2, _⟩ => ⟨S1x1024, .f32⟩
  | .local _ .vmem, ⟨3, _⟩ => ⟨S3x5632, .f32⟩
  | .local _ .vmem, ⟨4, _⟩ => ⟨S1x512x1024, .f32⟩
  | .local _ .vmem, ⟨5, _⟩ => ⟨S1x512x1024, .f32⟩
  | .local _ .vmem, ⟨6, _⟩ => ⟨S8x512x128, .f32⟩
  | .local _ .vmem, ⟨7, _⟩ => ⟨S11x784x512, .f32⟩
  | .local _ .vmem, ⟨8, _⟩ => ⟨S11x512x256, .bf16⟩
  | .local _ .vmem, ⟨9, _⟩ => ⟨S1024x5632, .bf16⟩
  | .local _ .vmem, ⟨10, _⟩ => ⟨S2816x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨2, ![1, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S1x16384x1024 : Shape := ⟨3, ![1, 16384, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x5632 : Shape := ⟨2, ![1024, 5632]⟩
abbrev S1x16384x5632 : Shape := ⟨3, ![1, 16384, 5632]⟩
abbrev S3x5632 : Shape := ⟨2, ![3, 5632]⟩
abbrev S1x16386x5632 : Shape := ⟨3, ![1, 16386, 5632]⟩
abbrev S1x5632 : Shape := ⟨2, ![1, 5632]⟩
abbrev S5632 : Shape := ⟨1, ![5632]⟩
abbrev S1x1x5632 : Shape := ⟨3, ![1, 1, 5632]⟩
abbrev S1x16384x2816 : Shape := ⟨3, ![1, 16384, 2816]⟩
abbrev S2816x1024 : Shape := ⟨2, ![2816, 1024]⟩

abbrev nBuf : Space → Nat
  | .hbm => 63
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x2816x1024, .f32⟩
  | .hbm, ⟨5, _⟩ => ⟨S1024, .f32⟩
  | .hbm, ⟨6, _⟩ => ⟨S1x16384x1024, .f32⟩
  | .hbm, ⟨7, _⟩ => ⟨S_, .f32⟩
  | .hbm, ⟨8, _⟩ => ⟨S1x16384, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S1x16384x1, .f32⟩
  | .hbm, ⟨17, _⟩ => ⟨S1x16384x1024, .f32⟩
  | .hbm, ⟨18, _⟩ => ⟨S1x16384x1024, .f32⟩
  | .hbm, ⟨19, _⟩ => ⟨S1x1x1024, .f32⟩
  | .hbm, ⟨20, _⟩ => ⟨S1x16384x1024, .f32⟩
  | .hbm, ⟨21, _⟩ => ⟨S1x16384x1024, .f32⟩
  | .hbm, ⟨22, _⟩ => ⟨S1024x5632, .f32⟩
  | .hbm, ⟨23, _⟩ => ⟨S1x16384x5632, .f32⟩
  | .hbm, ⟨24, _⟩ => ⟨S3x5632, .f32⟩
  | .hbm, ⟨25, _⟩ => ⟨S_, .i32⟩
  | .hbm, ⟨26, _⟩ => ⟨S_, .f32⟩
  | .hbm, ⟨27, _⟩ => ⟨S1x16386x5632, .f32⟩
  | .hbm, ⟨28, _⟩ => ⟨S1x16384x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S1x16384x5632, .f32⟩
  | .hbm, ⟨33, _⟩ => ⟨S1x16384x5632, .f32⟩
  | .hbm, ⟨34, _⟩ => ⟨S1x16384x5632, .f32⟩
  | .hbm, ⟨35, _⟩ => ⟨S1x5632, .f32⟩
  | .hbm, ⟨36, _⟩ => ⟨S5632, .f32⟩
  | .hbm, ⟨37, _⟩ => ⟨S1x1x5632, .f32⟩
  | .hbm, ⟨38, _⟩ => ⟨S1x16384x5632, .f32⟩
  | .hbm, ⟨39, _⟩ => ⟨S1x16384x5632, .f32⟩
  | .hbm, ⟨40, _⟩ => ⟨S1x16384x5632, .f32⟩
  | .hbm, ⟨41, _⟩ => ⟨S1x16384x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S1x16384x5632, .f32⟩
  | .hbm, ⟨46, _⟩ => ⟨S1x16384x5632, .f32⟩
  | .hbm, ⟨47, _⟩ => ⟨S1x16384x5632, .f32⟩
  | .hbm, ⟨48, _⟩ => ⟨S1x16384x2816, .f32⟩
  | .hbm, ⟨49, _⟩ => ⟨S1x16384x2816, .f32⟩
  | .hbm, ⟨50, _⟩ => ⟨S1x16384x2816, .f32⟩
  | .hbm, ⟨51, _⟩ => ⟨S1x16384x2816, .f32⟩
  | .hbm, ⟨52, _⟩ => ⟨S_, .f32⟩
  | .hbm, ⟨53, _⟩ => ⟨S1x16384x2816, .f32⟩
  | .hbm, ⟨54, _⟩ => ⟨S1x16384x2816, .f32⟩
  | .hbm, ⟨55, _⟩ => ⟨S_, .f32⟩
  | .hbm, ⟨56, _⟩ => ⟨S1x16384x2816, .f32⟩
  | .hbm, ⟨57, _⟩ => ⟨S1x16384x2816, .f32⟩
  | .hbm, ⟨58, _⟩ => ⟨S1x16384x2816, .f32⟩
  | .hbm, ⟨59, _⟩ => ⟨S1x16384x2816, .f32⟩
  | .hbm, ⟨60, _⟩ => ⟨S2816x1024, .f32⟩
  | .hbm, ⟨61, _⟩ => ⟨S1x16384x1024, .f32⟩
  | .hbm, ⟨62, _⟩ => ⟨S1x16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Proof.KernelIdeal.Cut.lean ====
module

public import proofs.«01_k».proof.Proof.Gen.KernelIdeal.Skeleton
public import proofs.«01_k».proof.Proof.Gen.KernelIdeal.Frame
public import Idealize.ShloMosaic.Lib.Tactic

@[expose] public section

set_option pp.maxSteps 300
set_option maxRecDepth 65536
set_option maxHeartbeats 0

noncomputable section

namespace Cert.KernelIdeal.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ (Pipeline.UD sig nD τ) ℕ

/-- The contents of memref `M`'s buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## Dealing an array into one share per transfer, and cutting the staging buffer into its slots -/

/-- A buffer held whole is one share's window per transfer, and everything else set aside. -/
theorem dealt {n : ℕ} {ℓ : Loc nD τ sig} (K : Fin n → Finset (Idx ℓ)) (f : Buf (Elt F) ℓ) :
    (ℓ ↦{fullShare} f : sProp 𝕄) ⊣⊢ iprop((bigSep Finset.univ fun j => ℓ ↦[K j]{shareTok fullShare n j} f)
      ∗ Parked iprop((ℓ ↦{shareDrop fullShare n} f) ∗ bigSep Finset.univ fun j => ℓ ↦[Finset.univ \ K j]{shareTok fullShare n j} f)) := by
  have key : (bigSep Finset.univ (fun j : Fin n => (ℓ ↦{shareTok fullShare n j} f : sProp 𝕄)))
      = iprop((bigSep Finset.univ fun j => ℓ ↦[K j]{shareTok fullShare n j} f) ∗ bigSep Finset.univ fun j => ℓ ↦[Finset.univ \ K j]{shareTok fullShare n j} f) := by
    rw [bigSep_congr (Ψ := fun j => iprop((ℓ ↦[K j]{shareTok fullShare n j} f) ∗ ℓ ↦[Finset.univ \ K j]{shareTok fullShare n j} f))
      fun j _ => equiv_iff.mp ⟨(pointsTo_split_subset (Finset.subset_univ (K j))).1, (pointsTo_split_subset (Finset.subset_univ (K j))).2⟩]
    exact bigSep_sep _ _ _
  have h := pointsTo_toks (Ix := Unit) (Name := ℕ) (U := Pipeline.UD sig nD τ) (Lvl := ℕ) (S := Finset.univ) (f := f) (ℓ := ℓ) fullShare n
  rw [key] at h
  unfold Parked
  constructor
  · refine h.1.trans ?_
    iintro ⟨A, B, C⟩
    isplitl [B]; · iexact B
    isplitl [A]; · iexact A
    iexact C
  · refine BIBase.Entails.trans ?_ h.2
    iintro ⟨B, A, C⟩
    isplitl [A]; · iexact A
    isplitl [B]; · iexact B
    iexact C

/-- Cutting a part out of a held set, the remainder set aside. -/
theorem cutOut {ℓ : Loc nD τ sig} {S I : Finset (Idx ℓ)} (h : I ⊆ S) (f : Buf (Elt F) ℓ) :
    (ℓ ↦[S]{fullShare} f : sProp 𝕄) ⊢ iprop((ℓ ↦[I]{fullShare} f) ∗ Parked (ℓ ↦[S \ I]{fullShare} f)) :=
  (pointsTo_split_subset h).1

/-- Putting it back, whatever the two now hold. -/
theorem putBack {ℓ : Loc nD τ sig} {S I : Finset (Idx ℓ)} (h : I ⊆ S) (f g : Buf (Elt F) ℓ) :
    iprop((ℓ ↦[I]{fullShare} g) ∗ Parked (ℓ ↦[S \ I]{fullShare} f)) ⊢ (iprop(∃ f', ℓ ↦[S]{fullShare} f') : sProp 𝕄) := by
  refine (pointsTo_join_subset h).trans ?_
  iintro H; iexists _; iexact H

theorem inbSlot (k : Fin 11) : ∀ a, (![k.val, 0, 0] : Fin 3 → ℕ) a + S1x512x512.size a ≤ S11x784x512.size a := by
  revert k; decide
/-- The elements of slot `k` of the staging buffer. -/
def slotSet (M9 : Memref sig .tc .vmem S11x784x512 .f32) (k : Fin 11) : Finset M9.view.ty.Idx :=
  (M9.view.slice (Rect.unit (s := S11x784x512) ![k.val, 0, 0] S1x512x512.size (inbSlot k))).set
theorem slot_disj : ∀ k k' : Fin 11, k ≠ k' → LoadRect.disj (Rect.unit (s := S11x784x512) ![k.val, 0, 0] S1x512x512.size (inbSlot k))
    (Rect.unit (s := S11x784x512) ![k'.val, 0, 0] S1x512x512.size (inbSlot k')).toLoadRect = true := by decide
theorem slotSet_disjoint (M9 : Memref sig .tc .vmem S11x784x512 .f32) (k k' : Fin 11) (h : k ≠ k') : Disjoint (slotSet M9 k) (slotSet M9 k') :=
  View.disjoint_slice_of_disj M9.view _ _ (slot_disj k k' h)

theorem slot0 (M9 : Memref sig .tc .vmem S11x784x512 .f32) : ((M9.slice (Rect.unit (s := S11x784x512) ![0, 0, 0] S1x512x512.size inb_S11x784x512_S1x512x512_0_0_0) (fun _ => rfl)).squeeze S512x512 squeezes_S1x512x512_S512x512).view.set = slotSet M9 0 := Memref.set_view_squeeze _ _
theorem half0 (M9 : Memref sig .tc .vmem S11x784x512 .f32) : ((M9.slice (Rect.unit (s := S11x784x512) ![0, 0, 0] S1x256x512.size inb_S11x784x512_S1x256x512_0_0_0) (fun _ => rfl)).squeeze S256x512 squeezes_S1x256x512_S256x512).view.set ⊆ ((M9.slice (Rect.unit (s := S11x784x512) ![0, 0, 0] S1x512x512.size inb_S11x784x512_S1x512x512_0_0_0) (fun _ => rfl)).squeeze S512x512 squeezes_S1x512x512_S512x512).view.set := by
  rw [Memref.set_view_squeeze, Memref.set_view_squeeze]
  show (M9.view.slice (Rect.unit (s := S11x784x512) ![0, 0, 0] S1x256x512.size inb_S11x784x512_S1x256x512_0_0_0)).set ⊆ (M9.view.slice (Rect.unit (s := S11x784x512) ![0, 0, 0] S1x512x512.size inb_S11x784x512_S1x512x512_0_0_0)).set
  rw [View.set_slice, View.set_slice]; exact Finset.map_subset_map.mpr (LoadRect.set_subset_of_within (by decide))
/-- The part of slot 0 that a half-height window fills. -/
theorem halve0 (c : Dev nD) (M9 : Memref sig .tc .vmem S11x784x512 .f32) (f : Bf (F := F) c M9) : ((((M9.slice (Rect.unit (s := S11x784x512) ![0, 0, 0] S1x512x512.size inb_S11x784x512_S1x512x512_0_0_0) (fun _ => rfl)).squeeze S512x512 squeezes_S1x512x512_S512x512).view.loc (c : Thread nD τ) ↦[((M9.slice (Rect.unit (s := S11x784x512) ![0, 0, 0] S1x512x512.size inb_S11x784x512_S1x512x512_0_0_0) (fun _ => rfl)).squeeze S512x512 squeezes_S1x512x512_S512x512).view.set]{fullShare} f) : sProp 𝕄) ⊢ iprop((((M9.slice (Rect.unit (s := S11x784x512) ![0, 0, 0] S1x256x512.size inb_S11x784x512_S1x256x512_0_0_0) (fun _ => rfl)).squeeze S256x512 squeezes_S1x256x512_S256x512).view.loc (c : Thread nD τ) ↦[((M9.slice (Rect.unit (s := S11x784x512) ![0, 0, 0] S1x256x512.size inb_S11x784x512_S1x256x512_0_0_0) (fun _ => rfl)).squeeze S256x512 squeezes_S1x256x512_S256x512).view.set]{fullShare} f) ∗ Parked (M9.view.loc (c : Thread nD τ) ↦[((M9.slice (Rect.unit (s := S11x784x512) ![0, 0, 0] S1x512x512.size inb_S11x784x512_S1x512x512_0_0_0) (fun _ => rfl)).squeeze S512x512 squeezes_S1x512x512_S512x512).view.set \ ((M9.slice (Rect.unit (s := S11x784x512) ![0, 0, 0] S1x256x512.size inb_S11x784x512_S1x256x512_0_0_0) (fun _ => rfl)).squeeze S256x512 squeezes_S1x256x512_S256x512).view.set]{fullShare} f)) := cutOut (half0 M9) f
theorem whole0 (c : Dev nD) (M9 : Memref sig .tc .vmem S11x784x512 .f32) (f g : Bf (F := F) c M9) : iprop((((M9.slice (Rect.unit (s := S11x784x512) ![0, 0, 0] S1x256x512.size inb_S11x784x512_S1x256x512_0_0_0) (fun _ => rfl)).squeeze S256x512 squeezes_S1x256x512_S256x512).view.loc (c : Thread nD τ) ↦[((M9.slice (Rect.unit (s := S11x784x512) ![0, 0, 0] S1x256x512.size inb_S11x784x512_S1x256x512_0_0_0) (fun _ => rfl)).squeeze S256x512 squeezes_S1x256x512_S256x512).view.set]{fullShare} g) ∗ Parked (M9.view.loc (c : Thread nD τ) ↦[((M9.slice (Rect.unit (s := S11x784x512) ![0, 0, 0] S1x512x512.size inb_S11x784x512_S1x512x512_0_0_0) (fun _ => rfl)).squeeze S512x512 squeezes_S1x512x512_S512x512).view.set \ ((M9.slice (Rect.unit (s := S11x784x512) ![0, 0, 0] S1x256x512.size inb_S11x784x512_S1x256x512_0_0_0) (fun _ => rfl)).squeeze S256x512 squeezes_S1x256x512_S256x512).view.set]{fullShare} f)) ⊢ (iprop(∃ f', (((M9.slice (Rect.unit (s := S11x784x512) ![0, 0, 0] S1x512x512.size inb_S11x784x512_S1x512x512_0_0_0) (fun _ => rfl)).squeeze S512x512 squeezes_S1x512x512_S512x512).view.loc (c : Thread nD τ) ↦[((M9.slice (Rect.unit (s := S11x784x512) ![0, 0, 0] S1x512x512.size inb_S11x784x512_S1x512x512_0_0_0) (fun _ => rfl)).squeeze S512x512 squeezes_S1x512x512_S512x512).view.set]{fullShare} f')) : sProp 𝕄) := putBack (half0 M9) f g
theorem slot1 (M9 : Memref sig .tc .vmem S11x784x512 .f32) : ((M9.slice (Rect.unit (s := S11x784x512) ![1, 0, 0] S1x512x512.size inb_S11x784x512_S1x512x512_1_0_0) (fun _ => rfl)).squeeze S512x512 squeezes_S1x512x512_S512x512).view.set = slotSet M9 1 := Memref.set_view_squeeze _ _
theorem half1 (M9 : Memref sig .tc .vmem S11x784x512 .f32) : ((M9.slice (Rect.unit (s := S11x784x512) ![1, 0, 0] S1x256x512.size inb_S11x784x512_S1x256x512_1_0_0) (fun _ => rfl)).squeeze S256x512 squeezes_S1x256x512_S256x512).view.set ⊆ ((M9.slice (Rect.unit (s := S11x784x512) ![1, 0, 0] S1x512x512.size inb_S11x784x512_S1x512x512_1_0_0) (fun _ => rfl)).squeeze S512x512 squeezes_S1x512x512_S512x512).view.set := by
  rw [Memref.set_view_squeeze, Memref.set_view_squeeze]
  show (M9.view.slice (Rect.unit (s := S11x784x512) ![1, 0, 0] S1x256x512.size inb_S11x784x512_S1x256x512_1_0_0)).set ⊆ (M9.view.slice (Rect.unit (s := S11x784x512) ![1, 0, 0] S1x512x512.size inb_S11x784x512_S1x512x512_1_0_0)).set
  rw [View.set_slice, View.set_slice]; exact Finset.map_subset_map.mpr (LoadRect.set_subset_of_within (by decide))
/-- The part of slot 1 that a half-height window fills. -/
theorem halve1 (c : Dev nD) (M9 : Memref sig .tc .vmem S11x784x512 .f32) (f : Bf (F := F) c M9) : ((((M9.slice (Rect.unit (s := S11x784x512) ![1, 0, 0] S1x512x512.size inb_S11x784x512_S1x512x512_1_0_0) (fun _ => rfl)).squeeze S512x512 squeezes_S1x512x512_S512x512).view.loc (c : Thread nD τ) ↦[((M9.slice (Rect.unit (s := S11x784x512) ![1, 0, 0] S1x512x512.size inb_S11x784x512_S1x512x512_1_0_0) (fun _ => rfl)).squeeze S512x512 squeezes_S1x512x512_S512x512).view.set]{fullShare} f) : sProp 𝕄) ⊢ iprop((((M9.slice (Rect.unit (s := S11x784x512) ![1, 0, 0] S1x256x512.size inb_S11x784x512_S1x256x512_1_0_0) (fun _ => rfl)).squeeze S256x512 squeezes_S1x256x512_S256x512).view.loc (c : Thread nD τ) ↦[((M9.slice (Rect.unit (s := S11x784x512) ![1, 0, 0] S1x256x512.size inb_S11x784x512_S1x256x512_1_0_0) (fun _ => rfl)).squeeze S256x512 squeezes_S1x256x512_S256x512).view.set]{fullShare} f) ∗ Parked (M9.view.loc (c : Thread nD τ) ↦[((M9.slice (Rect.unit (s := S11x784x512) ![1, 0, 0] S1x512x512.size inb_S11x784x512_S1x512x512_1_0_0) (fun _ => rfl)).squeeze S512x512 squeezes_S1x512x512_S512x512).view.set \ ((M9.slice (Rect.unit (s := S11x784x512) ![1, 0, 0] S1x256x512.size inb_S11x784x512_S1x256x512_1_0_0) (fun _ => rfl)).squeeze S256x512 squeezes_S1x256x512_S256x512).view.set]{fullShare} f)) := cutOut (half1 M9) f
theorem whole1 (c : Dev nD) (M9 : Memref sig .tc .vmem S11x784x512 .f32) (f g : Bf (F := F) c M9) : iprop((((M9.slice (Rect.unit (s := S11x784x512) ![1, 0, 0] S1x256x512.size inb_S11x784x512_S1x256x512_1_0_0) (fun _ => rfl)).squeeze S256x512 squeezes_S1x256x512_S256x512).view.loc (c : Thread nD τ) ↦[((M9.slice (Rect.unit (s := S11x784x512) ![1, 0, 0] S1x256x512.size inb_S11x784x512_S1x256x512_1_0_0) (fun _ => rfl)).squeeze S256x512 squeezes_S1x256x512_S256x512).view.set]{fullShare} g) ∗ Parked (M9.view.loc (c : Thread nD τ) ↦[((M9.slice (Rect.unit (s := S11x784x512) ![1, 0, 0] S1x512x512.size inb_S11x784x512_S1x512x512_1_0_0) (fun _ => rfl)).squeeze S512x512 squeezes_S1x512x512_S512x512).view.set \ ((M9.slice (Rect.unit (s := S11x784x512) ![1, 0, 0] S1x256x512.size inb_S11x784x512_S1x256x512_1_0_0) (fun _ => rfl)).squeeze S256x512 squeezes_S1x256x512_S256x512).view.set]{fullShare} f)) ⊢ (iprop(∃ f', (((M9.slice (Rect.unit (s := S11x784x512) ![1, 0, 0] S1x512x512.size inb_S11x784x512_S1x512x512_1_0_0) (fun _ => rfl)).squeeze S512x512 squeezes_S1x512x512_S512x512).view.loc (c : Thread nD τ) ↦[((M9.slice (Rect.unit (s := S11x784x512) ![1, 0, 0] S1x512x512.size inb_S11x784x512_S1x512x512_1_0_0) (fun _ => rfl)).squeeze S512x512 squeezes_S1x512x512_S512x512).view.set]{fullShare} f')) : sProp 𝕄) := putBack (half1 M9) f g
theorem slot2 (M9 : Memref sig .tc .vmem S11x784x512 .f32) : ((M9.slice (Rect.unit (s := S11x784x512) ![2, 0, 0] S1x512x512.size inb_S11x784x512_S1x512x512_2_0_0) (fun _ => rfl)).squeeze S512x512 squeezes_S1x512x512_S512x512).view.set = slotSet M9 2 := Memref.set_view_squeeze _ _
theorem half2 (M9 : Memref sig .tc .vmem S11x784x512 .f32) : ((M9.slice (Rect.unit (s := S11x784x512) ![2, 0, 0] S1x256x512.size inb_S11x784x512_S1x256x512_2_0_0) (fun _ => rfl)).squeeze S256x512 squeezes_S1x256x512_S256x512).view.set ⊆ ((M9.slice (Rect.unit (s := S11x784x512) ![2, 0, 0] S1x512x512.size inb_S11x784x512_S1x512x512_2_0_0) (fun _ => rfl)).squeeze S512x512 squeezes_S1x512x512_S512x512).view.set := by
  rw [Memref.set_view_squeeze, Memref.set_view_squeeze]
  show (M9.view.slice (Rect.unit (s := S11x784x512) ![2, 0, 0] S1x256x512.size inb_S11x784x512_S1x256x512_2_0_0)).set ⊆ (M9.view.slice (Rect.unit (s := S11x784x512) ![2, 0, 0] S1x512x512.size inb_S11x784x512_S1x512x512_2_0_0)).set
  rw [View.set_slice, View.set_slice]; exact Finset.map_subset_map.mpr (LoadRect.set_subset_of_within (by decide))
/-- The part of slot 2 that a half-height window fills. -/
theorem halve2 (c : Dev nD) (M9 : Memref sig .tc .vmem S11x784x512 .f32) (f : Bf (F := F) c M9) : ((((M9.slice (Rect.unit (s := S11x784x512) ![2, 0, 0] S1x512x512.size inb_S11x784x512_S1x512x512_2_0_0) (fun _ => rfl)).squeeze S512x512 squeezes_S1x512x512_S512x512).view.loc (c : Thread nD τ) ↦[((M9.slice (Rect.unit (s := S11x784x512) ![2, 0, 0] S1x512x512.size inb_S11x784x512_S1x512x512_2_0_0) (fun _ => rfl)).squeeze S512x512 squeezes_S1x512x512_S512x512).view.set]{fullShare} f) : sProp 𝕄) ⊢ iprop((((M9.slice (Rect.unit (s := S11x784x512) ![2, 0, 0] S1x256x512.size inb_S11x784x512_S1x256x512_2_0_0) (fun _ => rfl)).squeeze S256x512 squeezes_S1x256x512_S256x512).view.loc (c : Thread nD τ) ↦[((M9.slice (Rect.unit (s := S11x784x512) ![2, 0, 0] S1x256x512.size inb_S11x784x512_S1x256x512_2_0_0) (fun _ => rfl)).squeeze S256x512 squeezes_S1x256x512_S256x512).view.set]{fullShare} f) ∗ Parked (M9.view.loc (c : Thread nD τ) ↦[((M9.slice (Rect.unit (s := S11x784x512) ![2, 0, 0] S1x512x512.size inb_S11x784x512_S1x512x512_2_0_0) (fun _ => rfl)).squeeze S512x512 squeezes_S1x512x512_S512x512).view.set \ ((M9.slice (Rect.unit (s := S11x784x512) ![2, 0, 0] S1x256x512.size inb_S11x784x512_S1x256x512_2_0_0) (fun _ => rfl)).squeeze S256x512 squeezes_S1x256x512_S256x512).view.set]{fullShare} f)) := cutOut (half2 M9) f
theorem whole2 (c : Dev nD) (M9 : Memref sig .tc .vmem S11x784x512 .f32) (f g : Bf (F := F) c M9) : iprop((((M9.slice (Rect.unit (s := S11x784x512) ![2, 0, 0] S1x256x512.size inb_S11x784x512_S1x256x512_2_0_0) (fun _ => rfl)).squeeze S256x512 squeezes_S1x256x512_S256x512).view.loc (c : Thread nD τ) ↦[((M9.slice (Rect.unit (s := S11x784x512) ![2, 0, 0] S1x256x512.size inb_S11x784x512_S1x256x512_2_0_0) (fun _ => rfl)).squeeze S256x512 squeezes_S1x256x512_S256x512).view.set]{fullShare} g) ∗ Parked (M9.view.loc (c : Thread nD τ) ↦[((M9.slice (Rect.unit (s := S11x784x512) ![2, 0, 0] S1x512x512.size inb_S11x784x512_S1x512x512_2_0_0) (fun _ => rfl)).squeeze S512x512 squeezes_S1x512x512_S512x512).view.set \ ((M9.slice (Rect.unit (s := S11x784x512) ![2, 0, 0] S1x256x512.size inb_S11x784x512_S1x256x512_2_0_0) (fun _ => rfl)).squeeze S256x512 squeezes_S1x256x512_S256x512).view.set]{fullShare} f)) ⊢ (iprop(∃ f', (((M9.slice (Rect.unit (s := S11x784x512) ![2, 0, 0] S1x512x512.size inb_S11x784x512_S1x512x512_2_0_0) (fun _ => rfl)).squeeze S512x512 squeezes_S1x512x512_S512x512).view.loc (c : Thread nD τ) ↦[((M9.slice (Rect.unit (s := S11x784x512) ![2, 0, 0] S1x512x512.size inb_S11x784x512_S1x512x512_2_0_0) (fun _ => rfl)).squeeze S512x512 squeezes_S1x512x512_S512x512).view.set]{fullShare} f')) : sProp 𝕄) := putBack (half2 M9) f g
theorem slot3 (M9 : Memref sig .tc .vmem S11x784x512 .f32) : ((M9.slice (Rect.unit (s := S11x784x512) ![3, 0, 0] S1x512x512.size inb_S11x784x512_S1x512x512_3_0_0) (fun _ => rfl)).squeeze S512x512 squeezes_S1x512x512_S512x512).view.set = slotSet M9 3 := Memref.set_view_squeeze _ _
theorem half3 (M9 : Memref sig .tc .vmem S11x784x512 .f32) : ((M9.slice (Rect.unit (s := S11x784x512) ![3, 0, 0] S1x256x512.size inb_S11x784x512_S1x256x512_3_0_0) (fun _ => rfl)).squeeze S256x512 squeezes_S1x256x512_S256x512).view.set ⊆ ((M9.slice (Rect.unit (s := S11x784x512) ![3, 0, 0] S1x512x512.size inb_S11x784x512_S1x512x512_3_0_0) (fun _ => rfl)).squeeze S512x512 squeezes_S1x512x512_S512x512).view.set := by
  rw [Memref.set_view_squeeze, Memref.set_view_squeeze]
  show (M9.view.slice (Rect.unit (s := S11x784x512) ![3, 0, 0] S1x256x512.size inb_S11x784x512_S1x256x512_3_0_0)).set ⊆ (M9.view.slice (Rect.unit (s := S11x784x512) ![3, 0, 0] S1x512x512.size inb_S11x784x512_S1x512x512_3_0_0)).set
  rw [View.set_slice, View.set_slice]; exact Finset.map_subset_map.mpr (LoadRect.set_subset_of_within (by decide))
/-- The part of slot 3 that a half-height window fills. -/
theorem halve3 (c : Dev nD) (M9 : Memref sig .tc .vmem S11x784x512 .f32) (f : Bf (F := F) c M9) : ((((M9.slice (Rect.unit (s := S11x784x512) ![3, 0, 0] S1x512x512.size inb_S11x784x512_S1x512x512_3_0_0) (fun _ => rfl)).squeeze S512x512 squeezes_S1x512x512_S512x512).view.loc (c : Thread nD τ) ↦[((M9.slice (Rect.unit (s := S11x784x512) ![3, 0, 0] S1x512x512.size inb_S11x784x512_S1x512x512_3_0_0) (fun _ => rfl)).squeeze S512x512 squeezes_S1x512x512_S512x512).view.set]{fullShare} f) : sProp 𝕄) ⊢ iprop((((M9.slice (Rect.unit (s := S11x784x512) ![3, 0, 0] S1x256x512.size inb_S11x784x512_S1x256x512_3_0_0) (fun _ => rfl)).squeeze S256x512 squeezes_S1x256x512_S256x512).view.loc (c : Thread nD τ) ↦[((M9.slice (Rect.unit (s := S11x784x512) ![3, 0, 0] S1x256x512.size inb_S11x784x512_S1x256x512_3_0_0) (fun _ => rfl)).squeeze S256x512 squeezes_S1x256x512_S256x512).view.set]{fullShare} f) ∗ Parked (M9.view.loc (c : Thread nD τ) ↦[((M9.slice (Rect.unit (s := S11x784x512) ![3, 0, 0] S1x512x512.size inb_S11x784x512_S1x512x512_3_0_0) (fun _ => rfl)).squeeze S512x512 squeezes_S1x512x512_S512x512).view.set \ ((M9.slice (Rect.unit (s := S11x784x512) ![3, 0, 0] S1x256x512.size inb_S11x784x512_S1x256x512_3_0_0) (fun _ => rfl)).squeeze S256x512 squeezes_S1x256x512_S256x512).view.set]{fullShare} f)) := cutOut (half3 M9) f
theorem whole3 (c : Dev nD) (M9 : Memref sig .tc .vmem S11x784x512 .f32) (f g : Bf (F := F) c M9) : iprop((((M9.slice (Rect.unit (s := S11x784x512) ![3, 0, 0] S1x256x512.size inb_S11x784x512_S1x256x512_3_0_0) (fun _ => rfl)).squeeze S256x512 squeezes_S1x256x512_S256x512).view.loc (c : Thread nD τ) ↦[((M9.slice (Rect.unit (s := S11x784x512) ![3, 0, 0] S1x256x512.size inb_S11x784x512_S1x256x512_3_0_0) (fun _ => rfl)).squeeze S256x512 squeezes_S1x256x512_S256x512).view.set]{fullShare} g) ∗ Parked (M9.view.loc (c : Thread nD τ) ↦[((M9.slice (Rect.unit (s := S11x784x512) ![3, 0, 0] S1x512x512.size inb_S11x784x512_S1x512x512_3_0_0) (fun _ => rfl)).squeeze S512x512 squeezes_S1x512x512_S512x512).view.set \ ((M9.slice (Rect.unit (s := S11x784x512) ![3, 0, 0] S1x256x512.size inb_S11x784x512_S1x256x512_3_0_0) (fun _ => rfl)).squeeze S256x512 squeezes_S1x256x512_S256x512).view.set]{fullShare} f)) ⊢ (iprop(∃ f', (((M9.slice (Rect.unit (s := S11x784x512) ![3, 0, 0] S1x512x512.size inb_S11x784x512_S1x512x512_3_0_0) (fun _ => rfl)).squeeze S512x512 squeezes_S1x512x512_S512x512).view.loc (c : Thread nD τ) ↦[((M9.slice (Rect.unit (s := S11x784x512) ![3, 0, 0] S1x512x512.size inb_S11x784x512_S1x512x512_3_0_0) (fun _ => rfl)).squeeze S512x512 squeezes_S1x512x512_S512x512).view.set]{fullShare} f')) : sProp 𝕄) := putBack (half3 M9) f g
theorem slot4 (M9 : Memref sig .tc .vmem S11x784x512 .f32) : ((M9.slice (Rect.unit (s := S11x784x512) ![4, 0, 0] S1x512x512.size inb_S11x784x512_S1x512x512_4_0_0) (fun _ => rfl)).squeeze S512x512 squeezes_S1x512x512_S512x512).view.set = slotSet M9 4 := Memref.set_view_squeeze _ _
theorem half4 (M9 : Memref sig .tc .vmem S11x784x512 .f32) : ((M9.slice (Rect.unit (s := S11x784x512) ![4, 0, 0] S1x256x512.size inb_S11x784x512_S1x256x512_4_0_0) (fun _ => rfl)).squeeze S256x512 squeezes_S1x256x512_S256x512).view.set ⊆ ((M9.slice (Rect.unit (s := S11x784x512) ![4, 0, 0] S1x512x512.size inb_S11x784x512_S1x512x512_4_0_0) (fun _ => rfl)).squeeze S512x512 squeezes_S1x512x512_S512x512).view.set := by
  rw [Memref.set_view_squeeze, Memref.set_view_squeeze]
  show (M9.view.slice (Rect.unit (s := S11x784x512) ![4, 0, 0] S1x256x512.size inb_S11x784x512_S1x256x512_4_0_0)).set ⊆ (M9.view.slice (Rect.unit (s := S11x784x512) ![4, 0, 0] S1x512x512.size inb_S11x784x512_S1x512x512_4_0_0)).set
  rw [View.set_slice, View.set_slice]; exact Finset.map_subset_map.mpr (LoadRect.set_subset_of_within (by decide))
/-- The part of slot 4 that a half-height window fills. -/
theorem halve4 (c : Dev nD) (M9 : Memref sig .tc .vmem S11x784x512 .f32) (f : Bf (F := F) c M9) : ((((M9.slice (Rect.unit (s := S11x784x512) ![4, 0, 0] S1x512x512.size inb_S11x784x512_S1x512x512_4_0_0) (fun _ => rfl)).squeeze S512x512 squeezes_S1x512x512_S512x512).view.loc (c : Thread nD τ) ↦[((M9.slice (Rect.unit (s := S11x784x512) ![4, 0, 0] S1x512x512.size inb_S11x784x512_S1x512x512_4_0_0) (fun _ => rfl)).squeeze S512x512 squeezes_S1x512x512_S512x512).view.set]{fullShare} f) : sProp 𝕄) ⊢ iprop((((M9.slice (Rect.unit (s := S11x784x512) ![4, 0, 0] S1x256x512.size inb_S11x784x512_S1x256x512_4_0_0) (fun _ => rfl)).squeeze S256x512 squeezes_S1x256x512_S256x512).view.loc (c : Thread nD τ) ↦[((M9.slice (Rect.unit (s := S11x784x512) ![4, 0, 0] S1x256x512.size inb_S11x784x512_S1x256x512_4_0_0) (fun _ => rfl)).squeeze S256x512 squeezes_S1x256x512_S256x512).view.set]{fullShare} f) ∗ Parked (M9.view.loc (c : Thread nD τ) ↦[((M9.slice (Rect.unit (s := S11x784x512) ![4, 0, 0] S1x512x512.size inb_S11x784x512_S1x512x512_4_0_0) (fun _ => rfl)).squeeze S512x512 squeezes_S1x512x512_S512x512).view.set \ ((M9.slice (Rect.unit (s := S11x784x512) ![4, 0, 0] S1x256x512.size inb_S11x784x512_S1x256x512_4_0_0) (fun _ => rfl)).squeeze S256x512 squeezes_S1x256x512_S256x512).view.set]{fullShare} f)) := cutOut (half4 M9) f
theorem whole4 (c : Dev nD) (M9 : Memref sig .tc .vmem S11x784x512 .f32) (f g : Bf (F := F) c M9) : iprop((((M9.slice (Rect.unit (s := S11x784x512) ![4, 0, 0] S1x256x512.size inb_S11x784x512_S1x256x512_4_0_0) (fun _ => rfl)).squeeze S256x512 squeezes_S1x256x512_S256x512).view.loc (c : Thread nD τ) ↦[((M9.slice (Rect.unit (s := S11x784x512) ![4, 0, 0] S1x256x512.size inb_S11x784x512_S1x256x512_4_0_0) (fun _ => rfl)).squeeze S256x512 squeezes_S1x256x512_S256x512).view.set]{fullShare} g) ∗ Parked (M9.view.loc (c : Thread nD τ) ↦[((M9.slice (Rect.unit (s := S11x784x512) ![4, 0, 0] S1x512x512.size inb_S11x784x512_S1x512x512_4_0_0) (fun _ => rfl)).squeeze S512x512 squeezes_S1x512x512_S512x512).view.set \ ((M9.slice (Rect.unit (s := S11x784x512) ![4, 0, 0] S1x256x512.size inb_S11x784x512_S1x256x512_4_0_0) (fun _ => rfl)).squeeze S256x512 squeezes_S1x256x512_S256x512).view.set]{fullShare} f)) ⊢ (iprop(∃ f', (((M9.slice (Rect.unit (s := S11x784x512) ![4, 0, 0] S1x512x512.size inb_S11x784x512_S1x512x512_4_0_0) (fun _ => rfl)).squeeze S512x512 squeezes_S1x512x512_S512x512).view.loc (c : Thread nD τ) ↦[((M9.slice (Rect.unit (s := S11x784x512) ![4, 0, 0] S1x512x512.size inb_S11x784x512_S1x512x512_4_0_0) (fun _ => rfl)).squeeze S512x512 squeezes_S1x512x512_S512x512).view.set]{fullShare} f')) : sProp 𝕄) := putBack (half4 M9) f g
theorem slot5 (M9 : Memref sig .tc .vmem S11x784x512 .f32) : ((M9.slice (Rect.unit (s := S11x784x512) ![5, 0, 0] S1x512x512.size inb_S11x784x512_S1x512x512_5_0_0) (fun _ => rfl)).squeeze S512x512 squeezes_S1x512x512_S512x512).view.set = slotSet M9 5 := Memref.set_view_squeeze _ _
theorem half5 (M9 : Memref sig .tc .vmem S11x784x512 .f32) : ((M9.slice (Rect.unit (s := S11x784x512) ![5, 0, 0] S1x256x512.size inb_S11x784x512_S1x256x512_5_0_0) (fun _ => rfl)).squeeze S256x512 squeezes_S1x256x512_S256x512).view.set ⊆ ((M9.slice (Rect.unit (s := S11x784x512) ![5, 0, 0] S1x512x512.size inb_S11x784x512_S1x512x512_5_0_0) (fun _ => rfl)).squeeze S512x512 squeezes_S1x512x512_S512x512).view.set := by
  rw [Memref.set_view_squeeze, Memref.set_view_squeeze]
  show (M9.view.slice (Rect.unit (s := S11x784x512) ![5, 0, 0] S1x256x512.size inb_S11x784x512_S1x256x512_5_0_0)).set ⊆ (M9.view.slice (Rect.unit (s := S11x784x512) ![5, 0, 0] S1x512x512.size inb_S11x784x512_S1x512x512_5_0_0)).set
  rw [View.set_slice, View.set_slice]; exact Finset.map_subset_map.mpr (LoadRect.set_subset_of_within (by decide))
/-- The part of slot 5 that a half-height window fills. -/
theorem halve5 (c : Dev nD) (M9 : Memref sig .tc .vmem S11x784x512 .f32) (f : Bf (F := F) c M9) : ((((M9.slice (Rect.unit (s := S11x784x512) ![5, 0, 0] S1x512x512.size inb_S11x784x512_S1x512x512_5_0_0) (fun _ => rfl)).squeeze S512x512 squeezes_S1x512x512_S512x512).view.loc (c : Thread nD τ) ↦[((M9.slice (Rect.unit (s := S11x784x512) ![5, 0, 0] S1x512x512.size inb_S11x784x512_S1x512x512_5_0_0) (fun _ => rfl)).squeeze S512x512 squeezes_S1x512x512_S512x512).view.set]{fullShare} f) : sProp 𝕄) ⊢ iprop((((M9.slice (Rect.unit (s := S11x784x512) ![5, 0, 0] S1x256x512.size inb_S11x784x512_S1x256x512_5_0_0) (fun _ => rfl)).squeeze S256x512 squeezes_S1x256x512_S256x512).view.loc (c : Thread nD τ) ↦[((M9.slice (Rect.unit (s := S11x784x512) ![5, 0, 0] S1x256x512.size inb_S11x784x512_S1x256x512_5_0_0) (fun _ => rfl)).squeeze S256x512 squeezes_S1x256x512_S256x512).view.set]{fullShare} f) ∗ Parked (M9.view.loc (c : Thread nD τ) ↦[((M9.slice (Rect.unit (s := S11x784x512) ![5, 0, 0] S1x512x512.size inb_S11x784x512_S1x512x512_5_0_0) (fun _ => rfl)).squeeze S512x512 squeezes_S1x512x512_S512x512).view.set \ ((M9.slice (Rect.unit (s := S11x784x512) ![5, 0, 0] S1x256x512.size inb_S11x784x512_S1x256x512_5_0_0) (fun _ => rfl)).squeeze S256x512 squeezes_S1x256x512_S256x512).view.set]{fullShare} f)) := cutOut (half5 M9) f
theorem whole5 (c : Dev nD) (M9 : Memref sig .tc .vmem S11x784x512 .f32) (f g : Bf (F := F) c M9) : iprop((((M9.slice (Rect.unit (s := S11x784x512) ![5, 0, 0] S1x256x512.size inb_S11x784x512_S1x256x512_5_0_0) (fun _ => rfl)).squeeze S256x512 squeezes_S1x256x512_S256x512).view.loc (c : Thread nD τ) ↦[((M9.slice (Rect.unit (s := S11x784x512) ![5, 0, 0] S1x256x512.size inb_S11x784x512_S1x256x512_5_0_0) (fun _ => rfl)).squeeze S256x512 squeezes_S1x256x512_S256x512).view.set]{fullShare} g) ∗ Parked (M9.view.loc (c : Thread nD τ) ↦[((M9.slice (Rect.unit (s := S11x784x512) ![5, 0, 0] S1x512x512.size inb_S11x784x512_S1x512x512_5_0_0) (fun _ => rfl)).squeeze S512x512 squeezes_S1x512x512_S512x512).view.set \ ((M9.slice (Rect.unit (s := S11x784x512) ![5, 0, 0] S1x256x512.size inb_S11x784x512_S1x256x512_5_0_0) (fun _ => rfl)).squeeze S256x512 squeezes_S1x256x512_S256x512).view.set]{fullShare} f)) ⊢ (iprop(∃ f', (((M9.slice (Rect.unit (s := S11x784x512) ![5, 0, 0] S1x512x512.size inb_S11x784x512_S1x512x512_5_0_0) (fun _ => rfl)).squeeze S512x512 squeezes_S1x512x512_S512x512).view.loc (c : Thread nD τ) ↦[((M9.slice (Rect.unit (s := S11x784x512) ![5, 0, 0] S1x512x512.size inb_S11x784x512_S1x512x512_5_0_0) (fun _ => rfl)).squeeze S512x512 squeezes_S1x512x512_S512x512).view.set]{fullShare} f')) : sProp 𝕄) := putBack (half5 M9) f g
theorem slot6 (M9 : Memref sig .tc .vmem S11x784x512 .f32) : ((M9.slice (Rect.unit (s := S11x784x512) ![6, 0, 0] S1x512x512.size inb_S11x784x512_S1x512x512_6_0_0) (fun _ => rfl)).squeeze S512x512 squeezes_S1x512x512_S512x512).view.set = slotSet M9 6 := Memref.set_view_squeeze _ _
theorem half6 (M9 : Memref sig .tc .vmem S11x784x512 .f32) : ((M9.slice (Rect.unit (s := S11x784x512) ![6, 0, 0] S1x256x512.size inb_S11x784x512_S1x256x512_6_0_0) (fun _ => rfl)).squeeze S256x512 squeezes_S1x256x512_S256x512).view.set ⊆ ((M9.slice (Rect.unit (s := S11x784x512) ![6, 0, 0] S1x512x512.size inb_S11x784x512_S1x512x512_6_0_0) (fun _ => rfl)).squeeze S512x512 squeezes_S1x512x512_S512x512).view.set := by
  rw [Memref.set_view_squeeze, Memref.set_view_squeeze]
  show (M9.view.slice (Rect.unit (s := S11x784x512) ![6, 0, 0] S1x256x512.size inb_S11x784x512_S1x256x512_6_0_0)).set ⊆ (M9.view.slice (Rect.unit (s := S11x784x512) ![6, 0, 0] S1x512x512.size inb_S11x784x512_S1x512x512_6_0_0)).set
  rw [View.set_slice, View.set_slice]; exact Finset.map_subset_map.mpr (LoadRect.set_subset_of_within (by decide))
/-- The part of slot 6 that a half-height window fills. -/
theorem halve6 (c : Dev nD) (M9 : Memref sig .tc .vmem S11x784x512 .f32) (f : Bf (F := F) c M9) : ((((M9.slice (Rect.unit (s := S11x784x512) ![6, 0, 0] S1x512x512.size inb_S11x784x512_S1x512x512_6_0_0) (fun _ => rfl)).squeeze S512x512 squeezes_S1x512x512_S512x512).view.loc (c : Thread nD τ) ↦[((M9.slice (Rect.unit (s := S11x784x512) ![6, 0, 0] S1x512x512.size inb_S11x784x512_S1x512x512_6_0_0) (fun _ => rfl)).squeeze S512x512 squeezes_S1x512x512_S512x512).view.set]{fullShare} f) : sProp 𝕄) ⊢ iprop((((M9.slice (Rect.unit (s := S11x784x512) ![6, 0, 0] S1x256x512.size inb_S11x784x512_S1x256x512_6_0_0) (fun _ => rfl)).squeeze S256x512 squeezes_S1x256x512_S256x512).view.loc (c : Thread nD τ) ↦[((M9.slice (Rect.unit (s := S11x784x512) ![6, 0, 0] S1x256x512.size inb_S11x784x512_S1x256x512_6_0_0) (fun _ => rfl)).squeeze S256x512 squeezes_S1x256x512_S256x512).view.set]{fullShare} f) ∗ Parked (M9.view.loc (c : Thread nD τ) ↦[((M9.slice (Rect.unit (s := S11x784x512) ![6, 0, 0] S1x512x512.size inb_S11x784x512_S1x512x512_6_0_0) (fun _ => rfl)).squeeze S512x512 squeezes_S1x512x512_S512x512).view.set \ ((M9.slice (Rect.unit (s := S11x784x512) ![6, 0, 0] S1x256x512.size inb_S11x784x512_S1x256x512_6_0_0) (fun _ => rfl)).squeeze S256x512 squeezes_S1x256x512_S256x512).view.set]{fullShare} f)) := cutOut (half6 M9) f
theorem whole6 (c : Dev nD) (M9 : Memref sig .tc .vmem S11x784x512 .f32) (f g : Bf (F := F) c M9) : iprop((((M9.slice (Rect.unit (s := S11x784x512) ![6, 0, 0] S1x256x512.size inb_S11x784x512_S1x256x512_6_0_0) (fun _ => rfl)).squeeze S256x512 squeezes_S1x256x512_S256x512).view.loc (c : Thread nD τ) ↦[((M9.slice (Rect.unit (s := S11x784x512) ![6, 0, 0] S1x256x512.size inb_S11x784x512_S1x256x512_6_0_0) (fun _ => rfl)).squeeze S256x512 squeezes_S1x256x512_S256x512).view.set]{fullShare} g) ∗ Parked (M9.view.loc (c : Thread nD τ) ↦[((M9.slice (Rect.unit (s := S11x784x512) ![6, 0, 0] S1x512x512.size inb_S11x784x512_S1x512x512_6_0_0) (fun _ => rfl)).squeeze S512x512 squeezes_S1x512x512_S512x512).view.set \ ((M9.slice (Rect.unit (s := S11x784x512) ![6, 0, 0] S1x256x512.size inb_S11x784x512_S1x256x512_6_0_0) (fun _ => rfl)).squeeze S256x512 squeezes_S1x256x512_S256x512).view.set]{fullShare} f)) ⊢ (iprop(∃ f', (((M9.slice (Rect.unit (s := S11x784x512) ![6, 0, 0] S1x512x512.size inb_S11x784x512_S1x512x512_6_0_0) (fun _ => rfl)).squeeze S512x512 squeezes_S1x512x512_S512x512).view.loc (c : Thread nD τ) ↦[((M9.slice (Rect.unit (s := S11x784x512) ![6, 0, 0] S1x512x512.size inb_S11x784x512_S1x512x512_6_0_0) (fun _ => rfl)).squeeze S512x512 squeezes_S1x512x512_S512x512).view.set]{fullShare} f')) : sProp 𝕄) := putBack (half6 M9) f g
theorem slot7 (M9 : Memref sig .tc .vmem S11x784x512 .f32) : ((M9.slice (Rect.unit (s := S11x784x512) ![7, 0, 0] S1x512x512.size inb_S11x784x512_S1x512x512_7_0_0) (fun _ => rfl)).squeeze S512x512 squeezes_S1x512x512_S512x512).view.set = slotSet M9 7 := Memref.set_view_squeeze _ _
theorem half7 (M9 : Memref sig .tc .vmem S11x784x512 .f32) : ((M9.slice (Rect.unit (s := S11x784x512) ![7, 0, 0] S1x256x512.size inb_S11x784x512_S1x256x512_7_0_0) (fun _ => rfl)).squeeze S256x512 squeezes_S1x256x512_S256x512).view.set ⊆ ((M9.slice (Rect.unit (s := S11x784x512) ![7, 0, 0] S1x512x512.size inb_S11x784x512_S1x512x512_7_0_0) (fun _ => rfl)).squeeze S512x512 squeezes_S1x512x512_S512x512).view.set := by
  rw [Memref.set_view_squeeze, Memref.set_view_squeeze]
  show (M9.view.slice (Rect.unit (s := S11x784x512) ![7, 0, 0] S1x256x512.size inb_S11x784x512_S1x256x512_7_0_0)).set ⊆ (M9.view.slice (Rect.unit (s := S11x784x512) ![7, 0, 0] S1x512x512.size inb_S11x784x512_S1x512x512_7_0_0)).set
  rw [View.set_slice, View.set_slice]; exact Finset.map_subset_map.mpr (LoadRect.set_subset_of_within (by decide))
/-- The part of slot 7 that a half-height window fills. -/
theorem halve7 (c : Dev nD) (M9 : Memref sig .tc .vmem S11x784x512 .f32) (f : Bf (F := F) c M9) : ((((M9.slice (Rect.unit (s := S11x784x512) ![7, 0, 0] S1x512x512.size inb_S11x784x512_S1x512x512_7_0_0) (fun _ => rfl)).squeeze S512x512 squeezes_S1x512x512_S512x512).view.loc (c : Thread nD τ) ↦[((M9.slice (Rect.unit (s := S11x784x512) ![7, 0, 0] S1x512x512.size inb_S11x784x512_S1x512x512_7_0_0) (fun _ => rfl)).squeeze S512x512 squeezes_S1x512x512_S512x512).view.set]{fullShare} f) : sProp 𝕄) ⊢ iprop((((M9.slice (Rect.unit (s := S11x784x512) ![7, 0, 0] S1x256x512.size inb_S11x784x512_S1x256x512_7_0_0) (fun _ => rfl)).squeeze S256x512 squeezes_S1x256x512_S256x512).view.loc (c : Thread nD τ) ↦[((M9.slice (Rect.unit (s := S11x784x512) ![7, 0, 0] S1x256x512.size inb_S11x784x512_S1x256x512_7_0_0) (fun _ => rfl)).squeeze S256x512 squeezes_S1x256x512_S256x512).view.set]{fullShare} f) ∗ Parked (M9.view.loc (c : Thread nD τ) ↦[((M9.slice (Rect.unit (s := S11x784x512) ![7, 0, 0] S1x512x512.size inb_S11x784x512_S1x512x512_7_0_0) (fun _ => rfl)).squeeze S512x512 squeezes_S1x512x512_S512x512).view.set \ ((M9.slice (Rect.unit (s := S11x784x512) ![7, 0, 0] S1x256x512.size inb_S11x784x512_S1x256x512_7_0_0) (fun _ => rfl)).squeeze S256x512 squeezes_S1x256x512_S256x512).view.set]{fullShare} f)) := cutOut (half7 M9) f
theorem whole7 (c : Dev nD) (M9 : Memref sig .tc .vmem S11x784x512 .f32) (f g : Bf (F := F) c M9) : iprop((((M9.slice (Rect.unit (s := S11x784x512) ![7, 0, 0] S1x256x512.size inb_S11x784x512_S1x256x512_7_0_0) (fun _ => rfl)).squeeze S256x512 squeezes_S1x256x512_S256x512).view.loc (c : Thread nD τ) ↦[((M9.slice (Rect.unit (s := S11x784x512) ![7, 0, 0] S1x256x512.size inb_S11x784x512_S1x256x512_7_0_0) (fun _ => rfl)).squeeze S256x512 squeezes_S1x256x512_S256x512).view.set]{fullShare} g) ∗ Parked (M9.view.loc (c : Thread nD τ) ↦[((M9.slice (Rect.unit (s := S11x784x512) ![7, 0, 0] S1x512x512.size inb_S11x784x512_S1x512x512_7_0_0) (fun _ => rfl)).squeeze S512x512 squeezes_S1x512x512_S512x512).view.set \ ((M9.slice (Rect.unit (s := S11x784x512) ![7, 0, 0] S1x256x512.size inb_S11x784x512_S1x256x512_7_0_0) (fun _ => rfl)).squeeze S256x512 squeezes_S1x256x512_S256x512).view.set]{fullShare} f)) ⊢ (iprop(∃ f', (((M9.slice (Rect.unit (s := S11x784x512) ![7, 0, 0] S1x512x512.size inb_S11x784x512_S1x512x512_7_0_0) (fun _ => rfl)).squeeze S512x512 squeezes_S1x512x512_S512x512).view.loc (c : Thread nD τ) ↦[((M9.slice (Rect.unit (s := S11x784x512) ![7, 0, 0] S1x512x512.size inb_S11x784x512_S1x512x512_7_0_0) (fun _ => rfl)).squeeze S512x512 squeezes_S1x512x512_S512x512).view.set]{fullShare} f')) : sProp 𝕄) := putBack (half7 M9) f g
theorem slot8 (M9 : Memref sig .tc .vmem S11x784x512 .f32) : ((M9.slice (Rect.unit (s := S11x784x512) ![8, 0, 0] S1x512x512.size inb_S11x784x512_S1x512x512_8_0_0) (fun _ => rfl)).squeeze S512x512 squeezes_S1x512x512_S512x512).view.set = slotSet M9 8 := Memref.set_view_squeeze _ _
theorem half8 (M9 : Memref sig .tc .vmem S11x784x512 .f32) : ((M9.slice (Rect.unit (s := S11x784x512) ![8, 0, 0] S1x256x512.size inb_S11x784x512_S1x256x512_8_0_0) (fun _ => rfl)).squeeze S256x512 squeezes_S1x256x512_S256x512).view.set ⊆ ((M9.slice (Rect.unit (s := S11x784x512) ![8, 0, 0] S1x512x512.size inb_S11x784x512_S1x512x512_8_0_0) (fun _ => rfl)).squeeze S512x512 squeezes_S1x512x512_S512x512).view.set := by
  rw [Memref.set_view_squeeze, Memref.set_view_squeeze]
  show (M9.view.slice (Rect.unit (s := S11x784x512) ![8, 0, 0] S1x256x512.size inb_S11x784x512_S1x256x512_8_0_0)).set ⊆ (M9.view.slice (Rect.unit (s := S11x784x512) ![8, 0, 0] S1x512x512.size inb_S11x784x512_S1x512x512_8_0_0)).set
  rw [View.set_slice, View.set_slice]; exact Finset.map_subset_map.mpr (LoadRect.set_subset_of_within (by decide))
/-- The part of slot 8 that a half-height window fills. -/
theorem halve8 (c : Dev nD) (M9 : Memref sig .tc .vmem S11x784x512 .f32) (f : Bf (F := F) c M9) : ((((M9.slice (Rect.unit (s := S11x784x512) ![8, 0, 0] S1x512x512.size inb_S11x784x512_S1x512x512_8_0_0) (fun _ => rfl)).squeeze S512x512 squeezes_S1x512x512_S512x512).view.loc (c : Thread nD τ) ↦[((M9.slice (Rect.unit (s := S11x784x512) ![8, 0, 0] S1x512x512.size inb_S11x784x512_S1x512x512_8_0_0) (fun _ => rfl)).squeeze S512x512 squeezes_S1x512x512_S512x512).view.set]{fullShare} f) : sProp 𝕄) ⊢ iprop((((M9.slice (Rect.unit (s := S11x784x512) ![8, 0, 0] S1x256x512.size inb_S11x784x512_S1x256x512_8_0_0) (fun _ => rfl)).squeeze S256x512 squeezes_S1x256x512_S256x512).view.loc (c : Thread nD τ) ↦[((M9.slice (Rect.unit (s := S11x784x512) ![8, 0, 0] S1x256x512.size inb_S11x784x512_S1x256x512_8_0_0) (fun _ => rfl)).squeeze S256x512 squeezes_S1x256x512_S256x512).view.set]{fullShare} f) ∗ Parked (M9.view.loc (c : Thread nD τ) ↦[((M9.slice (Rect.unit (s := S11x784x512) ![8, 0, 0] S1x512x512.size inb_S11x784x512_S1x512x512_8_0_0) (fun _ => rfl)).squeeze S512x512 squeezes_S1x512x512_S512x512).view.set \ ((M9.slice (Rect.unit (s := S11x784x512) ![8, 0, 0] S1x256x512.size inb_S11x784x512_S1x256x512_8_0_0) (fun _ => rfl)).squeeze S256x512 squeezes_S1x256x512_S256x512).view.set]{fullShare} f)) := cutOut (half8 M9) f
theorem whole8 (c : Dev nD) (M9 : Memref sig .tc .vmem S11x784x512 .f32) (f g : Bf (F := F) c M9) : iprop((((M9.slice (Rect.unit (s := S11x784x512) ![8, 0, 0] S1x256x512.size inb_S11x784x512_S1x256x512_8_0_0) (fun _ => rfl)).squeeze S256x512 squeezes_S1x256x512_S256x512).view.loc (c : Thread nD τ) ↦[((M9.slice (Rect.unit (s := S11x784x512) ![8, 0, 0] S1x256x512.size inb_S11x784x512_S1x256x512_8_0_0) (fun _ => rfl)).squeeze S256x512 squeezes_S1x256x512_S256x512).view.set]{fullShare} g) ∗ Parked (M9.view.loc (c : Thread nD τ) ↦[((M9.slice (Rect.unit (s := S11x784x512) ![8, 0, 0] S1x512x512.size inb_S11x784x512_S1x512x512_8_0_0) (fun _ => rfl)).squeeze S512x512 squeezes_S1x512x512_S512x512).view.set \ ((M9.slice (Rect.unit (s := S11x784x512) ![8, 0, 0] S1x256x512.size inb_S11x784x512_S1x256x512_8_0_0) (fun _ => rfl)).squeeze S256x512 squeezes_S1x256x512_S256x512).view.set]{fullShare} f)) ⊢ (iprop(∃ f', (((M9.slice (Rect.unit (s := S11x784x512) ![8, 0, 0] S1x512x512.size inb_S11x784x512_S1x512x512_8_0_0) (fun _ => rfl)).squeeze S512x512 squeezes_S1x512x512_S512x512).view.loc (c : Thread nD τ) ↦[((M9.slice (Rect.unit (s := S11x784x512) ![8, 0, 0] S1x512x512.size inb_S11x784x512_S1x512x512_8_0_0) (fun _ => rfl)).squeeze S512x512 squeezes_S1x512x512_S512x512).view.set]{fullShare} f')) : sProp 𝕄) := putBack (half8 M9) f g
theorem slot9 (M9 : Memref sig .tc .vmem S11x784x512 .f32) : ((M9.slice (Rect.unit (s := S11x784x512) ![9, 0, 0] S1x512x512.size inb_S11x784x512_S1x512x512_9_0_0) (fun _ => rfl)).squeeze S512x512 squeezes_S1x512x512_S512x512).view.set = slotSet M9 9 := Memref.set_view_squeeze _ _
theorem half9 (M9 : Memref sig .tc .vmem S11x784x512 .f32) : ((M9.slice (Rect.unit (s := S11x784x512) ![9, 0, 0] S1x256x512.size inb_S11x784x512_S1x256x512_9_0_0) (fun _ => rfl)).squeeze S256x512 squeezes_S1x256x512_S256x512).view.set ⊆ ((M9.slice (Rect.unit (s := S11x784x512) ![9, 0, 0] S1x512x512.size inb_S11x784x512_S1x512x512_9_0_0) (fun _ => rfl)).squeeze S512x512 squeezes_S1x512x512_S512x512).view.set := by
  rw [Memref.set_view_squeeze, Memref.set_view_squeeze]
  show (M9.view.slice (Rect.unit (s := S11x784x512) ![9, 0, 0] S1x256x512.size inb_S11x784x512_S1x256x512_9_0_0)).set ⊆ (M9.view.slice (Rect.unit (s := S11x784x512) ![9, 0, 0] S1x512x512.size inb_S11x784x512_S1x512x512_9_0_0)).set
  rw [View.set_slice, View.set_slice]; exact Finset.map_subset_map.mpr (LoadRect.set_subset_of_within (by decide))
/-- The part of slot 9 that a half-height window fills. -/
theorem halve9 (c : Dev nD) (M9 : Memref sig .tc .vmem S11x784x512 .f32) (f : Bf (F := F) c M9) : ((((M9.slice (Rect.unit (s := S11x784x512) ![9, 0, 0] S1x512x512.size inb_S11x784x512_S1x512x512_9_0_0) (fun _ => rfl)).squeeze S512x512 squeezes_S1x512x512_S512x512).view.loc (c : Thread nD τ) ↦[((M9.slice (Rect.unit (s := S11x784x512) ![9, 0, 0] S1x512x512.size inb_S11x784x512_S1x512x512_9_0_0) (fun _ => rfl)).squeeze S512x512 squeezes_S1x512x512_S512x512).view.set]{fullShare} f) : sProp 𝕄) ⊢ iprop((((M9.slice (Rect.unit (s := S11x784x512) ![9, 0, 0] S1x256x512.size inb_S11x784x512_S1x256x512_9_0_0) (fun _ => rfl)).squeeze S256x512 squeezes_S1x256x512_S256x512).view.loc (c : Thread nD τ) ↦[((M9.slice (Rect.unit (s := S11x784x512) ![9, 0, 0] S1x256x512.size inb_S11x784x512_S1x256x512_9_0_0) (fun _ => rfl)).squeeze S256x512 squeezes_S1x256x512_S256x512).view.set]{fullShare} f) ∗ Parked (M9.view.loc (c : Thread nD τ) ↦[((M9.slice (Rect.unit (s := S11x784x512) ![9, 0, 0] S1x512x512.size inb_S11x784x512_S1x512x512_9_0_0) (fun _ => rfl)).squeeze S512x512 squeezes_S1x512x512_S512x512).view.set \ ((M9.slice (Rect.unit (s := S11x784x512) ![9, 0, 0] S1x256x512.size inb_S11x784x512_S1x256x512_9_0_0) (fun _ => rfl)).squeeze S256x512 squeezes_S1x256x512_S256x512).view.set]{fullShare} f)) := cutOut (half9 M9) f
theorem whole9 (c : Dev nD) (M9 : Memref sig .tc .vmem S11x784x512 .f32) (f g : Bf (F := F) c M9) : iprop((((M9.slice (Rect.unit (s := S11x784x512) ![9, 0, 0] S1x256x512.size inb_S11x784x512_S1x256x512_9_0_0) (fun _ => rfl)).squeeze S256x512 squeezes_S1x256x512_S256x512).view.loc (c : Thread nD τ) ↦[((M9.slice (Rect.unit (s := S11x784x512) ![9, 0, 0] S1x256x512.size inb_S11x784x512_S1x256x512_9_0_0) (fun _ => rfl)).squeeze S256x512 squeezes_S1x256x512_S256x512).view.set]{fullShare} g) ∗ Parked (M9.view.loc (c : Thread nD τ) ↦[((M9.slice (Rect.unit (s := S11x784x512) ![9, 0, 0] S1x512x512.size inb_S11x784x512_S1x512x512_9_0_0) (fun _ => rfl)).squeeze S512x512 squeezes_S1x512x512_S512x512).view.set \ ((M9.slice (Rect.unit (s := S11x784x512) ![9, 0, 0] S1x256x512.size inb_S11x784x512_S1x256x512_9_0_0) (fun _ => rfl)).squeeze S256x512 squeezes_S1x256x512_S256x512).view.set]{fullShare} f)) ⊢ (iprop(∃ f', (((M9.slice (Rect.unit (s := S11x784x512) ![9, 0, 0] S1x512x512.size inb_S11x784x512_S1x512x512_9_0_0) (fun _ => rfl)).squeeze S512x512 squeezes_S1x512x512_S512x512).view.loc (c : Thread nD τ) ↦[((M9.slice (Rect.unit (s := S11x784x512) ![9, 0, 0] S1x512x512.size inb_S11x784x512_S1x512x512_9_0_0) (fun _ => rfl)).squeeze S512x512 squeezes_S1x512x512_S512x512).view.set]{fullShare} f')) : sProp 𝕄) := putBack (half9 M9) f g
theorem slot10 (M9 : Memref sig .tc .vmem S11x784x512 .f32) : ((M9.slice (Rect.unit (s := S11x784x512) ![10, 0, 0] S1x512x512.size inb_S11x784x512_S1x512x512_10_0_0) (fun _ => rfl)).squeeze S512x512 squeezes_S1x512x512_S512x512).view.set = slotSet M9 10 := Memref.set_view_squeeze _ _
theorem half10 (M9 : Memref sig .tc .vmem S11x784x512 .f32) : ((M9.slice (Rect.unit (s := S11x784x512) ![10, 0, 0] S1x256x512.size inb_S11x784x512_S1x256x512_10_0_0) (fun _ => rfl)).squeeze S256x512 squeezes_S1x256x512_S256x512).view.set ⊆ ((M9.slice (Rect.unit (s := S11x784x512) ![10, 0, 0] S1x512x512.size inb_S11x784x512_S1x512x512_10_0_0) (fun _ => rfl)).squeeze S512x512 squeezes_S1x512x512_S512x512).view.set := by
  rw [Memref.set_view_squeeze, Memref.set_view_squeeze]
  show (M9.view.slice (Rect.unit (s := S11x784x512) ![10, 0, 0] S1x256x512.size inb_S11x784x512_S1x256x512_10_0_0)).set ⊆ (M9.view.slice (Rect.unit (s := S11x784x512) ![10, 0, 0] S1x512x512.size inb_S11x784x512_S1x512x512_10_0_0)).set
  rw [View.set_slice, View.set_slice]; exact Finset.map_subset_map.mpr (LoadRect.set_subset_of_within (by decide))
/-- The part of slot 10 that a half-height window fills. -/
theorem halve10 (c : Dev nD) (M9 : Memref sig .tc .vmem S11x784x512 .f32) (f : Bf (F := F) c M9) : ((((M9.slice (Rect.unit (s := S11x784x512) ![10, 0, 0] S1x512x512.size inb_S11x784x512_S1x512x512_10_0_0) (fun _ => rfl)).squeeze S512x512 squeezes_S1x512x512_S512x512).view.loc (c : Thread nD τ) ↦[((M9.slice (Rect.unit (s := S11x784x512) ![10, 0, 0] S1x512x512.size inb_S11x784x512_S1x512x512_10_0_0) (fun _ => rfl)).squeeze S512x512 squeezes_S1x512x512_S512x512).view.set]{fullShare} f) : sProp 𝕄) ⊢ iprop((((M9.slice (Rect.unit (s := S11x784x512) ![10, 0, 0] S1x256x512.size inb_S11x784x512_S1x256x512_10_0_0) (fun _ => rfl)).squeeze S256x512 squeezes_S1x256x512_S256x512).view.loc (c : Thread nD τ) ↦[((M9.slice (Rect.unit (s := S11x784x512) ![10, 0, 0] S1x256x512.size inb_S11x784x512_S1x256x512_10_0_0) (fun _ => rfl)).squeeze S256x512 squeezes_S1x256x512_S256x512).view.set]{fullShare} f) ∗ Parked (M9.view.loc (c : Thread nD τ) ↦[((M9.slice (Rect.unit (s := S11x784x512) ![10, 0, 0] S1x512x512.size inb_S11x784x512_S1x512x512_10_0_0) (fun _ => rfl)).squeeze S512x512 squeezes_S1x512x512_S512x512).view.set \ ((M9.slice (Rect.unit (s := S11x784x512) ![10, 0, 0] S1x256x512.size inb_S11x784x512_S1x256x512_10_0_0) (fun _ => rfl)).squeeze S256x512 squeezes_S1x256x512_S256x512).view.set]{fullShare} f)) := cutOut (half10 M9) f
theorem whole10 (c : Dev nD) (M9 : Memref sig .tc .vmem S11x784x512 .f32) (f g : Bf (F := F) c M9) : iprop((((M9.slice (Rect.unit (s := S11x784x512) ![10, 0, 0] S1x256x512.size inb_S11x784x512_S1x256x512_10_0_0) (fun _ => rfl)).squeeze S256x512 squeezes_S1x256x512_S256x512).view.loc (c : Thread nD τ) ↦[((M9.slice (Rect.unit (s := S11x784x512) ![10, 0, 0] S1x256x512.size inb_S11x784x512_S1x256x512_10_0_0) (fun _ => rfl)).squeeze S256x512 squeezes_S1x256x512_S256x512).view.set]{fullShare} g) ∗ Parked (M9.view.loc (c : Thread nD τ) ↦[((M9.slice (Rect.unit (s := S11x784x512) ![10, 0, 0] S1x512x512.size inb_S11x784x512_S1x512x512_10_0_0) (fun _ => rfl)).squeeze S512x512 squeezes_S1x512x512_S512x512).view.set \ ((M9.slice (Rect.unit (s := S11x784x512) ![10, 0, 0] S1x256x512.size inb_S11x784x512_S1x256x512_10_0_0) (fun _ => rfl)).squeeze S256x512 squeezes_S1x256x512_S256x512).view.set]{fullShare} f)) ⊢ (iprop(∃ f', (((M9.slice (Rect.unit (s := S11x784x512) ![10, 0, 0] S1x512x512.size inb_S11x784x512_S1x512x512_10_0_0) (fun _ => rfl)).squeeze S512x512 squeezes_S1x512x512_S512x512).view.loc (c : Thread nD τ) ↦[((M9.slice (Rect.unit (s := S11x784x512) ![10, 0, 0] S1x512x512.size inb_S11x784x512_S1x512x512_10_0_0) (fun _ => rfl)).squeeze S512x512 squeezes_S1x512x512_S512x512).view.set]{fullShare} f')) : sProp 𝕄) := putBack (half10 M9) f g
theorem unslot0 (c : Dev nD) (M9 : Memref sig .tc .vmem S11x784x512 .f32) : iprop(∃ f, (((M9.slice (Rect.unit (s := S11x784x512) ![0, 0, 0] S1x512x512.size inb_S11x784x512_S1x512x512_0_0_0) (fun _ => rfl)).squeeze S512x512 squeezes_S1x512x512_S512x512).view.loc (c : Thread nD τ) ↦[((M9.slice (Rect.unit (s := S11x784x512) ![0, 0, 0] S1x512x512.size inb_S11x784x512_S1x512x512_0_0_0) (fun _ => rfl)).squeeze S512x512 squeezes_S1x512x512_S512x512).view.set]{fullShare} f)) ⊢ (iprop(∃ f, M9.view.loc (c : Thread nD τ) ↦[slotSet M9 0]{fullShare} f) : sProp 𝕄) := by
  rw [← slot0]
theorem reslot0 (c : Dev nD) (M9 : Memref sig .tc .vmem S11x784x512 .f32) (f : Bf (F := F) c M9) : (M9.view.loc (c : Thread nD τ) ↦[slotSet M9 0]{fullShare} f) ⊢ ((((M9.slice (Rect.unit (s := S11x784x512) ![0, 0, 0] S1x512x512.size inb_S11x784x512_S1x512x512_0_0_0) (fun _ => rfl)).squeeze S512x512 squeezes_S1x512x512_S512x512).view.loc (c : Thread nD τ) ↦[((M9.slice (Rect.unit (s := S11x784x512) ![0, 0, 0] S1x512x512.size inb_S11x784x512_S1x512x512_0_0_0) (fun _ => rfl)).squeeze S512x512 squeezes_S1x512x512_S512x512).view.set]{fullShare} f) : sProp 𝕄) := by
  rw [← slot0]
theorem unslot1 (c : Dev nD) (M9 : Memref sig .tc .vmem S11x784x512 .f32) : iprop(∃ f, (((M9.slice (Rect.unit (s := S11x784x512) ![1, 0, 0] S1x512x512.size inb_S11x784x512_S1x512x512_1_0_0) (fun _ => rfl)).squeeze S512x512 squeezes_S1x512x512_S512x512).view.loc (c : Thread nD τ) ↦[((M9.slice (Rect.unit (s := S11x784x512) ![1, 0, 0] S1x512x512.size inb_S11x784x512_S1x512x512_1_0_0) (fun _ => rfl)).squeeze S512x512 squeezes_S1x512x512_S512x512).view.set]{fullShare} f)) ⊢ (iprop(∃ f, M9.view.loc (c : Thread nD τ) ↦[slotSet M9 1]{fullShare} f) : sProp 𝕄) := by
  rw [← slot1]
theorem reslot1 (c : Dev nD) (M9 : Memref sig .tc .vmem S11x784x512 .f32) (f : Bf (F := F) c M9) : (M9.view.loc (c : Thread nD τ) ↦[slotSet M9 1]{fullShare} f) ⊢ ((((M9.slice (Rect.unit (s := S11x784x512) ![1, 0, 0] S1x512x512.size inb_S11x784x512_S1x512x512_1_0_0) (fun _ => rfl)).squeeze S512x512 squeezes_S1x512x512_S512x512).view.loc (c : Thread nD τ) ↦[((M9.slice (Rect.unit (s := S11x784x512) ![1, 0, 0] S1x512x512.size inb_S11x784x512_S1x512x512_1_0_0) (fun _ => rfl)).squeeze S512x512 squeezes_S1x512x512_S512x512).view.set]{fullShare} f) : sProp 𝕄) := by
  rw [← slot1]
theorem unslot2 (c : Dev nD) (M9 : Memref sig .tc .vmem S11x784x512 .f32) : iprop(∃ f, (((M9.slice (Rect.unit (s := S11x784x512) ![2, 0, 0] S1x512x512.size inb_S11x784x512_S1x512x512_2_0_0) (fun _ => rfl)).squeeze S512x512 squeezes_S1x512x512_S512x512).view.loc (c : Thread nD τ) ↦[((M9.slice (Rect.unit (s := S11x784x512) ![2, 0, 0] S1x512x512.size inb_S11x784x512_S1x512x512_2_0_0) (fun _ => rfl)).squeeze S512x512 squeezes_S1x512x512_S512x512).view.set]{fullShare} f)) ⊢ (iprop(∃ f, M9.view.loc (c : Thread nD τ) ↦[slotSet M9 2]{fullShare} f) : sProp 𝕄) := by
  rw [← slot2]
theorem reslot2 (c : Dev nD) (M9 : Memref sig .tc .vmem S11x784x512 .f32) (f : Bf (F := F) c M9) : (M9.view.loc (c : Thread nD τ) ↦[slotSet M9 2]{fullShare} f) ⊢ ((((M9.slice (Rect.unit (s := S11x784x512) ![2, 0, 0] S1x512x512.size inb_S11x784x512_S1x512x512_2_0_0) (fun _ => rfl)).squeeze S512x512 squeezes_S1x512x512_S512x512).view.loc (c : Thread nD τ) ↦[((M9.slice (Rect.unit (s := S11x784x512) ![2, 0, 0] S1x512x512.size inb_S11x784x512_S1x512x512_2_0_0) (fun _ => rfl)).squeeze S512x512 squeezes_S1x512x512_S512x512).view.set]{fullShare} f) : sProp 𝕄) := by
  rw [← slot2]
theorem unslot3 (c : Dev nD) (M9 : Memref sig .tc .vmem S11x784x512 .f32) : iprop(∃ f, (((M9.slice (Rect.unit (s := S11x784x512) ![3, 0, 0] S1x512x512.size inb_S11x784x512_S1x512x512_3_0_0) (fun _ => rfl)).squeeze S512x512 squeezes_S1x512x512_S512x512).view.loc (c : Thread nD τ) ↦[((M9.slice (Rect.unit (s := S11x784x512) ![3, 0, 0] S1x512x512.size inb_S11x784x512_S1x512x512_3_0_0) (fun _ => rfl)).squeeze S512x512 squeezes_S1x512x512_S512x512).view.set]{fullShare} f)) ⊢ (iprop(∃ f, M9.view.loc (c : Thread nD τ) ↦[slotSet M9 3]{fullShare} f) : sProp 𝕄) := by
  rw [← slot3]
theorem reslot3 (c : Dev nD) (M9 : Memref sig .tc .vmem S11x784x512 .f32) (f : Bf (F := F) c M9) : (M9.view.loc (c : Thread nD τ) ↦[slotSet M9 3]{fullShare} f) ⊢ ((((M9.slice (Rect.unit (s := S11x784x512) ![3, 0, 0] S1x512x512.size inb_S11x784x512_S1x512x512_3_0_0) (fun _ => rfl)).squeeze S512x512 squeezes_S1x512x512_S512x512).view.loc (c : Thread nD τ) ↦[((M9.slice (Rect.unit (s := S11x784x512) ![3, 0, 0] S1x512x512.size inb_S11x784x512_S1x512x512_3_0_0) (fun _ => rfl)).squeeze S512x512 squeezes_S1x512x512_S512x512).view.set]{fullShare} f) : sProp 𝕄) := by
  rw [← slot3]
theorem unslot4 (c : Dev nD) (M9 : Memref sig .tc .vmem S11x784x512 .f32) : iprop(∃ f, (((M9.slice (Rect.unit (s := S11x784x512) ![4, 0, 0] S1x512x512.size inb_S11x784x512_S1x512x512_4_0_0) (fun _ => rfl)).squeeze S512x512 squeezes_S1x512x512_S512x512).view.loc (c : Thread nD τ) ↦[((M9.slice (Rect.unit (s := S11x784x512) ![4, 0, 0] S1x512x512.size inb_S11x784x512_S1x512x512_4_0_0) (fun _ => rfl)).squeeze S512x512 squeezes_S1x512x512_S512x512).view.set]{fullShare} f)) ⊢ (iprop(∃ f, M9.view.loc (c : Thread nD τ) ↦[slotSet M9 4]{fullShare} f) : sProp 𝕄) := by
  rw [← slot4]
theorem reslot4 (c : Dev nD) (M9 : Memref sig .tc .vmem S11x784x512 .f32) (f : Bf (F := F) c M9) : (M9.view.loc (c : Thread nD τ) ↦[slotSet M9 4]{fullShare} f) ⊢ ((((M9.slice (Rect.unit (s := S11x784x512) ![4, 0, 0] S1x512x512.size inb_S11x784x512_S1x512x512_4_0_0) (fun _ => rfl)).squeeze S512x512 squeezes_S1x512x512_S512x512).view.loc (c : Thread nD τ) ↦[((M9.slice (Rect.unit (s := S11x784x512) ![4, 0, 0] S1x512x512.size inb_S11x784x512_S1x512x512_4_0_0) (fun _ => rfl)).squeeze S512x512 squeezes_S1x512x512_S512x512).view.set]{fullShare} f) : sProp 𝕄) := by
  rw [← slot4]
theorem unslot5 (c : Dev nD) (M9 : Memref sig .tc .vmem S11x784x512 .f32) : iprop(∃ f, (((M9.slice (Rect.unit (s := S11x784x512) ![5, 0, 0] S1x512x512.size inb_S11x784x512_S1x512x512_5_0_0) (fun _ => rfl)).squeeze S512x512 squeezes_S1x512x512_S512x512).view.loc (c : Thread nD τ) ↦[((M9.slice (Rect.unit (s := S11x784x512) ![5, 0, 0] S1x512x512.size inb_S11x784x512_S1x512x512_5_0_0) (fun _ => rfl)).squeeze S512x512 squeezes_S1x512x512_S512x512).view.set]{fullShare} f)) ⊢ (iprop(∃ f, M9.view.loc (c : Thread nD τ) ↦[slotSet M9 5]{fullShare} f) : sProp 𝕄) := by
  rw [← slot5]
theorem reslot5 (c : Dev nD) (M9 : Memref sig .tc .vmem S11x784x512 .f32) (f : Bf (F := F) c M9) : (M9.view.loc (c : Thread nD τ) ↦[slotSet M9 5]{fullShare} f) ⊢ ((((M9.slice (Rect.unit (s := S11x784x512) ![5, 0, 0] S1x512x512.size inb_S11x784x512_S1x512x512_5_0_0) (fun _ => rfl)).squeeze S512x512 squeezes_S1x512x512_S512x512).view.loc (c : Thread nD τ) ↦[((M9.slice (Rect.unit (s := S11x784x512) ![5, 0, 0] S1x512x512.size inb_S11x784x512_S1x512x512_5_0_0) (fun _ => rfl)).squeeze S512x512 squeezes_S1x512x512_S512x512).view.set]{fullShare} f) : sProp 𝕄) := by
  rw [← slot5]
theorem unslot6 (c : Dev nD) (M9 : Memref sig .tc .vmem S11x784x512 .f32) : iprop(∃ f, (((M9.slice (Rect.unit (s := S11x784x512) ![6, 0, 0] S1x512x512.size inb_S11x784x512_S1x512x512_6_0_0) (fun _ => rfl)).squeeze S512x512 squeezes_S1x512x512_S512x512).view.loc (c : Thread nD τ) ↦[((M9.slice (Rect.unit (s := S11x784x512) ![6, 0, 0] S1x512x512.size inb_S11x784x512_S1x512x512_6_0_0) (fun _ => rfl)).squeeze S512x512 squeezes_S1x512x512_S512x512).view.set]{fullShare} f)) ⊢ (iprop(∃ f, M9.view.loc (c : Thread nD τ) ↦[slotSet M9 6]{fullShare} f) : sProp 𝕄) := by
  rw [← slot6]
theorem reslot6 (c : Dev nD) (M9 : Memref sig .tc .vmem S11x784x512 .f32) (f : Bf (F := F) c M9) : (M9.view.loc (c : Thread nD τ) ↦[slotSet M9 6]{fullShare} f) ⊢ ((((M9.slice (Rect.unit (s := S11x784x512) ![6, 0, 0] S1x512x512.size inb_S11x784x512_S1x512x512_6_0_0) (fun _ => rfl)).squeeze S512x512 squeezes_S1x512x512_S512x512).view.loc (c : Thread nD τ) ↦[((M9.slice (Rect.unit (s := S11x784x512) ![6, 0, 0] S1x512x512.size inb_S11x784x512_S1x512x512_6_0_0) (fun _ => rfl)).squeeze S512x512 squeezes_S1x512x512_S512x512).view.set]{fullShare} f) : sProp 𝕄) := by
  rw [← slot6]
theorem unslot7 (c : Dev nD) (M9 : Memref sig .tc .vmem S11x784x512 .f32) : iprop(∃ f, (((M9.slice (Rect.unit (s := S11x784x512) ![7, 0, 0] S1x512x512.size inb_S11x784x512_S1x512x512_7_0_0) (fun _ => rfl)).squeeze S512x512 squeezes_S1x512x512_S512x512).view.loc (c : Thread nD τ) ↦[((M9.slice (Rect.unit (s := S11x784x512) ![7, 0, 0] S1x512x512.size inb_S11x784x512_S1x512x512_7_0_0) (fun _ => rfl)).squeeze S512x512 squeezes_S1x512x512_S512x512).view.set]{fullShare} f)) ⊢ (iprop(∃ f, M9.view.loc (c : Thread nD τ) ↦[slotSet M9 7]{fullShare} f) : sProp 𝕄) := by
  rw [← slot7]
theorem reslot7 (c : Dev nD) (M9 : Memref sig .tc .vmem S11x784x512 .f32) (f : Bf (F := F) c M9) : (M9.view.loc (c : Thread nD τ) ↦[slotSet M9 7]{fullShare} f) ⊢ ((((M9.slice (Rect.unit (s := S11x784x512) ![7, 0, 0] S1x512x512.size inb_S11x784x512_S1x512x512_7_0_0) (fun _ => rfl)).squeeze S512x512 squeezes_S1x512x512_S512x512).view.loc (c : Thread nD τ) ↦[((M9.slice (Rect.unit (s := S11x784x512) ![7, 0, 0] S1x512x512.size inb_S11x784x512_S1x512x512_7_0_0) (fun _ => rfl)).squeeze S512x512 squeezes_S1x512x512_S512x512).view.set]{fullShare} f) : sProp 𝕄) := by
  rw [← slot7]
theorem unslot8 (c : Dev nD) (M9 : Memref sig .tc .vmem S11x784x512 .f32) : iprop(∃ f, (((M9.slice (Rect.unit (s := S11x784x512) ![8, 0, 0] S1x512x512.size inb_S11x784x512_S1x512x512_8_0_0) (fun _ => rfl)).squeeze S512x512 squeezes_S1x512x512_S512x512).view.loc (c : Thread nD τ) ↦[((M9.slice (Rect.unit (s := S11x784x512) ![8, 0, 0] S1x512x512.size inb_S11x784x512_S1x512x512_8_0_0) (fun _ => rfl)).squeeze S512x512 squeezes_S1x512x512_S512x512).view.set]{fullShare} f)) ⊢ (iprop(∃ f, M9.view.loc (c : Thread nD τ) ↦[slotSet M9 8]{fullShare} f) : sProp 𝕄) := by
  rw [← slot8]
theorem reslot8 (c : Dev nD) (M9 : Memref sig .tc .vmem S11x784x512 .f32) (f : Bf (F := F) c M9) : (M9.view.loc (c : Thread nD τ) ↦[slotSet M9 8]{fullShare} f) ⊢ ((((M9.slice (Rect.unit (s := S11x784x512) ![8, 0, 0] S1x512x512.size inb_S11x784x512_S1x512x512_8_0_0) (fun _ => rfl)).squeeze S512x512 squeezes_S1x512x512_S512x512).view.loc (c : Thread nD τ) ↦[((M9.slice (Rect.unit (s := S11x784x512) ![8, 0, 0] S1x512x512.size inb_S11x784x512_S1x512x512_8_0_0) (fun _ => rfl)).squeeze S512x512 squeezes_S1x512x512_S512x512).view.set]{fullShare} f) : sProp 𝕄) := by
  rw [← slot8]
theorem unslot9 (c : Dev nD) (M9 : Memref sig .tc .vmem S11x784x512 .f32) : iprop(∃ f, (((M9.slice (Rect.unit (s := S11x784x512) ![9, 0, 0] S1x512x512.size inb_S11x784x512_S1x512x512_9_0_0) (fun _ => rfl)).squeeze S512x512 squeezes_S1x512x512_S512x512).view.loc (c : Thread nD τ) ↦[((M9.slice (Rect.unit (s := S11x784x512) ![9, 0, 0] S1x512x512.size inb_S11x784x512_S1x512x512_9_0_0) (fun _ => rfl)).squeeze S512x512 squeezes_S1x512x512_S512x512).view.set]{fullShare} f)) ⊢ (iprop(∃ f, M9.view.loc (c : Thread nD τ) ↦[slotSet M9 9]{fullShare} f) : sProp 𝕄) := by
  rw [← slot9]
theorem reslot9 (c : Dev nD) (M9 : Memref sig .tc .vmem S11x784x512 .f32) (f : Bf (F := F) c M9) : (M9.view.loc (c : Thread nD τ) ↦[slotSet M9 9]{fullShare} f) ⊢ ((((M9.slice (Rect.unit (s := S11x784x512) ![9, 0, 0] S1x512x512.size inb_S11x784x512_S1x512x512_9_0_0) (fun _ => rfl)).squeeze S512x512 squeezes_S1x512x512_S512x512).view.loc (c : Thread nD τ) ↦[((M9.slice (Rect.unit (s := S11x784x512) ![9, 0, 0] S1x512x512.size inb_S11x784x512_S1x512x512_9_0_0) (fun _ => rfl)).squeeze S512x512 squeezes_S1x512x512_S512x512).view.set]{fullShare} f) : sProp 𝕄) := by
  rw [← slot9]
theorem unslot10 (c : Dev nD) (M9 : Memref sig .tc .vmem S11x784x512 .f32) : iprop(∃ f, (((M9.slice (Rect.unit (s := S11x784x512) ![10, 0, 0] S1x512x512.size inb_S11x784x512_S1x512x512_10_0_0) (fun _ => rfl)).squeeze S512x512 squeezes_S1x512x512_S512x512).view.loc (c : Thread nD τ) ↦[((M9.slice (Rect.unit (s := S11x784x512) ![10, 0, 0] S1x512x512.size inb_S11x784x512_S1x512x512_10_0_0) (fun _ => rfl)).squeeze S512x512 squeezes_S1x512x512_S512x512).view.set]{fullShare} f)) ⊢ (iprop(∃ f, M9.view.loc (c : Thread nD τ) ↦[slotSet M9 10]{fullShare} f) : sProp 𝕄) := by
  rw [← slot10]
theorem reslot10 (c : Dev nD) (M9 : Memref sig .tc .vmem S11x784x512 .f32) (f : Bf (F := F) c M9) : (M9.view.loc (c : Thread nD τ) ↦[slotSet M9 10]{fullShare} f) ⊢ ((((M9.slice (Rect.unit (s := S11x784x512) ![10, 0, 0] S1x512x512.size inb_S11x784x512_S1x512x512_10_0_0) (fun _ => rfl)).squeeze S512x512 squeezes_S1x512x512_S512x512).view.loc (c : Thread nD τ) ↦[((M9.slice (Rect.unit (s := S11x784x512) ![10, 0, 0] S1x512x512.size inb_S11x784x512_S1x512x512_10_0_0) (fun _ => rfl)).squeeze S512x512 squeezes_S1x512x512_S512x512).view.set]{fullShare} f) : sProp 𝕄) := by
  rw [← slot10]

/-- The staging buffer cut into its eleven slots and the rest. -/
theorem slots (c : Dev nD) (M9 : Memref sig .tc .vmem S11x784x512 .f32) (f9 : Bf (F := F) c M9) :
    (pt c M9 f9 : sProp 𝕄) ⊢ iprop(((((M9.slice (Rect.unit (s := S11x784x512) ![0, 0, 0] S1x512x512.size inb_S11x784x512_S1x512x512_0_0_0) (fun _ => rfl)).squeeze S512x512 squeezes_S1x512x512_S512x512).view.loc (c : Thread nD τ) ↦[((M9.slice (Rect.unit (s := S11x784x512) ![0, 0, 0] S1x512x512.size inb_S11x784x512_S1x512x512_0_0_0) (fun _ => rfl)).squeeze S512x512 squeezes_S1x512x512_S512x512).view.set]{fullShare} f9)
        ∗ (((M9.slice (Rect.unit (s := S11x784x512) ![1, 0, 0] S1x512x512.size inb_S11x784x512_S1x512x512_1_0_0) (fun _ => rfl)).squeeze S512x512 squeezes_S1x512x512_S512x512).view.loc (c : Thread nD τ) ↦[((M9.slice (Rect.unit (s := S11x784x512) ![1, 0, 0] S1x512x512.size inb_S11x784x512_S1x512x512_1_0_0) (fun _ => rfl)).squeeze S512x512 squeezes_S1x512x512_S512x512).view.set]{fullShare} f9)
        ∗ (((M9.slice (Rect.unit (s := S11x784x512) ![2, 0, 0] S1x512x512.size inb_S11x784x512_S1x512x512_2_0_0) (fun _ => rfl)).squeeze S512x512 squeezes_S1x512x512_S512x512).view.loc (c : Thread nD τ) ↦[((M9.slice (Rect.unit (s := S11x784x512) ![2, 0, 0] S1x512x512.size inb_S11x784x512_S1x512x512_2_0_0) (fun _ => rfl)).squeeze S512x512 squeezes_S1x512x512_S512x512).view.set]{fullShare} f9)
        ∗ (((M9.slice (Rect.unit (s := S11x784x512) ![3, 0, 0] S1x512x512.size inb_S11x784x512_S1x512x512_3_0_0) (fun _ => rfl)).squeeze S512x512 squeezes_S1x512x512_S512x512).view.loc (c : Thread nD τ) ↦[((M9.slice (Rect.unit (s := S11x784x512) ![3, 0, 0] S1x512x512.size inb_S11x784x512_S1x512x512_3_0_0) (fun _ => rfl)).squeeze S512x512 squeezes_S1x512x512_S512x512).view.set]{fullShare} f9)
        ∗ (((M9.slice (Rect.unit (s := S11x784x512) ![4, 0, 0] S1x512x512.size inb_S11x784x512_S1x512x512_4_0_0) (fun _ => rfl)).squeeze S512x512 squeezes_S1x512x512_S512x512).view.loc (c : Thread nD τ) ↦[((M9.slice (Rect.unit (s := S11x784x512) ![4, 0, 0] S1x512x512.size inb_S11x784x512_S1x512x512_4_0_0) (fun _ => rfl)).squeeze S512x512 squeezes_S1x512x512_S512x512).view.set]{fullShare} f9)
        ∗ (((M9.slice (Rect.unit (s := S11x784x512) ![5, 0, 0] S1x512x512.size inb_S11x784x512_S1x512x512_5_0_0) (fun _ => rfl)).squeeze S512x512 squeezes_S1x512x512_S512x512).view.loc (c : Thread nD τ) ↦[((M9.slice (Rect.unit (s := S11x784x512) ![5, 0, 0] S1x512x512.size inb_S11x784x512_S1x512x512_5_0_0) (fun _ => rfl)).squeeze S512x512 squeezes_S1x512x512_S512x512).view.set]{fullShare} f9)
        ∗ (((M9.slice (Rect.unit (s := S11x784x512) ![6, 0, 0] S1x512x512.size inb_S11x784x512_S1x512x512_6_0_0) (fun _ => rfl)).squeeze S512x512 squeezes_S1x512x512_S512x512).view.loc (c : Thread nD τ) ↦[((M9.slice (Rect.unit (s := S11x784x512) ![6, 0, 0] S1x512x512.size inb_S11x784x512_S1x512x512_6_0_0) (fun _ => rfl)).squeeze S512x512 squeezes_S1x512x512_S512x512).view.set]{fullShare} f9)
        ∗ (((M9.slice (Rect.unit (s := S11x784x512) ![7, 0, 0] S1x512x512.size inb_S11x784x512_S1x512x512_7_0_0) (fun _ => rfl)).squeeze S512x512 squeezes_S1x512x512_S512x512).view.loc (c : Thread nD τ) ↦[((M9.slice (Rect.unit (s := S11x784x512) ![7, 0, 0] S1x512x512.size inb_S11x784x512_S1x512x512_7_0_0) (fun _ => rfl)).squeeze S512x512 squeezes_S1x512x512_S512x512).view.set]{fullShare} f9)
        ∗ (((M9.slice (Rect.unit (s := S11x784x512) ![8, 0, 0] S1x512x512.size inb_S11x784x512_S1x512x512_8_0_0) (fun _ => rfl)).squeeze S512x512 squeezes_S1x512x512_S512x512).view.loc (c : Thread nD τ) ↦[((M9.slice (Rect.unit (s := S11x784x512) ![8, 0, 0] S1x512x512.size inb_S11x784x512_S1x512x512_8_0_0) (fun _ => rfl)).squeeze S512x512 squeezes_S1x512x512_S512x512).view.set]{fullShare} f9)
        ∗ (((M9.slice (Rect.unit (s := S11x784x512) ![9, 0, 0] S1x512x512.size inb_S11x784x512_S1x512x512_9_0_0) (fun _ => rfl)).squeeze S512x512 squeezes_S1x512x512_S512x512).view.loc (c : Thread nD τ) ↦[((M9.slice (Rect.unit (s := S11x784x512) ![9, 0, 0] S1x512x512.size inb_S11x784x512_S1x512x512_9_0_0) (fun _ => rfl)).squeeze S512x512 squeezes_S1x512x512_S512x512).view.set]{fullShare} f9)
        ∗ (((M9.slice (Rect.unit (s := S11x784x512) ![10, 0, 0] S1x512x512.size inb_S11x784x512_S1x512x512_10_0_0) (fun _ => rfl)).squeeze S512x512 squeezes_S1x512x512_S512x512).view.loc (c : Thread nD τ) ↦[((M9.slice (Rect.unit (s := S11x784x512) ![10, 0, 0] S1x512x512.size inb_S11x784x512_S1x512x512_10_0_0) (fun _ => rfl)).squeeze S512x512 squeezes_S1x512x512_S512x512).view.set]{fullShare} f9)) ∗ Parked (M9.view.loc (c : Thread nD τ) ↦[Finset.univ \ Finset.univ.biUnion (slotSet M9)]{fullShare} f9)) := by
  refine (pointsTo_split_subset (Finset.subset_univ (Finset.univ.biUnion (slotSet M9)))).1.trans (sep_mono_left ?_)
  rw [Ring.pointsTo_sub_blocks (slotSet M9) (slotSet_disjoint M9) _ rfl f9,
    bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide)]
  show iprop((M9.view.loc (c : Thread nD τ) ↦[slotSet M9 0]{fullShare} f9) ∗ (M9.view.loc (c : Thread nD τ) ↦[slotSet M9 1]{fullShare} f9) ∗ (M9.view.loc (c : Thread nD τ) ↦[slotSet M9 2]{fullShare} f9) ∗ (M9.view.loc (c : Thread nD τ) ↦[slotSet M9 3]{fullShare} f9) ∗ (M9.view.loc (c : Thread nD τ) ↦[slotSet M9 4]{fullShare} f9) ∗ (M9.view.loc (c : Thread nD τ) ↦[slotSet M9 5]{fullShare} f9) ∗ (M9.view.loc (c : Thread nD τ) ↦[slotSet M9 6]{fullShare} f9) ∗ (M9.view.loc (c : Thread nD τ) ↦[slotSet M9 7]{fullShare} f9) ∗ (M9.view.loc (c : Thread nD τ) ↦[slotSet M9 8]{fullShare} f9) ∗ (M9.view.loc (c : Thread nD τ) ↦[slotSet M9 9]{fullShare} f9) ∗ (M9.view.loc (c : Thread nD τ) ↦[slotSet M9 10]{fullShare} f9)) ⊢ _
  iintro ⟨S0, S1, S2, S3, S4, S5, S6, S7, S8, S9, S10⟩
  isplitl [S0]; · iapply (reslot0 c M9 f9); iexact S0
  isplitl [S1]; · iapply (reslot1 c M9 f9); iexact S1
  isplitl [S2]; · iapply (reslot2 c M9 f9); iexact S2
  isplitl [S3]; · iapply (reslot3 c M9 f9); iexact S3
  isplitl [S4]; · iapply (reslot4 c M9 f9); iexact S4
  isplitl [S5]; · iapply (reslot5 c M9 f9); iexact S5
  isplitl [S6]; · iapply (reslot6 c M9 f9); iexact S6
  isplitl [S7]; · iapply (reslot7 c M9 f9); iexact S7
  isplitl [S8]; · iapply (reslot8 c M9 f9); iexact S8
  isplitl [S9]; · iapply (reslot9 c M9 f9); iexact S9
  skip; · iapply (reslot10 c M9 f9); iexact S10

/-- The slots, each at whatever it now holds, and the rest: the staging buffer whole. -/
theorem unslots (c : Dev nD) (M9 : Memref sig .tc .vmem S11x784x512 .f32) (f9 : Bf (F := F) c M9) :
    iprop(((∃ f, (((M9.slice (Rect.unit (s := S11x784x512) ![0, 0, 0] S1x512x512.size inb_S11x784x512_S1x512x512_0_0_0) (fun _ => rfl)).squeeze S512x512 squeezes_S1x512x512_S512x512).view.loc (c : Thread nD τ) ↦[((M9.slice (Rect.unit (s := S11x784x512) ![0, 0, 0] S1x512x512.size inb_S11x784x512_S1x512x512_0_0_0) (fun _ => rfl)).squeeze S512x512 squeezes_S1x512x512_S512x512).view.set]{fullShare} f))
        ∗ (∃ f, (((M9.slice (Rect.unit (s := S11x784x512) ![1, 0, 0] S1x512x512.size inb_S11x784x512_S1x512x512_1_0_0) (fun _ => rfl)).squeeze S512x512 squeezes_S1x512x512_S512x512).view.loc (c : Thread nD τ) ↦[((M9.slice (Rect.unit (s := S11x784x512) ![1, 0, 0] S1x512x512.size inb_S11x784x512_S1x512x512_1_0_0) (fun _ => rfl)).squeeze S512x512 squeezes_S1x512x512_S512x512).view.set]{fullShare} f))
        ∗ (∃ f, (((M9.slice (Rect.unit (s := S11x784x512) ![2, 0, 0] S1x512x512.size inb_S11x784x512_S1x512x512_2_0_0) (fun _ => rfl)).squeeze S512x512 squeezes_S1x512x512_S512x512).view.loc (c : Thread nD τ) ↦[((M9.slice (Rect.unit (s := S11x784x512) ![2, 0, 0] S1x512x512.size inb_S11x784x512_S1x512x512_2_0_0) (fun _ => rfl)).squeeze S512x512 squeezes_S1x512x512_S512x512).view.set]{fullShare} f))
        ∗ (∃ f, (((M9.slice (Rect.unit (s := S11x784x512) ![3, 0, 0] S1x512x512.size inb_S11x784x512_S1x512x512_3_0_0) (fun _ => rfl)).squeeze S512x512 squeezes_S1x512x512_S512x512).view.loc (c : Thread nD τ) ↦[((M9.slice (Rect.unit (s := S11x784x512) ![3, 0, 0] S1x512x512.size inb_S11x784x512_S1x512x512_3_0_0) (fun _ => rfl)).squeeze S512x512 squeezes_S1x512x512_S512x512).view.set]{fullShare} f))
        ∗ (∃ f, (((M9.slice (Rect.unit (s := S11x784x512) ![4, 0, 0] S1x512x512.size inb_S11x784x512_S1x512x512_4_0_0) (fun _ => rfl)).squeeze S512x512 squeezes_S1x512x512_S512x512).view.loc (c : Thread nD τ) ↦[((M9.slice (Rect.unit (s := S11x784x512) ![4, 0, 0] S1x512x512.size inb_S11x784x512_S1x512x512_4_0_0) (fun _ => rfl)).squeeze S512x512 squeezes_S1x512x512_S512x512).view.set]{fullShare} f))
        ∗ (∃ f, (((M9.slice (Rect.unit (s := S11x784x512) ![5, 0, 0] S1x512x512.size inb_S11x784x512_S1x512x512_5_0_0) (fun _ => rfl)).squeeze S512x512 squeezes_S1x512x512_S512x512).view.loc (c : Thread nD τ) ↦[((M9.slice (Rect.unit (s := S11x784x512) ![5, 0, 0] S1x512x512.size inb_S11x784x512_S1x512x512_5_0_0) (fun _ => rfl)).squeeze S512x512 squeezes_S1x512x512_S512x512).view.set]{fullShare} f))
        ∗ (∃ f, (((M9.slice (Rect.unit (s := S11x784x512) ![6, 0, 0] S1x512x512.size inb_S11x784x512_S1x512x512_6_0_0) (fun _ => rfl)).squeeze S512x512 squeezes_S1x512x512_S512x512).view.loc (c : Thread nD τ) ↦[((M9.slice (Rect.unit (s := S11x784x512) ![6, 0, 0] S1x512x512.size inb_S11x784x512_S1x512x512_6_0_0) (fun _ => rfl)).squeeze S512x512 squeezes_S1x512x512_S512x512).view.set]{fullShare} f))
        ∗ (∃ f, (((M9.slice (Rect.unit (s := S11x784x512) ![7, 0, 0] S1x512x512.size inb_S11x784x512_S1x512x512_7_0_0) (fun _ => rfl)).squeeze S512x512 squeezes_S1x512x512_S512x512).view.loc (c : Thread nD τ) ↦[((M9.slice (Rect.unit (s := S11x784x512) ![7, 0, 0] S1x512x512.size inb_S11x784x512_S1x512x512_7_0_0) (fun _ => rfl)).squeeze S512x512 squeezes_S1x512x512_S512x512).view.set]{fullShare} f))
        ∗ (∃ f, (((M9.slice (Rect.unit (s := S11x784x512) ![8, 0, 0] S1x512x512.size inb_S11x784x512_S1x512x512_8_0_0) (fun _ => rfl)).squeeze S512x512 squeezes_S1x512x512_S512x512).view.loc (c : Thread nD τ) ↦[((M9.slice (Rect.unit (s := S11x784x512) ![8, 0, 0] S1x512x512.size inb_S11x784x512_S1x512x512_8_0_0) (fun _ => rfl)).squeeze S512x512 squeezes_S1x512x512_S512x512).view.set]{fullShare} f))
        ∗ (∃ f, (((M9.slice (Rect.unit (s := S11x784x512) ![9, 0, 0] S1x512x512.size inb_S11x784x512_S1x512x512_9_0_0) (fun _ => rfl)).squeeze S512x512 squeezes_S1x512x512_S512x512).view.loc (c : Thread nD τ) ↦[((M9.slice (Rect.unit (s := S11x784x512) ![9, 0, 0] S1x512x512.size inb_S11x784x512_S1x512x512_9_0_0) (fun _ => rfl)).squeeze S512x512 squeezes_S1x512x512_S512x512).view.set]{fullShare} f))
        ∗ (∃ f, (((M9.slice (Rect.unit (s := S11x784x512) ![10, 0, 0] S1x512x512.size inb_S11x784x512_S1x512x512_10_0_0) (fun _ => rfl)).squeeze S512x512 squeezes_S1x512x512_S512x512).view.loc (c : Thread nD τ) ↦[((M9.slice (Rect.unit (s := S11x784x512) ![10, 0, 0] S1x512x512.size inb_S11x784x512_S1x512x512_10_0_0) (fun _ => rfl)).squeeze S512x512 squeezes_S1x512x512_S512x512).view.set]{fullShare} f)))
        ∗ Parked (M9.view.loc (c : Thread nD τ) ↦[Finset.univ \ Finset.univ.biUnion (slotSet M9)]{fullShare} f9)) ⊢ (iprop(∃ f, pt c M9 f) : sProp 𝕄) := by
  have hB := Ring.pointsTo_sub_blocks_join_exists (Ix := Unit) (Val := Elt F) (Name := ℕ) (U := Pipeline.UD sig nD τ) (Lvl := ℕ) (ℓ := M9.view.loc (c : Thread nD τ)) (slotSet M9) (slotSet_disjoint M9) _ rfl (q := fullShare) f9
  rw [bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide)] at hB
  replace hB : iprop((∃ f, M9.view.loc (c : Thread nD τ) ↦[slotSet M9 0]{fullShare} f) ∗ (∃ f, M9.view.loc (c : Thread nD τ) ↦[slotSet M9 1]{fullShare} f) ∗ (∃ f, M9.view.loc (c : Thread nD τ) ↦[slotSet M9 2]{fullShare} f) ∗ (∃ f, M9.view.loc (c : Thread nD τ) ↦[slotSet M9 3]{fullShare} f) ∗ (∃ f, M9.view.loc (c : Thread nD τ) ↦[slotSet M9 4]{fullShare} f) ∗ (∃ f, M9.view.loc (c : Thread nD τ) ↦[slotSet M9 5]{fullShare} f) ∗ (∃ f, M9.view.loc (c : Thread nD τ) ↦[slotSet M9 6]{fullShare} f) ∗ (∃ f, M9.view.loc (c : Thread nD τ) ↦[slotSet M9 7]{fullShare} f) ∗ (∃ f, M9.view.loc (c : Thread nD τ) ↦[slotSet M9 8]{fullShare} f) ∗ (∃ f, M9.view.loc (c : Thread nD τ) ↦[slotSet M9 9]{fullShare} f) ∗ (∃ f, M9.view.loc (c : Thread nD τ) ↦[slotSet M9 10]{fullShare} f)) ⊢ (iprop(∃ f, M9.view.loc (c : Thread nD τ) ↦[Finset.univ.biUnion (slotSet M9)]{fullShare} f) : sProp 𝕄) := hB
  iintro ⟨⟨S0, S1, S2, S3, S4, S5, S6, S7, S8, S9, S10⟩, R⟩
  ihave H := hB $$ [S0 S1 S2 S3 S4 S5 S6 S7 S8 S9 S10]
  · isplitl [S0]; · iapply (unslot0 c M9); iexact S0
    isplitl [S1]; · iapply (unslot1 c M9); iexact S1
    isplitl [S2]; · iapply (unslot2 c M9); iexact S2
    isplitl [S3]; · iapply (unslot3 c M9); iexact S3
    isplitl [S4]; · iapply (unslot4 c M9); iexact S4
    isplitl [S5]; · iapply (unslot5 c M9); iexact S5
    isplitl [S6]; · iapply (unslot6 c M9); iexact S6
    isplitl [S7]; · iapply (unslot7 c M9); iexact S7
    isplitl [S8]; · iapply (unslot8 c M9); iexact S8
    isplitl [S9]; · iapply (unslot9 c M9); iexact S9
    skip; · iapply (unslot10 c M9); iexact S10
  icases H with ⟨%g, H⟩
  iapply (putBack (Finset.subset_univ (Finset.univ.biUnion (slotSet M9))) f9 g)
  isplitl [H]; · iexact H
  iexact R

/-- The windows of the up weight that the transfers read. -/
def upWin (M4 : Memref sig .tc .hbm S1024x5632 .f32) : Fin 22 → Finset M4.view.ty.Idx := ![(M4.slice (Rect.unit (s := S1024x5632) ![0, 0] S512x512.size inb_S1024x5632_S512x512_0_0) (fun _ => rfl)).view.set, (M4.slice (Rect.unit (s := S1024x5632) ![0, 512] S512x512.size inb_S1024x5632_S512x512_0_512) (fun _ => rfl)).view.set, (M4.slice (Rect.unit (s := S1024x5632) ![0, 1024] S512x512.size inb_S1024x5632_S512x512_0_1024) (fun _ => rfl)).view.set, (M4.slice (Rect.unit (s := S1024x5632) ![0, 1536] S512x512.size inb_S1024x5632_S512x512_0_1536) (fun _ => rfl)).view.set, (M4.slice (Rect.unit (s := S1024x5632) ![0, 2048] S512x512.size inb_S1024x5632_S512x512_0_2048) (fun _ => rfl)).view.set, (M4.slice (Rect.unit (s := S1024x5632) ![0, 2560] S512x512.size inb_S1024x5632_S512x512_0_2560) (fun _ => rfl)).view.set, (M4.slice (Rect.unit (s := S1024x5632) ![0, 3072] S512x512.size inb_S1024x5632_S512x512_0_3072) (fun _ => rfl)).view.set, (M4.slice (Rect.unit (s := S1024x5632) ![0, 3584] S512x512.size inb_S1024x5632_S512x512_0_3584) (fun _ => rfl)).view.set, (M4.slice (Rect.unit (s := S1024x5632) ![0, 4096] S512x512.size inb_S1024x5632_S512x512_0_4096) (fun _ => rfl)).view.set, (M4.slice (Rect.unit (s := S1024x5632) ![0, 4608] S512x512.size inb_S1024x5632_S512x512_0_4608) (fun _ => rfl)).view.set, (M4.slice (Rect.unit (s := S1024x5632) ![0, 5120] S512x512.size inb_S1024x5632_S512x512_0_5120) (fun _ => rfl)).view.set, (M4.slice (Rect.unit (s := S1024x5632) ![512, 0] S512x512.size inb_S1024x5632_S512x512_512_0) (fun _ => rfl)).view.set, (M4.slice (Rect.unit (s := S1024x5632) ![512, 512] S512x512.size inb_S1024x5632_S512x512_512_512) (fun _ => rfl)).view.set, (M4.slice (Rect.unit (s := S1024x5632) ![512, 1024] S512x512.size inb_S1024x5632_S512x512_512_1024) (fun _ => rfl)).view.set, (M4.slice (Rect.unit (s := S1024x5632) ![512, 1536] S512x512.size inb_S1024x5632_S512x512_512_1536) (fun _ => rfl)).view.set, (M4.slice (Rect.unit (s := S1024x5632) ![512, 2048] S512x512.size inb_S1024x5632_S512x512_512_2048) (fun _ => rfl)).view.set, (M4.slice (Rect.unit (s := S1024x5632) ![512, 2560] S512x512.size inb_S1024x5632_S512x512_512_2560) (fun _ => rfl)).view.set, (M4.slice (Rect.unit (s := S1024x5632) ![512, 3072] S512x512.size inb_S1024x5632_S512x512_512_3072) (fun _ => rfl)).view.set, (M4.slice (Rect.unit (s := S1024x5632) ![512, 3584] S512x512.size inb_S1024x5632_S512x512_512_3584) (fun _ => rfl)).view.set, (M4.slice (Rect.unit (s := S1024x5632) ![512, 4096] S512x512.size inb_S1024x5632_S512x512_512_4096) (fun _ => rfl)).view.set, (M4.slice (Rect.unit (s := S1024x5632) ![512, 4608] S512x512.size inb_S1024x5632_S512x512_512_4608) (fun _ => rfl)).view.set, (M4.slice (Rect.unit (s := S1024x5632) ![512, 5120] S512x512.size inb_S1024x5632_S512x512_512_5120) (fun _ => rfl)).view.set]
/-- The windows of the down weight that the transfers read. -/
def downWin (M6 : Memref sig .tc .hbm S2816x1024 .f32) : Fin 22 → Finset M6.view.ty.Idx := ![(M6.slice (Rect.unit (s := S2816x1024) ![0, 0] S256x512.size inb_S2816x1024_S256x512_0_0) (fun _ => rfl)).view.set, (M6.slice (Rect.unit (s := S2816x1024) ![0, 512] S256x512.size inb_S2816x1024_S256x512_0_512) (fun _ => rfl)).view.set, (M6.slice (Rect.unit (s := S2816x1024) ![256, 0] S256x512.size inb_S2816x1024_S256x512_256_0) (fun _ => rfl)).view.set, (M6.slice (Rect.unit (s := S2816x1024) ![256, 512] S256x512.size inb_S2816x1024_S256x512_256_512) (fun _ => rfl)).view.set, (M6.slice (Rect.unit (s := S2816x1024) ![512, 0] S256x512.size inb_S2816x1024_S256x512_512_0) (fun _ => rfl)).view.set, (M6.slice (Rect.unit (s := S2816x1024) ![512, 512] S256x512.size inb_S2816x1024_S256x512_512_512) (fun _ => rfl)).view.set, (M6.slice (Rect.unit (s := S2816x1024) ![768, 0] S256x512.size inb_S2816x1024_S256x512_768_0) (fun _ => rfl)).view.set, (M6.slice (Rect.unit (s := S2816x1024) ![768, 512] S256x512.size inb_S2816x1024_S256x512_768_512) (fun _ => rfl)).view.set, (M6.slice (Rect.unit (s := S2816x1024) ![1024, 0] S256x512.size inb_S2816x1024_S256x512_1024_0) (fun _ => rfl)).view.set, (M6.slice (Rect.unit (s := S2816x1024) ![1024, 512] S256x512.size inb_S2816x1024_S256x512_1024_512) (fun _ => rfl)).view.set, (M6.slice (Rect.unit (s := S2816x1024) ![1280, 0] S256x512.size inb_S2816x1024_S256x512_1280_0) (fun _ => rfl)).view.set, (M6.slice (Rect.unit (s := S2816x1024) ![1280, 512] S256x512.size inb_S2816x1024_S256x512_1280_512) (fun _ => rfl)).view.set, (M6.slice (Rect.unit (s := S2816x1024) ![1536, 0] S256x512.size inb_S2816x1024_S256x512_1536_0) (fun _ => rfl)).view.set, (M6.slice (Rect.unit (s := S2816x1024) ![1536, 512] S256x512.size inb_S2816x1024_S256x512_1536_512) (fun _ => rfl)).view.set, (M6.slice (Rect.unit (s := S2816x1024) ![1792, 0] S256x512.size inb_S2816x1024_S256x512_1792_0) (fun _ => rfl)).view.set, (M6.slice (Rect.unit (s := S2816x1024) ![1792, 512] S256x512.size inb_S2816x1024_S256x512_1792_512) (fun _ => rfl)).view.set, (M6.slice (Rect.unit (s := S2816x1024) ![2048, 0] S256x512.size inb_S2816x1024_S256x512_2048_0) (fun _ => rfl)).view.set, (M6.slice (Rect.unit (s := S2816x1024) ![2048, 512] S256x512.size inb_S2816x1024_S256x512_2048_512) (fun _ => rfl)).view.set, (M6.slice (Rect.unit (s := S2816x1024) ![2304, 0] S256x512.size inb_S2816x1024_S256x512_2304_0) (fun _ => rfl)).view.set, (M6.slice (Rect.unit (s := S2816x1024) ![2304, 512] S256x512.size inb_S2816x1024_S256x512_2304_512) (fun _ => rfl)).view.set, (M6.slice (Rect.unit (s := S2816x1024) ![2560, 0] S256x512.size inb_S2816x1024_S256x512_2560_0) (fun _ => rfl)).view.set, (M6.slice (Rect.unit (s := S2816x1024) ![2560, 512] S256x512.size inb_S2816x1024_S256x512_2560_512) (fun _ => rfl)).view.set]
/-- What is set aside of the two weights while the transfers run. -/
abbrev upAside (c : Dev nD) (M4 : Memref sig .tc .hbm S1024x5632 .f32) (f4 : Bf (F := F) c M4) : sProp 𝕄 :=
  Parked iprop((M4.view.loc (c : Thread nD τ) ↦{shareDrop fullShare 22} f4) ∗ bigSep Finset.univ fun j => M4.view.loc (c : Thread nD τ) ↦[Finset.univ \ upWin M4 j]{shareTok fullShare 22 j} f4)
abbrev downAside (c : Dev nD) (M6 : Memref sig .tc .hbm S2816x1024 .f32) (f6 : Bf (F := F) c M6) : sProp 𝕄 :=
  Parked iprop((M6.view.loc (c : Thread nD τ) ↦{shareDrop fullShare 22} f6) ∗ bigSep Finset.univ fun j => M6.view.loc (c : Thread nD τ) ↦[Finset.univ \ downWin M6 j]{shareTok fullShare 22 j} f6)

theorem upDeal (c : Dev nD) (M4 : Memref sig .tc .hbm S1024x5632 .f32) (f4 : Bf (F := F) c M4) :
    (pt c M4 f4 : sProp 𝕄) = iprop((((M4.slice (Rect.unit (s := S1024x5632) ![0, 0] S512x512.size inb_S1024x5632_S512x512_0_0) (fun _ => rfl)).view.loc (c : Thread nD τ) ↦[(M4.slice (Rect.unit (s := S1024x5632) ![0, 0] S512x512.size inb_S1024x5632_S512x512_0_0) (fun _ => rfl)).view.set]{shareTok fullShare 22 0} f4)
        ∗ ((M4.slice (Rect.unit (s := S1024x5632) ![0, 512] S512x512.size inb_S1024x5632_S512x512_0_512) (fun _ => rfl)).view.loc (c : Thread nD τ) ↦[(M4.slice (Rect.unit (s := S1024x5632) ![0, 512] S512x512.size inb_S1024x5632_S512x512_0_512) (fun _ => rfl)).view.set]{shareTok fullShare 22 1} f4)
        ∗ ((M4.slice (Rect.unit (s := S1024x5632) ![0, 1024] S512x512.size inb_S1024x5632_S512x512_0_1024) (fun _ => rfl)).view.loc (c : Thread nD τ) ↦[(M4.slice (Rect.unit (s := S1024x5632) ![0, 1024] S512x512.size inb_S1024x5632_S512x512_0_1024) (fun _ => rfl)).view.set]{shareTok fullShare 22 2} f4)
        ∗ ((M4.slice (Rect.unit (s := S1024x5632) ![0, 1536] S512x512.size inb_S1024x5632_S512x512_0_1536) (fun _ => rfl)).view.loc (c : Thread nD τ) ↦[(M4.slice (Rect.unit (s := S1024x5632) ![0, 1536] S512x512.size inb_S1024x5632_S512x512_0_1536) (fun _ => rfl)).view.set]{shareTok fullShare 22 3} f4)
        ∗ ((M4.slice (Rect.unit (s := S1024x5632) ![0, 2048] S512x512.size inb_S1024x5632_S512x512_0_2048) (fun _ => rfl)).view.loc (c : Thread nD τ) ↦[(M4.slice (Rect.unit (s := S1024x5632) ![0, 2048] S512x512.size inb_S1024x5632_S512x512_0_2048) (fun _ => rfl)).view.set]{shareTok fullShare 22 4} f4)
        ∗ ((M4.slice (Rect.unit (s := S1024x5632) ![0, 2560] S512x512.size inb_S1024x5632_S512x512_0_2560) (fun _ => rfl)).view.loc (c : Thread nD τ) ↦[(M4.slice (Rect.unit (s := S1024x5632) ![0, 2560] S512x512.size inb_S1024x5632_S512x512_0_2560) (fun _ => rfl)).view.set]{shareTok fullShare 22 5} f4)
        ∗ ((M4.slice (Rect.unit (s := S1024x5632) ![0, 3072] S512x512.size inb_S1024x5632_S512x512_0_3072) (fun _ => rfl)).view.loc (c : Thread nD τ) ↦[(M4.slice (Rect.unit (s := S1024x5632) ![0, 3072] S512x512.size inb_S1024x5632_S512x512_0_3072) (fun _ => rfl)).view.set]{shareTok fullShare 22 6} f4)
        ∗ ((M4.slice (Rect.unit (s := S1024x5632) ![0, 3584] S512x512.size inb_S1024x5632_S512x512_0_3584) (fun _ => rfl)).view.loc (c : Thread nD τ) ↦[(M4.slice (Rect.unit (s := S1024x5632) ![0, 3584] S512x512.size inb_S1024x5632_S512x512_0_3584) (fun _ => rfl)).view.set]{shareTok fullShare 22 7} f4)
        ∗ ((M4.slice (Rect.unit (s := S1024x5632) ![0, 4096] S512x512.size inb_S1024x5632_S512x512_0_4096) (fun _ => rfl)).view.loc (c : Thread nD τ) ↦[(M4.slice (Rect.unit (s := S1024x5632) ![0, 4096] S512x512.size inb_S1024x5632_S512x512_0_4096) (fun _ => rfl)).view.set]{shareTok fullShare 22 8} f4)
        ∗ ((M4.slice (Rect.unit (s := S1024x5632) ![0, 4608] S512x512.size inb_S1024x5632_S512x512_0_4608) (fun _ => rfl)).view.loc (c : Thread nD τ) ↦[(M4.slice (Rect.unit (s := S1024x5632) ![0, 4608] S512x512.size inb_S1024x5632_S512x512_0_4608) (fun _ => rfl)).view.set]{shareTok fullShare 22 9} f4)
        ∗ ((M4.slice (Rect.unit (s := S1024x5632) ![0, 5120] S512x512.size inb_S1024x5632_S512x512_0_5120) (fun _ => rfl)).view.loc (c : Thread nD τ) ↦[(M4.slice (Rect.unit (s := S1024x5632) ![0, 5120] S512x512.size inb_S1024x5632_S512x512_0_5120) (fun _ => rfl)).view.set]{shareTok fullShare 22 10} f4)
        ∗ ((M4.slice (Rect.unit (s := S1024x5632) ![512, 0] S512x512.size inb_S1024x5632_S512x512_512_0) (fun _ => rfl)).view.loc (c : Thread nD τ) ↦[(M4.slice (Rect.unit (s := S1024x5632) ![512, 0] S512x512.size inb_S1024x5632_S512x512_512_0) (fun _ => rfl)).view.set]{shareTok fullShare 22 11} f4)
        ∗ ((M4.slice (Rect.unit (s := S1024x5632) ![512, 512] S512x512.size inb_S1024x5632_S512x512_512_512) (fun _ => rfl)).view.loc (c : Thread nD τ) ↦[(M4.slice (Rect.unit (s := S1024x5632) ![512, 512] S512x512.size inb_S1024x5632_S512x512_512_512) (fun _ => rfl)).view.set]{shareTok fullShare 22 12} f4)
        ∗ ((M4.slice (Rect.unit (s := S1024x5632) ![512, 1024] S512x512.size inb_S1024x5632_S512x512_512_1024) (fun _ => rfl)).view.loc (c : Thread nD τ) ↦[(M4.slice (Rect.unit (s := S1024x5632) ![512, 1024] S512x512.size inb_S1024x5632_S512x512_512_1024) (fun _ => rfl)).view.set]{shareTok fullShare 22 13} f4)
        ∗ ((M4.slice (Rect.unit (s := S1024x5632) ![512, 1536] S512x512.size inb_S1024x5632_S512x512_512_1536) (fun _ => rfl)).view.loc (c : Thread nD τ) ↦[(M4.slice (Rect.unit (s := S1024x5632) ![512, 1536] S512x512.size inb_S1024x5632_S512x512_512_1536) (fun _ => rfl)).view.set]{shareTok fullShare 22 14} f4)
        ∗ ((M4.slice (Rect.unit (s := S1024x5632) ![512, 2048] S512x512.size inb_S1024x5632_S512x512_512_2048) (fun _ => rfl)).view.loc (c : Thread nD τ) ↦[(M4.slice (Rect.unit (s := S1024x5632) ![512, 2048] S512x512.size inb_S1024x5632_S512x512_512_2048) (fun _ => rfl)).view.set]{shareTok fullShare 22 15} f4)
        ∗ ((M4.slice (Rect.unit (s := S1024x5632) ![512, 2560] S512x512.size inb_S1024x5632_S512x512_512_2560) (fun _ => rfl)).view.loc (c : Thread nD τ) ↦[(M4.slice (Rect.unit (s := S1024x5632) ![512, 2560] S512x512.size inb_S1024x5632_S512x512_512_2560) (fun _ => rfl)).view.set]{shareTok fullShare 22 16} f4)
        ∗ ((M4.slice (Rect.unit (s := S1024x5632) ![512, 3072] S512x512.size inb_S1024x5632_S512x512_512_3072) (fun _ => rfl)).view.loc (c : Thread nD τ) ↦[(M4.slice (Rect.unit (s := S1024x5632) ![512, 3072] S512x512.size inb_S1024x5632_S512x512_512_3072) (fun _ => rfl)).view.set]{shareTok fullShare 22 17} f4)
        ∗ ((M4.slice (Rect.unit (s := S1024x5632) ![512, 3584] S512x512.size inb_S1024x5632_S512x512_512_3584) (fun _ => rfl)).view.loc (c : Thread nD τ) ↦[(M4.slice (Rect.unit (s := S1024x5632) ![512, 3584] S512x512.size inb_S1024x5632_S512x512_512_3584) (fun _ => rfl)).view.set]{shareTok fullShare 22 18} f4)
        ∗ ((M4.slice (Rect.unit (s := S1024x5632) ![512, 4096] S512x512.size inb_S1024x5632_S512x512_512_4096) (fun _ => rfl)).view.loc (c : Thread nD τ) ↦[(M4.slice (Rect.unit (s := S1024x5632) ![512, 4096] S512x512.size inb_S1024x5632_S512x512_512_4096) (fun _ => rfl)).view.set]{shareTok fullShare 22 19} f4)
        ∗ ((M4.slice (Rect.unit (s := S1024x5632) ![512, 4608] S512x512.size inb_S1024x5632_S512x512_512_4608) (fun _ => rfl)).view.loc (c : Thread nD τ) ↦[(M4.slice (Rect.unit (s := S1024x5632) ![512, 4608] S512x512.size inb_S1024x5632_S512x512_512_4608) (fun _ => rfl)).view.set]{shareTok fullShare 22 20} f4)
        ∗ ((M4.slice (Rect.unit (s := S1024x5632) ![512, 5120] S512x512.size inb_S1024x5632_S512x512_512_5120) (fun _ => rfl)).view.loc (c : Thread nD τ) ↦[(M4.slice (Rect.unit (s := S1024x5632) ![512, 5120] S512x512.size inb_S1024x5632_S512x512_512_5120) (fun _ => rfl)).view.set]{shareTok fullShare 22 21} f4)) ∗ upAside c M4 f4) := by
  have h := dealt (F := F) (ℓ := M4.view.loc (c : Thread nD τ)) (upWin M4) f4
  have e := bigSep_univ_eq_bigSepL [(0 : Fin 22), (1 : Fin 22), (2 : Fin 22), (3 : Fin 22), (4 : Fin 22), (5 : Fin 22), (6 : Fin 22), (7 : Fin 22), (8 : Fin 22), (9 : Fin 22), (10 : Fin 22), (11 : Fin 22), (12 : Fin 22), (13 : Fin 22), (14 : Fin 22), (15 : Fin 22), (16 : Fin 22), (17 : Fin 22), (18 : Fin 22), (19 : Fin 22), (20 : Fin 22), (21 : Fin 22)] (by decide) (by decide) (fun j => (M4.view.loc (c : Thread nD τ) ↦[upWin M4 j]{shareTok fullShare 22 j} f4 : sProp 𝕄))
  exact (equiv_iff.mp ⟨h.1, h.2⟩).trans (congrArg (fun P => iprop(P ∗ upAside c M4 f4)) e)
theorem downDeal (c : Dev nD) (M6 : Memref sig .tc .hbm S2816x1024 .f32) (f6 : Bf (F := F) c M6) :
    (pt c M6 f6 : sProp 𝕄) = iprop((((M6.slice (Rect.unit (s := S2816x1024) ![0, 0] S256x512.size inb_S2816x1024_S256x512_0_0) (fun _ => rfl)).view.loc (c : Thread nD τ) ↦[(M6.slice (Rect.unit (s := S2816x1024) ![0, 0] S256x512.size inb_S2816x1024_S256x512_0_0) (fun _ => rfl)).view.set]{shareTok fullShare 22 0} f6)
        ∗ ((M6.slice (Rect.unit (s := S2816x1024) ![0, 512] S256x512.size inb_S2816x1024_S256x512_0_512) (fun _ => rfl)).view.loc (c : Thread nD τ) ↦[(M6.slice (Rect.unit (s := S2816x1024) ![0, 512] S256x512.size inb_S2816x1024_S256x512_0_512) (fun _ => rfl)).view.set]{shareTok fullShare 22 1} f6)
        ∗ ((M6.slice (Rect.unit (s := S2816x1024) ![256, 0] S256x512.size inb_S2816x1024_S256x512_256_0) (fun _ => rfl)).view.loc (c : Thread nD τ) ↦[(M6.slice (Rect.unit (s := S2816x1024) ![256, 0] S256x512.size inb_S2816x1024_S256x512_256_0) (fun _ => rfl)).view.set]{shareTok fullShare 22 2} f6)
        ∗ ((M6.slice (Rect.unit (s := S2816x1024) ![256, 512] S256x512.size inb_S2816x1024_S256x512_256_512) (fun _ => rfl)).view.loc (c : Thread nD τ) ↦[(M6.slice (Rect.unit (s := S2816x1024) ![256, 512] S256x512.size inb_S2816x1024_S256x512_256_512) (fun _ => rfl)).view.set]{shareTok fullShare 22 3} f6)
        ∗ ((M6.slice (Rect.unit (s := S2816x1024) ![512, 0] S256x512.size inb_S2816x1024_S256x512_512_0) (fun _ => rfl)).view.loc (c : Thread nD τ) ↦[(M6.slice (Rect.unit (s := S2816x1024) ![512, 0] S256x512.size inb_S2816x1024_S256x512_512_0) (fun _ => rfl)).view.set]{shareTok fullShare 22 4} f6)
        ∗ ((M6.slice (Rect.unit (s := S2816x1024) ![512, 512] S256x512.size inb_S2816x1024_S256x512_512_512) (fun _ => rfl)).view.loc (c : Thread nD τ) ↦[(M6.slice (Rect.unit (s := S2816x1024) ![512, 512] S256x512.size inb_S2816x1024_S256x512_512_512) (fun _ => rfl)).view.set]{shareTok fullShare 22 5} f6)
        ∗ ((M6.slice (Rect.unit (s := S2816x1024) ![768, 0] S256x512.size inb_S2816x1024_S256x512_768_0) (fun _ => rfl)).view.loc (c : Thread nD τ) ↦[(M6.slice (Rect.unit (s := S2816x1024) ![768, 0] S256x512.size inb_S2816x1024_S256x512_768_0) (fun _ => rfl)).view.set]{shareTok fullShare 22 6} f6)
        ∗ ((M6.slice (Rect.unit (s := S2816x1024) ![768, 512] S256x512.size inb_S2816x1024_S256x512_768_512) (fun _ => rfl)).view.loc (c : Thread nD τ) ↦[(M6.slice (Rect.unit (s := S2816x1024) ![768, 512] S256x512.size inb_S2816x1024_S256x512_768_512) (fun _ => rfl)).view.set]{shareTok fullShare 22 7} f6)
        ∗ ((M6.slice (Rect.unit (s := S2816x1024) ![1024, 0] S256x512.size inb_S2816x1024_S256x512_1024_0) (fun _ => rfl)).view.loc (c : Thread nD τ) ↦[(M6.slice (Rect.unit (s := S2816x1024) ![1024, 0] S256x512.size inb_S2816x1024_S256x512_1024_0) (fun _ => rfl)).view.set]{shareTok fullShare 22 8} f6)
        ∗ ((M6.slice (Rect.unit (s := S2816x1024) ![1024, 512] S256x512.size inb_S2816x1024_S256x512_1024_512) (fun _ => rfl)).view.loc (c : Thread nD τ) ↦[(M6.slice (Rect.unit (s := S2816x1024) ![1024, 512] S256x512.size inb_S2816x1024_S256x512_1024_512) (fun _ => rfl)).view.set]{shareTok fullShare 22 9} f6)
        ∗ ((M6.slice (Rect.unit (s := S2816x1024) ![1280, 0] S256x512.size inb_S2816x1024_S256x512_1280_0) (fun _ => rfl)).view.loc (c : Thread nD τ) ↦[(M6.slice (Rect.unit (s := S2816x1024) ![1280, 0] S256x512.size inb_S2816x1024_S256x512_1280_0) (fun _ => rfl)).view.set]{shareTok fullShare 22 10} f6)
        ∗ ((M6.slice (Rect.unit (s := S2816x1024) ![1280, 512] S256x512.size inb_S2816x1024_S256x512_1280_512) (fun _ => rfl)).view.loc (c : Thread nD τ) ↦[(M6.slice (Rect.unit (s := S2816x1024) ![1280, 512] S256x512.size inb_S2816x1024_S256x512_1280_512) (fun _ => rfl)).view.set]{shareTok fullShare 22 11} f6)
        ∗ ((M6.slice (Rect.unit (s := S2816x1024) ![1536, 0] S256x512.size inb_S2816x1024_S256x512_1536_0) (fun _ => rfl)).view.loc (c : Thread nD τ) ↦[(M6.slice (Rect.unit (s := S2816x1024) ![1536, 0] S256x512.size inb_S2816x1024_S256x512_1536_0) (fun _ => rfl)).view.set]{shareTok fullShare 22 12} f6)
        ∗ ((M6.slice (Rect.unit (s := S2816x1024) ![1536, 512] S256x512.size inb_S2816x1024_S256x512_1536_512) (fun _ => rfl)).view.loc (c : Thread nD τ) ↦[(M6.slice (Rect.unit (s := S2816x1024) ![1536, 512] S256x512.size inb_S2816x1024_S256x512_1536_512) (fun _ => rfl)).view.set]{shareTok fullShare 22 13} f6)
        ∗ ((M6.slice (Rect.unit (s := S2816x1024) ![1792, 0] S256x512.size inb_S2816x1024_S256x512_1792_0) (fun _ => rfl)).view.loc (c : Thread nD τ) ↦[(M6.slice (Rect.unit (s := S2816x1024) ![1792, 0] S256x512.size inb_S2816x1024_S256x512_1792_0) (fun _ => rfl)).view.set]{shareTok fullShare 22 14} f6)
        ∗ ((M6.slice (Rect.unit (s := S2816x1024) ![1792, 512] S256x512.size inb_S2816x1024_S256x512_1792_512) (fun _ => rfl)).view.loc (c : Thread nD τ) ↦[(M6.slice (Rect.unit (s := S2816x1024) ![1792, 512] S256x512.size inb_S2816x1024_S256x512_1792_512) (fun _ => rfl)).view.set]{shareTok fullShare 22 15} f6)
        ∗ ((M6.slice (Rect.unit (s := S2816x1024) ![2048, 0] S256x512.size inb_S2816x1024_S256x512_2048_0) (fun _ => rfl)).view.loc (c : Thread nD τ) ↦[(M6.slice (Rect.unit (s := S2816x1024) ![2048, 0] S256x512.size inb_S2816x1024_S256x512_2048_0) (fun _ => rfl)).view.set]{shareTok fullShare 22 16} f6)
        ∗ ((M6.slice (Rect.unit (s := S2816x1024) ![2048, 512] S256x512.size inb_S2816x1024_S256x512_2048_512) (fun _ => rfl)).view.loc (c : Thread nD τ) ↦[(M6.slice (Rect.unit (s := S2816x1024) ![2048, 512] S256x512.size inb_S2816x1024_S256x512_2048_512) (fun _ => rfl)).view.set]{shareTok fullShare 22 17} f6)
        ∗ ((M6.slice (Rect.unit (s := S2816x1024) ![2304, 0] S256x512.size inb_S2816x1024_S256x512_2304_0) (fun _ => rfl)).view.loc (c : Thread nD τ) ↦[(M6.slice (Rect.unit (s := S2816x1024) ![2304, 0] S256x512.size inb_S2816x1024_S256x512_2304_0) (fun _ => rfl)).view.set]{shareTok fullShare 22 18} f6)
        ∗ ((M6.slice (Rect.unit (s := S2816x1024) ![2304, 512] S256x512.size inb_S2816x1024_S256x512_2304_512) (fun _ => rfl)).view.loc (c : Thread nD τ) ↦[(M6.slice (Rect.unit (s := S2816x1024) ![2304, 512] S256x512.size inb_S2816x1024_S256x512_2304_512) (fun _ => rfl)).view.set]{shareTok fullShare 22 19} f6)
        ∗ ((M6.slice (Rect.unit (s := S2816x1024) ![2560, 0] S256x512.size inb_S2816x1024_S256x512_2560_0) (fun _ => rfl)).view.loc (c : Thread nD τ) ↦[(M6.slice (Rect.unit (s := S2816x1024) ![2560, 0] S256x512.size inb_S2816x1024_S256x512_2560_0) (fun _ => rfl)).view.set]{shareTok fullShare 22 20} f6)
        ∗ ((M6.slice (Rect.unit (s := S2816x1024) ![2560, 512] S256x512.size inb_S2816x1024_S256x512_2560_512) (fun _ => rfl)).view.loc (c : Thread nD τ) ↦[(M6.slice (Rect.unit (s := S2816x1024) ![2560, 512] S256x512.size inb_S2816x1024_S256x512_2560_512) (fun _ => rfl)).view.set]{shareTok fullShare 22 21} f6)) ∗ downAside c M6 f6) := by
  have h := dealt (F := F) (ℓ := M6.view.loc (c : Thread nD τ)) (downWin M6) f6
  have e := bigSep_univ_eq_bigSepL [(0 : Fin 22), (1 : Fin 22), (2 : Fin 22), (3 : Fin 22), (4 : Fin 22), (5 : Fin 22), (6 : Fin 22), (7 : Fin 22), (8 : Fin 22), (9 : Fin 22), (10 : Fin 22), (11 : Fin 22), (12 : Fin 22), (13 : Fin 22), (14 : Fin 22), (15 : Fin 22), (16 : Fin 22), (17 : Fin 22), (18 : Fin 22), (19 : Fin 22), (20 : Fin 22), (21 : Fin 22)] (by decide) (by decide) (fun j => (M6.view.loc (c : Thread nD τ) ↦[downWin M6 j]{shareTok fullShare 22 j} f6 : sProp 𝕄))
  exact (equiv_iff.mp ⟨h.1, h.2⟩).trans (congrArg (fun P => iprop(P ∗ downAside c M6 f6)) e)

theorem upBack (c : Dev nD) (M4 : Memref sig .tc .hbm S1024x5632 .f32) (f4 : Bf (F := F) c M4) : iprop((((M4.slice (Rect.unit (s := S1024x5632) ![0, 0] S512x512.size inb_S1024x5632_S512x512_0_0) (fun _ => rfl)).view.loc (c : Thread nD τ) ↦[(M4.slice (Rect.unit (s := S1024x5632) ![0, 0] S512x512.size inb_S1024x5632_S512x512_0_0) (fun _ => rfl)).view.set]{shareTok fullShare 22 0} f4)
        ∗ ((M4.slice (Rect.unit (s := S1024x5632) ![0, 512] S512x512.size inb_S1024x5632_S512x512_0_512) (fun _ => rfl)).view.loc (c : Thread nD τ) ↦[(M4.slice (Rect.unit (s := S1024x5632) ![0, 512] S512x512.size inb_S1024x5632_S512x512_0_512) (fun _ => rfl)).view.set]{shareTok fullShare 22 1} f4)
        ∗ ((M4.slice (Rect.unit (s := S1024x5632) ![0, 1024] S512x512.size inb_S1024x5632_S512x512_0_1024) (fun _ => rfl)).view.loc (c : Thread nD τ) ↦[(M4.slice (Rect.unit (s := S1024x5632) ![0, 1024] S512x512.size inb_S1024x5632_S512x512_0_1024) (fun _ => rfl)).view.set]{shareTok fullShare 22 2} f4)
        ∗ ((M4.slice (Rect.unit (s := S1024x5632) ![0, 1536] S512x512.size inb_S1024x5632_S512x512_0_1536) (fun _ => rfl)).view.loc (c : Thread nD τ) ↦[(M4.slice (Rect.unit (s := S1024x5632) ![0, 1536] S512x512.size inb_S1024x5632_S512x512_0_1536) (fun _ => rfl)).view.set]{shareTok fullShare 22 3} f4)
        ∗ ((M4.slice (Rect.unit (s := S1024x5632) ![0, 2048] S512x512.size inb_S1024x5632_S512x512_0_2048) (fun _ => rfl)).view.loc (c : Thread nD τ) ↦[(M4.slice (Rect.unit (s := S1024x5632) ![0, 2048] S512x512.size inb_S1024x5632_S512x512_0_2048) (fun _ => rfl)).view.set]{shareTok fullShare 22 4} f4)
        ∗ ((M4.slice (Rect.unit (s := S1024x5632) ![0, 2560] S512x512.size inb_S1024x5632_S512x512_0_2560) (fun _ => rfl)).view.loc (c : Thread nD τ) ↦[(M4.slice (Rect.unit (s := S1024x5632) ![0, 2560] S512x512.size inb_S1024x5632_S512x512_0_2560) (fun _ => rfl)).view.set]{shareTok fullShare 22 5} f4)
        ∗ ((M4.slice (Rect.unit (s := S1024x5632) ![0, 3072] S512x512.size inb_S1024x5632_S512x512_0_3072) (fun _ => rfl)).view.loc (c : Thread nD τ) ↦[(M4.slice (Rect.unit (s := S1024x5632) ![0, 3072] S512x512.size inb_S1024x5632_S512x512_0_3072) (fun _ => rfl)).view.set]{shareTok fullShare 22 6} f4)
        ∗ ((M4.slice (Rect.unit (s := S1024x5632) ![0, 3584] S512x512.size inb_S1024x5632_S512x512_0_3584) (fun _ => rfl)).view.loc (c : Thread nD τ) ↦[(M4.slice (Rect.unit (s := S1024x5632) ![0, 3584] S512x512.size inb_S1024x5632_S512x512_0_3584) (fun _ => rfl)).view.set]{shareTok fullShare 22 7} f4)
        ∗ ((M4.slice (Rect.unit (s := S1024x5632) ![0, 4096] S512x512.size inb_S1024x5632_S512x512_0_4096) (fun _ => rfl)).view.loc (c : Thread nD τ) ↦[(M4.slice (Rect.unit (s := S1024x5632) ![0, 4096] S512x512.size inb_S1024x5632_S512x512_0_4096) (fun _ => rfl)).view.set]{shareTok fullShare 22 8} f4)
        ∗ ((M4.slice (Rect.unit (s := S1024x5632) ![0, 4608] S512x512.size inb_S1024x5632_S512x512_0_4608) (fun _ => rfl)).view.loc (c : Thread nD τ) ↦[(M4.slice (Rect.unit (s := S1024x5632) ![0, 4608] S512x512.size inb_S1024x5632_S512x512_0_4608) (fun _ => rfl)).view.set]{shareTok fullShare 22 9} f4)
        ∗ ((M4.slice (Rect.unit (s := S1024x5632) ![0, 5120] S512x512.size inb_S1024x5632_S512x512_0_5120) (fun _ => rfl)).view.loc (c : Thread nD τ) ↦[(M4.slice (Rect.unit (s := S1024x5632) ![0, 5120] S512x512.size inb_S1024x5632_S512x512_0_5120) (fun _ => rfl)).view.set]{shareTok fullShare 22 10} f4)
        ∗ ((M4.slice (Rect.unit (s := S1024x5632) ![512, 0] S512x512.size inb_S1024x5632_S512x512_512_0) (fun _ => rfl)).view.loc (c : Thread nD τ) ↦[(M4.slice (Rect.unit (s := S1024x5632) ![512, 0] S512x512.size inb_S1024x5632_S512x512_512_0) (fun _ => rfl)).view.set]{shareTok fullShare 22 11} f4)
        ∗ ((M4.slice (Rect.unit (s := S1024x5632) ![512, 512] S512x512.size inb_S1024x5632_S512x512_512_512) (fun _ => rfl)).view.loc (c : Thread nD τ) ↦[(M4.slice (Rect.unit (s := S1024x5632) ![512, 512] S512x512.size inb_S1024x5632_S512x512_512_512) (fun _ => rfl)).view.set]{shareTok fullShare 22 12} f4)
        ∗ ((M4.slice (Rect.unit (s := S1024x5632) ![512, 1024] S512x512.size inb_S1024x5632_S512x512_512_1024) (fun _ => rfl)).view.loc (c : Thread nD τ) ↦[(M4.slice (Rect.unit (s := S1024x5632) ![512, 1024] S512x512.size inb_S1024x5632_S512x512_512_1024) (fun _ => rfl)).view.set]{shareTok fullShare 22 13} f4)
        ∗ ((M4.slice (Rect.unit (s := S1024x5632) ![512, 1536] S512x512.size inb_S1024x5632_S512x512_512_1536) (fun _ => rfl)).view.loc (c : Thread nD τ) ↦[(M4.slice (Rect.unit (s := S1024x5632) ![512, 1536] S512x512.size inb_S1024x5632_S512x512_512_1536) (fun _ => rfl)).view.set]{shareTok fullShare 22 14} f4)
        ∗ ((M4.slice (Rect.unit (s := S1024x5632) ![512, 2048] S512x512.size inb_S1024x5632_S512x512_512_2048) (fun _ => rfl)).view.loc (c : Thread nD τ) ↦[(M4.slice (Rect.unit (s := S1024x5632) ![512, 2048] S512x512.size inb_S1024x5632_S512x512_512_2048) (fun _ => rfl)).view.set]{shareTok fullShare 22 15} f4)
        ∗ ((M4.slice (Rect.unit (s := S1024x5632) ![512, 2560] S512x512.size inb_S1024x5632_S512x512_512_2560) (fun _ => rfl)).view.loc (c : Thread nD τ) ↦[(M4.slice (Rect.unit (s := S1024x5632) ![512, 2560] S512x512.size inb_S1024x5632_S512x512_512_2560) (fun _ => rfl)).view.set]{shareTok fullShare 22 16} f4)
        ∗ ((M4.slice (Rect.unit (s := S1024x5632) ![512, 3072] S512x512.size inb_S1024x5632_S512x512_512_3072) (fun _ => rfl)).view.loc (c : Thread nD τ) ↦[(M4.slice (Rect.unit (s := S1024x5632) ![512, 3072] S512x512.size inb_S1024x5632_S512x512_512_3072) (fun _ => rfl)).view.set]{shareTok fullShare 22 17} f4)
        ∗ ((M4.slice (Rect.unit (s := S1024x5632) ![512, 3584] S512x512.size inb_S1024x5632_S512x512_512_3584) (fun _ => rfl)).view.loc (c : Thread nD τ) ↦[(M4.slice (Rect.unit (s := S1024x5632) ![512, 3584] S512x512.size inb_S1024x5632_S512x512_512_3584) (fun _ => rfl)).view.set]{shareTok fullShare 22 18} f4)
        ∗ ((M4.slice (Rect.unit (s := S1024x5632) ![512, 4096] S512x512.size inb_S1024x5632_S512x512_512_4096) (fun _ => rfl)).view.loc (c : Thread nD τ) ↦[(M4.slice (Rect.unit (s := S1024x5632) ![512, 4096] S512x512.size inb_S1024x5632_S512x512_512_4096) (fun _ => rfl)).view.set]{shareTok fullShare 22 19} f4)
        ∗ ((M4.slice (Rect.unit (s := S1024x5632) ![512, 4608] S512x512.size inb_S1024x5632_S512x512_512_4608) (fun _ => rfl)).view.loc (c : Thread nD τ) ↦[(M4.slice (Rect.unit (s := S1024x5632) ![512, 4608] S512x512.size inb_S1024x5632_S512x512_512_4608) (fun _ => rfl)).view.set]{shareTok fullShare 22 20} f4)
        ∗ ((M4.slice (Rect.unit (s := S1024x5632) ![512, 5120] S512x512.size inb_S1024x5632_S512x512_512_5120) (fun _ => rfl)).view.loc (c : Thread nD τ) ↦[(M4.slice (Rect.unit (s := S1024x5632) ![512, 5120] S512x512.size inb_S1024x5632_S512x512_512_5120) (fun _ => rfl)).view.set]{shareTok fullShare 22 21} f4)) ∗ upAside c M4 f4) ⊢ (pt c M4 f4 : sProp 𝕄) := by rw [← upDeal]
theorem downBack (c : Dev nD) (M6 : Memref sig .tc .hbm S2816x1024 .f32) (f6 : Bf (F := F) c M6) : iprop((((M6.slice (Rect.unit (s := S2816x1024) ![0, 0] S256x512.size inb_S2816x1024_S256x512_0_0) (fun _ => rfl)).view.loc (c : Thread nD τ) ↦[(M6.slice (Rect.unit (s := S2816x1024) ![0, 0] S256x512.size inb_S2816x1024_S256x512_0_0) (fun _ => rfl)).view.set]{shareTok fullShare 22 0} f6)
        ∗ ((M6.slice (Rect.unit (s := S2816x1024) ![0, 512] S256x512.size inb_S2816x1024_S256x512_0_512) (fun _ => rfl)).view.loc (c : Thread nD τ) ↦[(M6.slice (Rect.unit (s := S2816x1024) ![0, 512] S256x512.size inb_S2816x1024_S256x512_0_512) (fun _ => rfl)).view.set]{shareTok fullShare 22 1} f6)
        ∗ ((M6.slice (Rect.unit (s := S2816x1024) ![256, 0] S256x512.size inb_S2816x1024_S256x512_256_0) (fun _ => rfl)).view.loc (c : Thread nD τ) ↦[(M6.slice (Rect.unit (s := S2816x1024) ![256, 0] S256x512.size inb_S2816x1024_S256x512_256_0) (fun _ => rfl)).view.set]{shareTok fullShare 22 2} f6)
        ∗ ((M6.slice (Rect.unit (s := S2816x1024) ![256, 512] S256x512.size inb_S2816x1024_S256x512_256_512) (fun _ => rfl)).view.loc (c : Thread nD τ) ↦[(M6.slice (Rect.unit (s := S2816x1024) ![256, 512] S256x512.size inb_S2816x1024_S256x512_256_512) (fun _ => rfl)).view.set]{shareTok fullShare 22 3} f6)
        ∗ ((M6.slice (Rect.unit (s := S2816x1024) ![512, 0] S256x512.size inb_S2816x1024_S256x512_512_0) (fun _ => rfl)).view.loc (c : Thread nD τ) ↦[(M6.slice (Rect.unit (s := S2816x1024) ![512, 0] S256x512.size inb_S2816x1024_S256x512_512_0) (fun _ => rfl)).view.set]{shareTok fullShare 22 4} f6)
        ∗ ((M6.slice (Rect.unit (s := S2816x1024) ![512, 512] S256x512.size inb_S2816x1024_S256x512_512_512) (fun _ => rfl)).view.loc (c : Thread nD τ) ↦[(M6.slice (Rect.unit (s := S2816x1024) ![512, 512] S256x512.size inb_S2816x1024_S256x512_512_512) (fun _ => rfl)).view.set]{shareTok fullShare 22 5} f6)
        ∗ ((M6.slice (Rect.unit (s := S2816x1024) ![768, 0] S256x512.size inb_S2816x1024_S256x512_768_0) (fun _ => rfl)).view.loc (c : Thread nD τ) ↦[(M6.slice (Rect.unit (s := S2816x1024) ![768, 0] S256x512.size inb_S2816x1024_S256x512_768_0) (fun _ => rfl)).view.set]{shareTok fullShare 22 6} f6)
        ∗ ((M6.slice (Rect.unit (s := S2816x1024) ![768, 512] S256x512.size inb_S2816x1024_S256x512_768_512) (fun _ => rfl)).view.loc (c : Thread nD τ) ↦[(M6.slice (Rect.unit (s := S2816x1024) ![768, 512] S256x512.size inb_S2816x1024_S256x512_768_512) (fun _ => rfl)).view.set]{shareTok fullShare 22 7} f6)
        ∗ ((M6.slice (Rect.unit (s := S2816x1024) ![1024, 0] S256x512.size inb_S2816x1024_S256x512_1024_0) (fun _ => rfl)).view.loc (c : Thread nD τ) ↦[(M6.slice (Rect.unit (s := S2816x1024) ![1024, 0] S256x512.size inb_S2816x1024_S256x512_1024_0) (fun _ => rfl)).view.set]{shareTok fullShare 22 8} f6)
        ∗ ((M6.slice (Rect.unit (s := S2816x1024) ![1024, 512] S256x512.size inb_S2816x1024_S256x512_1024_512) (fun _ => rfl)).view.loc (c : Thread nD τ) ↦[(M6.slice (Rect.unit (s := S2816x1024) ![1024, 512] S256x512.size inb_S2816x1024_S256x512_1024_512) (fun _ => rfl)).view.set]{shareTok fullShare 22 9} f6)
        ∗ ((M6.slice (Rect.unit (s := S2816x1024) ![1280, 0] S256x512.size inb_S2816x1024_S256x512_1280_0) (fun _ => rfl)).view.loc (c : Thread nD τ) ↦[(M6.slice (Rect.unit (s := S2816x1024) ![1280, 0] S256x512.size inb_S2816x1024_S256x512_1280_0) (fun _ => rfl)).view.set]{shareTok fullShare 22 10} f6)
        ∗ ((M6.slice (Rect.unit (s := S2816x1024) ![1280, 512] S256x512.size inb_S2816x1024_S256x512_1280_512) (fun _ => rfl)).view.loc (c : Thread nD τ) ↦[(M6.slice (Rect.unit (s := S2816x1024) ![1280, 512] S256x512.size inb_S2816x1024_S256x512_1280_512) (fun _ => rfl)).view.set]{shareTok fullShare 22 11} f6)
        ∗ ((M6.slice (Rect.unit (s := S2816x1024) ![1536, 0] S256x512.size inb_S2816x1024_S256x512_1536_0) (fun _ => rfl)).view.loc (c : Thread nD τ) ↦[(M6.slice (Rect.unit (s := S2816x1024) ![1536, 0] S256x512.size inb_S2816x1024_S256x512_1536_0) (fun _ => rfl)).view.set]{shareTok fullShare 22 12} f6)
        ∗ ((M6.slice (Rect.unit (s := S2816x1024) ![1536, 512] S256x512.size inb_S2816x1024_S256x512_1536_512) (fun _ => rfl)).view.loc (c : Thread nD τ) ↦[(M6.slice (Rect.unit (s := S2816x1024) ![1536, 512] S256x512.size inb_S2816x1024_S256x512_1536_512) (fun _ => rfl)).view.set]{shareTok fullShare 22 13} f6)
        ∗ ((M6.slice (Rect.unit (s := S2816x1024) ![1792, 0] S256x512.size inb_S2816x1024_S256x512_1792_0) (fun _ => rfl)).view.loc (c : Thread nD τ) ↦[(M6.slice (Rect.unit (s := S2816x1024) ![1792, 0] S256x512.size inb_S2816x1024_S256x512_1792_0) (fun _ => rfl)).view.set]{shareTok fullShare 22 14} f6)
        ∗ ((M6.slice (Rect.unit (s := S2816x1024) ![1792, 512] S256x512.size inb_S2816x1024_S256x512_1792_512) (fun _ => rfl)).view.loc (c : Thread nD τ) ↦[(M6.slice (Rect.unit (s := S2816x1024) ![1792, 512] S256x512.size inb_S2816x1024_S256x512_1792_512) (fun _ => rfl)).view.set]{shareTok fullShare 22 15} f6)
        ∗ ((M6.slice (Rect.unit (s := S2816x1024) ![2048, 0] S256x512.size inb_S2816x1024_S256x512_2048_0) (fun _ => rfl)).view.loc (c : Thread nD τ) ↦[(M6.slice (Rect.unit (s := S2816x1024) ![2048, 0] S256x512.size inb_S2816x1024_S256x512_2048_0) (fun _ => rfl)).view.set]{shareTok fullShare 22 16} f6)
        ∗ ((M6.slice (Rect.unit (s := S2816x1024) ![2048, 512] S256x512.size inb_S2816x1024_S256x512_2048_512) (fun _ => rfl)).view.loc (c : Thread nD τ) ↦[(M6.slice (Rect.unit (s := S2816x1024) ![2048, 512] S256x512.size inb_S2816x1024_S256x512_2048_512) (fun _ => rfl)).view.set]{shareTok fullShare 22 17} f6)
        ∗ ((M6.slice (Rect.unit (s := S2816x1024) ![2304, 0] S256x512.size inb_S2816x1024_S256x512_2304_0) (fun _ => rfl)).view.loc (c : Thread nD τ) ↦[(M6.slice (Rect.unit (s := S2816x1024) ![2304, 0] S256x512.size inb_S2816x1024_S256x512_2304_0) (fun _ => rfl)).view.set]{shareTok fullShare 22 18} f6)
        ∗ ((M6.slice (Rect.unit (s := S2816x1024) ![2304, 512] S256x512.size inb_S2816x1024_S256x512_2304_512) (fun _ => rfl)).view.loc (c : Thread nD τ) ↦[(M6.slice (Rect.unit (s := S2816x1024) ![2304, 512] S256x512.size inb_S2816x1024_S256x512_2304_512) (fun _ => rfl)).view.set]{shareTok fullShare 22 19} f6)
        ∗ ((M6.slice (Rect.unit (s := S2816x1024) ![2560, 0] S256x512.size inb_S2816x1024_S256x512_2560_0) (fun _ => rfl)).view.loc (c : Thread nD τ) ↦[(M6.slice (Rect.unit (s := S2816x1024) ![2560, 0] S256x512.size inb_S2816x1024_S256x512_2560_0) (fun _ => rfl)).view.set]{shareTok fullShare 22 20} f6)
        ∗ ((M6.slice (Rect.unit (s := S2816x1024) ![2560, 512] S256x512.size inb_S2816x1024_S256x512_2560_512) (fun _ => rfl)).view.loc (c : Thread nD τ) ↦[(M6.slice (Rect.unit (s := S2816x1024) ![2560, 512] S256x512.size inb_S2816x1024_S256x512_2560_512) (fun _ => rfl)).view.set]{shareTok fullShare 22 21} f6)) ∗ downAside c M6 f6) ⊢ (pt c M6 f6 : sProp 𝕄) := by rw [← downDeal]

end Cert.KernelIdeal.Ffn

end
-- ==== Proof.KernelIdeal.Fetch.lean ====
module

public import proofs.«01_k».proof.Proof.KernelIdeal.Cut
public import proofs.«01_k».proof.Proof.Gen.KernelIdeal.Skeleton
public import proofs.«01_k».proof.Proof.Gen.KernelIdeal.Frame
public import Idealize.ShloMosaic.Lib.Tactic

@[expose] public section

set_option pp.maxSteps 300
set_option maxRecDepth 65536
set_option maxHeartbeats 0

noncomputable section

namespace Cert.KernelIdeal.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ (Pipeline.UD sig nD τ) ℕ

/-- What the first part of the body returns. -/
abbrev Ret (F : FTy → Type) : Type := Σ' (_ : FVec F S128x128 .f32) (_ : FVec F S128x128 .f32) (_ : FVec F S128x128 .f32) (_ : FVec F S128x128 .f32) (_ : FVec F S128x128 .f32) (_ : FVec F S128x128 .f32), FVec F S128x128 .f32
/-- The eleven counters of the transfers, each at zero. -/
abbrev idle (c : Dev nD) : sProp 𝕄 := iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0)

/-- The first point: the weights come in through the slots, the two halo groups are cleared, and the first tokens are
    read; what is left in the two weight buffers and what is returned are functions of the inputs found. -/
def fetchRun (c : Dev nD) (i : grid0.Coords)
    (hc1 : (Scalar.cmpi .ne (Scalar.extui (Scalar.andi (Scalar.cmpi .eq (BitVec.ofNat 32 (i 0).val) 0#32) (Scalar.cmpi .eq (BitVec.ofNat 32 (i 1).val) 0#32)) : BitVec 32) 0#32 = 1#1)) (hc2 : (Scalar.cmpi .ne (Scalar.extui (Scalar.cmpi .eq (BitVec.ofNat 32 (i 1).val) 0#32) : BitVec 32) 0#32 = 1#1))
    (M2 : Memref sig .tc .vmem S1x8x512x128 .f32) (h2 : M2.IsWhole) (M3 : Memref sig .tc .vmem S1x1024 .f32) (h3 : M3.IsWhole) (M4 : Memref sig .tc .hbm S1024x5632 .f32) (h4 : M4.IsWhole) (M5 : Memref sig .tc .vmem S3x5632 .f32) (h5 : M5.IsWhole) (M6 : Memref sig .tc .hbm S2816x1024 .f32) (h6 : M6.IsWhole) (M7 : Memref sig .tc .vmem S1x512x1024 .f32) (h7 : M7.IsWhole) (M8 : Memref sig .tc .vmem S8x512x128 .f32) (h8 : M8.IsWhole) (M9 : Memref sig .tc .vmem S11x784x512 .f32) (h9 : M9.IsWhole) (M10 : Memref sig .tc .vmem S11x512x256 .bf16) (h10 : M10.IsWhole) (M11 : Memref sig .tc .vmem S1024x5632 .bf16) (h11 : M11.IsWhole) (M12 : Memref sig .tc .vmem S2816x1024 .bf16) (h12 : M12.IsWhole)
    (f2 : Bf (F := F) c M2) (f4 : Bf (F := F) c M4) (f6 : Bf (F := F) c M6) (f9 : Bf (F := F) c M9) :
    {X : (Bf (F := F) c M11 × Bf (F := F) c M12) × ((Bf (F := F) c M9 → Bf (F := F) c M9) × Ret F) //
      ∀ (f11 : Bf (F := F) c M11) (f12 : Bf (F := F) c M12) (W : Waits sig Unit) (Q : _ → sProp 𝕄),
        iprop(pt c M2 f2 ∗ pt c M4 f4 ∗ pt c M6 f6 ∗ pt c M9 f9 ∗ pt c M11 f11 ∗ pt c M12 f12 ∗ idle c ∗ owes (c : Thread nD τ) 0 W
          ∗ ((pt c M2 f2 ∗ pt c M4 f4 ∗ pt c M6 f6 ∗ pt c M11 X.1.1 ∗ pt c M12 X.1.2 ∗ (∃ g, pt c M9 (X.2.1 g)) ∗ idle c ∗ (∃ W', owes (c : Thread nD τ) 0 W')) -∗ Q X.2.2))
        ⊢ wp frame (wpE (defs₀ (F := F)) Variants.none c none) Set.univ
            (k0_part27 i M2 h2 M3 h3 M4 h4 M5 h5 M6 h6 M7 h7 M8 h8 M9 h9 M10 h10 M11 h11 M12 h12 cc0_scratch5) Q} := by
  refine ⟨⟨⟨?A, ?B⟩, ⟨?C, ?D⟩⟩, fun f11 f12 W Q => ?run⟩
  case run =>
    rw [upDeal c M4 f4, downDeal c M6 f6]
    iintro ⟨H2, ⟨⟨H4_0, H4_1, H4_2, H4_3, H4_4, H4_5, H4_6, H4_7, H4_8, H4_9, H4_10, H4_11, H4_12, H4_13, H4_14, H4_15, H4_16, H4_17, H4_18, H4_19, H4_20, H4_21⟩, P4⟩, ⟨⟨H6_0, H6_1, H6_2, H6_3, H6_4, H6_5, H6_6, H6_7, H6_8, H6_9, H6_10, H6_11, H6_12, H6_13, H6_14, H6_15, H6_16, H6_17, H6_18, H6_19, H6_20, H6_21⟩, P6⟩, H9, H11, H12, ⟨Hq6, Hq7, Hq8, Hq9, Hq10, Hq11, Hq12, Hq13, Hq14, Hq15, Hq16⟩, HO, HQ⟩
    ihave H9 := (slots c M9 f9) $$ H9
    icases H9 with ⟨⟨H9_0, H9_1, H9_2, H9_3, H9_4, H9_5, H9_6, H9_7, H9_8, H9_9, H9_10⟩, P9⟩
    rw [k0_part27_eq_skeleton]; unfold k0_part27_skel
    set_option sl_exec.stridedRows true in
    sl_exec_parts! (disch := first | exact hc1 | exact hc2)

    ihave H9_0 := (halve0 c M9 _) $$ H9_0
    icases H9_0 with ⟨H9_0, R9_0⟩
    ihave H9_1 := (halve1 c M9 _) $$ H9_1
    icases H9_1 with ⟨H9_1, R9_1⟩
    ihave H9_2 := (halve2 c M9 _) $$ H9_2
    icases H9_2 with ⟨H9_2, R9_2⟩
    ihave H9_3 := (halve3 c M9 _) $$ H9_3
    icases H9_3 with ⟨H9_3, R9_3⟩
    ihave H9_4 := (halve4 c M9 _) $$ H9_4
    icases H9_4 with ⟨H9_4, R9_4⟩
    ihave H9_5 := (halve5 c M9 _) $$ H9_5
    icases H9_5 with ⟨H9_5, R9_5⟩
    ihave H9_6 := (halve6 c M9 _) $$ H9_6
    icases H9_6 with ⟨H9_6, R9_6⟩
    ihave H9_7 := (halve7 c M9 _) $$ H9_7
    icases H9_7 with ⟨H9_7, R9_7⟩
    ihave H9_8 := (halve8 c M9 _) $$ H9_8
    icases H9_8 with ⟨H9_8, R9_8⟩
    ihave H9_9 := (halve9 c M9 _) $$ H9_9
    icases H9_9 with ⟨H9_9, R9_9⟩
    ihave H9_10 := (halve10 c M9 _) $$ H9_10
    icases H9_10 with ⟨H9_10, R9_10⟩
    set_option sl_exec.stridedRows true in
    sl_exec_parts! (disch := first | exact hc1 | exact hc2)
    ihave H9_0 := (whole0 c M9 _ _) $$ [H9_0 R9_0]
    · isplitl [H9_0]; · iexact H9_0
      iexact R9_0
    ihave H9_1 := (whole1 c M9 _ _) $$ [H9_1 R9_1]
    · isplitl [H9_1]; · iexact H9_1
      iexact R9_1
    ihave H9_2 := (whole2 c M9 _ _) $$ [H9_2 R9_2]
    · isplitl [H9_2]; · iexact H9_2
      iexact R9_2
    ihave H9_3 := (whole3 c M9 _ _) $$ [H9_3 R9_3]
    · isplitl [H9_3]; · iexact H9_3
      iexact R9_3
    ihave H9_4 := (whole4 c M9 _ _) $$ [H9_4 R9_4]
    · isplitl [H9_4]; · iexact H9_4
      iexact R9_4
    ihave H9_5 := (whole5 c M9 _ _) $$ [H9_5 R9_5]
    · isplitl [H9_5]; · iexact H9_5
      iexact R9_5
    ihave H9_6 := (whole6 c M9 _ _) $$ [H9_6 R9_6]
    · isplitl [H9_6]; · iexact H9_6
      iexact R9_6
    ihave H9_7 := (whole7 c M9 _ _) $$ [H9_7 R9_7]
    · isplitl [H9_7]; · iexact H9_7
      iexact R9_7
    ihave H9_8 := (whole8 c M9 _ _) $$ [H9_8 R9_8]
    · isplitl [H9_8]; · iexact H9_8
      iexact R9_8
    ihave H9_9 := (whole9 c M9 _ _) $$ [H9_9 R9_9]
    · isplitl [H9_9]; · iexact H9_9
      iexact R9_9
    ihave H9_10 := (whole10 c M9 _ _) $$ [H9_10 R9_10]
    · isplitl [H9_10]; · iexact H9_10
      iexact R9_10
    ihave H9 := (unslots c M9 f9) $$ [H9_0 H9_1 H9_2 H9_3 H9_4 H9_5 H9_6 H9_7 H9_8 H9_9 H9_10 P9]
    · isplitr [P9]
      · isplitl [H9_0]; · iexact H9_0
        isplitl [H9_1]; · iexact H9_1
        isplitl [H9_2]; · iexact H9_2
        isplitl [H9_3]; · iexact H9_3
        isplitl [H9_4]; · iexact H9_4
        isplitl [H9_5]; · iexact H9_5
        isplitl [H9_6]; · iexact H9_6
        isplitl [H9_7]; · iexact H9_7
        isplitl [H9_8]; · iexact H9_8
        isplitl [H9_9]; · iexact H9_9
        iexact H9_10
      iexact P9
    icases H9 with ⟨%g9, H9⟩
    set_option sl_exec.stridedRows true in
    sl_exec_parts! (disch := first | exact hc1 | exact hc2)
    sl_step
    iapply HQ
    isplitl [H2]; · iexact H2
    isplitl [H4_0 H4_1 H4_2 H4_3 H4_4 H4_5 H4_6 H4_7 H4_8 H4_9 H4_10 H4_11 H4_12 H4_13 H4_14 H4_15 H4_16 H4_17 H4_18 H4_19 H4_20 H4_21 P4]
    · skip
      isplitr [P4]
      · isplitl [H4_0]; · iexact H4_0
        isplitl [H4_1]; · iexact H4_1
        isplitl [H4_2]; · iexact H4_2
        isplitl [H4_3]; · iexact H4_3
        isplitl [H4_4]; · iexact H4_4
        isplitl [H4_5]; · iexact H4_5
        isplitl [H4_6]; · iexact H4_6
        isplitl [H4_7]; · iexact H4_7
        isplitl [H4_8]; · iexact H4_8
        isplitl [H4_9]; · iexact H4_9
        isplitl [H4_10]; · iexact H4_10
        isplitl [H4_11]; · iexact H4_11
        isplitl [H4_12]; · iexact H4_12
        isplitl [H4_13]; · iexact H4_13
        isplitl [H4_14]; · iexact H4_14
        isplitl [H4_15]; · iexact H4_15
        isplitl [H4_16]; · iexact H4_16
        isplitl [H4_17]; · iexact H4_17
        isplitl [H4_18]; · iexact H4_18
        isplitl [H4_19]; · iexact H4_19
        isplitl [H4_20]; · iexact H4_20
        iexact H4_21
      iexact P4
    isplitl [H6_0 H6_1 H6_2 H6_3 H6_4 H6_5 H6_6 H6_7 H6_8 H6_9 H6_10 H6_11 H6_12 H6_13 H6_14 H6_15 H6_16 H6_17 H6_18 H6_19 H6_20 H6_21 P6]
    · skip
      isplitr [P6]
      · isplitl [H6_0]; · iexact H6_0
        isplitl [H6_1]; · iexact H6_1
        isplitl [H6_2]; · iexact H6_2
        isplitl [H6_3]; · iexact H6_3
        isplitl [H6_4]; · iexact H6_4
        isplitl [H6_5]; · iexact H6_5
        isplitl [H6_6]; · iexact H6_6
        isplitl [H6_7]; · iexact H6_7
        isplitl [H6_8]; · iexact H6_8
        isplitl [H6_9]; · iexact H6_9
        isplitl [H6_10]; · iexact H6_10
        isplitl [H6_11]; · iexact H6_11
        isplitl [H6_12]; · iexact H6_12
        isplitl [H6_13]; · iexact H6_13
        isplitl [H6_14]; · iexact H6_14
        isplitl [H6_15]; · iexact H6_15
        isplitl [H6_16]; · iexact H6_16
        isplitl [H6_17]; · iexact H6_17
        isplitl [H6_18]; · iexact H6_18
        isplitl [H6_19]; · iexact H6_19
        isplitl [H6_20]; · iexact H6_20
        iexact H6_21
      iexact P6
    isplitl [H11]; · iexact H11
    isplitl [H12]; · iexact H12
    isplitl [H9]
    · iexists g9; iexact H9
    isplitl [Hq6 Hq7 Hq8 Hq9 Hq10 Hq11 Hq12 Hq13 Hq14 Hq15 Hq16]
    · isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      iexact Hq16
    iexists _; iexact HO

end Cert.KernelIdeal.Ffn

end
-- ==== Proof.KernelIdeal.Tail.lean ====
module

public import proofs.«01_k».proof.Proof.KernelIdeal.Fetch
public import proofs.«01_k».proof.Proof.Gen.KernelIdeal.Skeleton
public import proofs.«01_k».proof.Proof.Gen.KernelIdeal.Frame
public import Idealize.ShloMosaic.Lib.Tactic

@[expose] public section

set_option pp.maxSteps 300
set_option maxRecDepth 65536
set_option maxHeartbeats 0

noncomputable section

namespace Cert.KernelIdeal.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- The body after its first part, as a function of what that part returned. -/
def tailOf (i : grid0.Coords) (M2 : Memref sig .tc .vmem S1x8x512x128 .f32) (h2 : M2.IsWhole) (M3 : Memref sig .tc .vmem S1x1024 .f32) (h3 : M3.IsWhole) (M4 : Memref sig .tc .hbm S1024x5632 .f32) (h4 : M4.IsWhole) (M5 : Memref sig .tc .vmem S3x5632 .f32) (h5 : M5.IsWhole) (M6 : Memref sig .tc .hbm S2816x1024 .f32) (h6 : M6.IsWhole) (M7 : Memref sig .tc .vmem S1x512x1024 .f32) (h7 : M7.IsWhole) (M8 : Memref sig .tc .vmem S8x512x128 .f32) (h8 : M8.IsWhole) (M9 : Memref sig .tc .vmem S11x784x512 .f32) (h9 : M9.IsWhole) (M10 : Memref sig .tc .vmem S11x512x256 .bf16) (h10 : M10.IsWhole) (M11 : Memref sig .tc .vmem S1024x5632 .bf16) (h11 : M11.IsWhole) (M12 : Memref sig .tc .vmem S2816x1024 .bf16) (h12 : M12.IsWhole) (S13 : DmaSems sig S11) :
    {K : Ret F → Prog (TpuEff nD τ sig (Elt F) Λ₀ .tc) PUnit // cc0_conv_ffn i M2 h2 M3 h3 M4 h4 M5 h5 M6 h6 M7 h7 M8 h8 M9 h9 M10 h10 M11 h11 M12 h12 S13 = k0_part27 i M2 h2 M3 h3 M4 h4 M5 h5 M6 h6 M7 h7 M8 h8 M9 h9 M10 h10 M11 h11 M12 h12 S13 >>= K} :=
  by
  refine ⟨?K, ?h⟩
  case h =>
    unfold cc0_conv_ffn k0_part141
    refine (bind_assoc (m := Prog (TpuEff nD τ sig (Elt F) Λ₀ .tc)) _ _ _).trans ?_
    rfl

/-- The tile's computation after the first part: what it leaves in the output window and in the scratch, as functions
    of what it finds. -/
def tailRun (c : Dev nD) (i : grid0.Coords)
    (M2 : Memref sig .tc .vmem S1x8x512x128 .f32) (h2 : M2.IsWhole) (M3 : Memref sig .tc .vmem S1x1024 .f32) (h3 : M3.IsWhole) (M4 : Memref sig .tc .hbm S1024x5632 .f32) (h4 : M4.IsWhole) (M5 : Memref sig .tc .vmem S3x5632 .f32) (h5 : M5.IsWhole) (M6 : Memref sig .tc .hbm S2816x1024 .f32) (h6 : M6.IsWhole) (M7 : Memref sig .tc .vmem S1x512x1024 .f32) (h7 : M7.IsWhole) (M8 : Memref sig .tc .vmem S8x512x128 .f32) (h8 : M8.IsWhole) (M9 : Memref sig .tc .vmem S11x784x512 .f32) (h9 : M9.IsWhole) (M10 : Memref sig .tc .vmem S11x512x256 .bf16) (h10 : M10.IsWhole) (M11 : Memref sig .tc .vmem S1024x5632 .bf16) (h11 : M11.IsWhole) (M12 : Memref sig .tc .vmem S2816x1024 .bf16) (h12 : M12.IsWhole) (S13 : DmaSems sig S11) (r : Ret F)
    (f2 : Bf (F := F) c M2) (f3 : Bf (F := F) c M3) (f5 : Bf (F := F) c M5) (f9 : Bf (F := F) c M9) (f11 : Bf (F := F) c M11) (f12 : Bf (F := F) c M12) :
    { W : Bf (F := F) c M7 × Bf (F := F) c M9 //
      ∀ (f7 : Bf (F := F) c M7) (f8 : Bf (F := F) c M8) (f10 : Bf (F := F) c M10) (E : Set ℕ) (Q : PUnit → sProp 𝕄),
        iprop(pt c M2 f2 ∗ pt c M3 f3 ∗ pt c M5 f5 ∗ pt c M7 f7 ∗ pt c M8 f8 ∗ pt c M9 f9 ∗ pt c M10 f10 ∗ pt c M11 f11 ∗ pt c M12 f12
          ∗ (iprop(pt c M2 f2 ∗ pt c M3 f3 ∗ pt c M5 f5 ∗ pt c M7 W.1 ∗ pt c M9 W.2 ∗ pt c M11 f11 ∗ pt c M12 f12
                ∗ (∃ f, pt c M8 f) ∗ (∃ f, pt c M10 f)) -∗ Q ⟨⟩))
        ⊢ wp frame (wpE (defs₀ (F := F)) Variants.none c none) E
            ((tailOf (F := F) i M2 h2 M3 h3 M4 h4 M5 h5 M6 h6 M7 h7 M8 h8 M9 h9 M10 h10 M11 h11 M12 h12 S13).1 r) Q } := by
  refine ⟨⟨?_, ?_⟩, fun f7 f8 f10 E Q => ?run⟩
  case run =>
    unfold tailOf
    dsimp only
    iintro ⟨H2, H3, H5, H7, H8, H9, H10, H11, H12, Hk⟩
    set_option sl_exec.stridedRows true in
    sl_exec_parts!
    sl_step
    iapply Hk
    isplitl [H2]; · iexact H2
    isplitl [H3]; · iexact H3
    isplitl [H5]; · iexact H5
    isplitl [H7]; · iexact H7
    isplitl [H9]; · iexact H9
    isplitl [H11]; · iexact H11
    isplitl [H12]; · iexact H12
    isplitl [H8]; · iexists _; iexact H8
    iexists _; iexact H10

/-- At every later point the first part only reads the first tokens. -/
def laterRun (c : Dev nD) (i : grid0.Coords)
    (hc1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1))
    (hc2 : ¬ (Scalar.cmpi .ne (Scalar.extui (Scalar.cmpi .eq (BitVec.ofNat 32 (i 1).val) 0#32) : BitVec 32) 0#32 = 1#1))
    (M2 : Memref sig .tc .vmem S1x8x512x128 .f32) (h2 : M2.IsWhole) (M3 : Memref sig .tc .vmem S1x1024 .f32) (h3 : M3.IsWhole) (M4 : Memref sig .tc .hbm S1024x5632 .f32) (h4 : M4.IsWhole) (M5 : Memref sig .tc .vmem S3x5632 .f32) (h5 : M5.IsWhole) (M6 : Memref sig .tc .hbm S2816x1024 .f32) (h6 : M6.IsWhole) (M7 : Memref sig .tc .vmem S1x512x1024 .f32) (h7 : M7.IsWhole) (M8 : Memref sig .tc .vmem S8x512x128 .f32) (h8 : M8.IsWhole) (M9 : Memref sig .tc .vmem S11x784x512 .f32) (h9 : M9.IsWhole) (M10 : Memref sig .tc .vmem S11x512x256 .bf16) (h10 : M10.IsWhole) (M11 : Memref sig .tc .vmem S1024x5632 .bf16) (h11 : M11.IsWhole) (M12 : Memref sig .tc .vmem S2816x1024 .bf16) (h12 : M12.IsWhole) (S13 : DmaSems sig S11) (f2 : Bf (F := F) c M2) :
    { X : Ret F // ∀ (Q : Ret F → sProp 𝕄), iprop(pt c M2 f2 ∗ (pt c M2 f2 -∗ Q X))
        ⊢ wp frame (wpE (defs₀ (F := F)) Variants.none c none) Set.univ (k0_part27 i M2 h2 M3 h3 M4 h4 M5 h5 M6 h6 M7 h7 M8 h8 M9 h9 M10 h10 M11 h11 M12 h12 S13) Q } := by
  refine ⟨?_, fun Q => ?run⟩
  case run =>
    rw [k0_part27_eq_skeleton]; unfold k0_part27_skel
    iintro ⟨H2, Hk⟩
    set_option sl_exec.stridedRows true in
    sl_exec_parts! (disch := first | exact hc1 | exact hc2)
    sl_step
    iapply Hk
    iexact H2

end Cert.KernelIdeal.Ffn

end
-- ==== Proof.KernelIdeal.Frame.lean ====
module

public import proofs.«01_k».proof.Proof.KernelIdeal.Tail
public import Idealize.ShloMosaic.Lib.Pipeline.FrameBody
public import proofs.«01_k».proof.Proof.Gen.KernelIdeal.Skeleton
public import proofs.«01_k».proof.Proof.Gen.KernelIdeal.Frame
public import Idealize.ShloMosaic.Lib.Tactic

@[expose] public section

set_option pp.maxSteps 300
set_option maxRecDepth 65536
set_option maxHeartbeats 0

noncomputable section

namespace Cert.KernelIdeal.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The conditions of the body at the points -/

theorem first_conds (t : Fin grid0.N) (h : t.val = 0) : (Scalar.cmpi .ne (Scalar.extui (Scalar.andi (Scalar.cmpi .eq (BitVec.ofNat 32 (grid0.coords t 0).val) 0#32) (Scalar.cmpi .eq (BitVec.ofNat 32 (grid0.coords t 1).val) 0#32)) : BitVec 32) 0#32 = 1#1) ∧ (Scalar.cmpi .ne (Scalar.extui (Scalar.cmpi .eq (BitVec.ofNat 32 (grid0.coords t 1).val) 0#32) : BitVec 32) 0#32 = 1#1) := by
  revert t; decide
theorem later_conds (t : Fin grid0.N) (h : t.val ≠ 0) : ¬ (Scalar.cmpi .ne (Scalar.extui (Scalar.andi (Scalar.cmpi .eq (BitVec.ofNat 32 (grid0.coords t 0).val) 0#32) (Scalar.cmpi .eq (BitVec.ofNat 32 (grid0.coords t 1).val) 0#32)) : BitVec 32) 0#32 = 1#1) ∧ ¬ (Scalar.cmpi .ne (Scalar.extui (Scalar.cmpi .eq (BitVec.ofNat 32 (grid0.coords t 1).val) 0#32) : BitVec 32) 0#32 = 1#1) := by
  revert t; decide

/-! ## The invariant -/

/-- The body's own counters. -/
abbrev osem0 : Fin 11 → SemLoc sig := ![SemLoc.dma 6, SemLoc.dma 7, SemLoc.dma 8, SemLoc.dma 9, SemLoc.dma 10, SemLoc.dma 11, SemLoc.dma 12, SemLoc.dma 13, SemLoc.dma 14, SemLoc.dma 15, SemLoc.dma 16]
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄) = idle c := by
  rw [Pipeline.ownSems0_eq_of_list c osem0 [0, 1, 2, 3, 4, 5, 6, 7, 8, 9, 10] (by decide) (by decide)]; rfl
/-- The two weights, which the body's own transfers read where they lie. -/
def H0 : Finset (Ref sig .tc) := {main_v1, main_v3}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c (Memref.whole main_v1) (V m c main_v1) ∗ pt c (Memref.whole main_v3) (V m c main_v3)) := by
  rw [BI.bigSep_eq_bigSepL_of_eq [main_v1, main_v3] (by decide) (by decide)]; rfl
theorem PhiD0_eq (c : Dev nD) :
    (Pipeline.ΦD osem0 spec0 H0 (V m) c : sProp 𝕄)
      = iprop(iprop((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f)) ∗ (∃ r, prngReg c r) ∗ idle c
          ∗ iprop(pt c (Memref.whole main_v1) (V m c main_v1) ∗ pt c (Memref.whole main_v3) (V m c main_v3))) := by
  rw [Pipeline.ΦD_eq, scopedRest0_eq, ownSems00_eq, hbmPts0_eq]

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem defs₀_row (t : Fin cfg0.N) : defs₀ (F := F) .tc cfg0.body (cfg0.bodyArgs t (cfg0.slots t)) = bodyAt0 t := by
  unfold defs₀; rw [Defs.onTc_tc]

/-! ## The frame: what every window is left at goes unnamed -/

def forgets0 : Fin 4 → Bool := fun _ => true

def dats (_ : Fin 1) (c : Dev nD) : Dat τ (Elt F) Unit ℕ (Pipeline.UD sig nD τ) ℕ cfg0 c where
  A w := V m c (Pipeline.arrRef spec0 w)
  after w t := Pipeline.Dat.unnamed (cfg := cfg0) w t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]

def bodyWins (c : Dev nD) (t : Fin cfg0.N) : sProp 𝕄 :=
  iprop((∃ d, owns (c : Thread nD τ) (win0_0.stage (cfg0.slots t 0)) fullShare d) ∗ (∃ d, owns (c : Thread nD τ) (win0_1.stage (cfg0.slots t 1)) fullShare d)
    ∗ (∃ d, owns (c : Thread nD τ) (win0_2.stage (cfg0.slots t 2)) fullShare d) ∗ (∃ d, owns (c : Thread nD τ) (win0_3.stage (cfg0.slots t 3)) fullShare d))

/-- A whole memref held at anything is its buffer held whole. -/
theorem opened (c : Dev nD) {sp : Space} {S : Shape} {e : EltTy} (M : Memref sig .tc sp S e) (h : M.IsWhole) :
    iprop(∃ d, owns (c : Thread nD τ) M fullShare d) ⊢ (iprop(∃ f : Bf (F := F) c M, pt c M f) : sProp 𝕄) := by
  iintro ⟨%d, H⟩; unfold owns; icases H with ⟨%f, -, H⟩; rw [h.set_eq_univ]; iexists f; iexact H
theorem closed (c : Dev nD) {sp : Space} {S : Shape} {e : EltTy} (M : Memref sig .tc sp S e) (h : M.IsWhole) (f : Bf (F := F) c M) :
    pt c M f ⊢ (iprop(∃ d, owns (c : Thread nD τ) M fullShare d) : sProp 𝕄) := by
  iintro H; unfold owns; rw [h.set_eq_univ]; iexists _, f; isplitr; · ipureintro; rfl
  iexact H

theorem sound_body (c : Dev nD) (t : Fin cfg0.N) :
    iprop((dats m 0 c).Φ t.castSucc ∗ (dats m 0 c).owesAt () t.castSucc ∗ bodyWins (F := F) c t)
      ⊢ wp frame (wpE (defs₀ (F := F)) Variants.none c none) Set.univ (bodyAt0 t)
          (fun _ => iprop((dats m 0 c).Φ t.succ ∗ (dats m 0 c).owesAt () t.succ ∗ bodyWins (F := F) c t)) := by
  unfold bodyWins bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq]
  unfold Dat.owesAt Pipeline.owesWithin
  rw [show (dats m 0 c).owed t.castSucc = 0 from rfl]
  iintro ⟨⟨⟨⟨%f8, H8⟩, ⟨%f9, H9⟩, ⟨%f10, H10⟩, ⟨%f11, H11⟩, ⟨%f12, H12⟩⟩, Hg, Hq, ⟨H4, H6⟩⟩, ⟨%W, %hW, HO⟩, H2, H3, H5, H7⟩
  ihave H2 := (opened c (win0_0.stage (cfg0.slots t 0)) (hstage0_0 ((cfg0.slots t 0).cast nbuf0_0))) $$ H2
  ihave H3 := (opened c (win0_1.stage (cfg0.slots t 1)) (hstage0_1 ((cfg0.slots t 1).cast nbuf0_1))) $$ H3
  ihave H5 := (opened c (win0_2.stage (cfg0.slots t 2)) (hstage0_2 ((cfg0.slots t 2).cast nbuf0_2))) $$ H5
  ihave H7 := (opened c (win0_3.stage (cfg0.slots t 3)) (hstage0_3 ((cfg0.slots t 3).cast nbuf0_3))) $$ H7
  icases H2 with ⟨%f2, H2⟩
  icases H3 with ⟨%f3, H3⟩
  icases H5 with ⟨%f5, H5⟩
  icases H7 with ⟨%f7, H7⟩
  rw [(tailOf (F := F) (grid0.coords t) (win0_0.stage (cfg0.slots t 0)) (hstage0_0 ((cfg0.slots t 0).cast nbuf0_0)) (win0_1.stage (cfg0.slots t 1)) (hstage0_1 ((cfg0.slots t 1).cast nbuf0_1)) (Memref.whole main_v1) (Memref.isWhole_whole _) (win0_2.stage (cfg0.slots t 2)) (hstage0_2 ((cfg0.slots t 2).cast nbuf0_2)) (Memref.whole main_v3) (Memref.isWhole_whole _) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5).2, wp_bind]
  by_cases h0 : t.val = 0
  · iapply ((fetchRun c (grid0.coords t) (first_conds t h0).1 (first_conds t h0).2 (win0_0.stage (cfg0.slots t 0)) (hstage0_0 ((cfg0.slots t 0).cast nbuf0_0)) (win0_1.stage (cfg0.slots t 1)) (hstage0_1 ((cfg0.slots t 1).cast nbuf0_1)) (Memref.whole main_v1) (Memref.isWhole_whole _) (win0_2.stage (cfg0.slots t 2)) (hstage0_2 ((cfg0.slots t 2).cast nbuf0_2)) (Memref.whole main_v3) (Memref.isWhole_whole _) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f2 (V m c main_v1) (V m c main_v3) f9).2 f11 f12 W _)
    isplitl [H2]; · iexact H2
    isplitl [H4]; · iexact H4
    isplitl [H6]; · iexact H6
    isplitl [H9]; · iexact H9
    isplitl [H11]; · iexact H11
    isplitl [H12]; · iexact H12
    isplitl [Hq]; · iexact Hq
    isplitl [HO]; · iexact HO
    iintro ⟨H2, H4, H6, H11, H12, ⟨%g9, H9⟩, Hq, HO⟩
    iapply ((tailRun c (grid0.coords t) (win0_0.stage (cfg0.slots t 0)) (hstage0_0 ((cfg0.slots t 0).cast nbuf0_0)) (win0_1.stage (cfg0.slots t 1)) (hstage0_1 ((cfg0.slots t 1).cast nbuf0_1)) (Memref.whole main_v1) (Memref.isWhole_whole _) (win0_2.stage (cfg0.slots t 2)) (hstage0_2 ((cfg0.slots t 2).cast nbuf0_2)) (Memref.whole main_v3) (Memref.isWhole_whole _) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 _ _ _ _ _ _ _).2 f7 f8 f10 _ _)
    isplitl [H2]; · iexact H2
    isplitl [H3]; · iexact H3
    isplitl [H5]; · iexact H5
    isplitl [H7]; · iexact H7
    isplitl [H8]; · iexact H8
    isplitl [H9]; · iexact H9
    isplitl [H10]; · iexact H10
    isplitl [H11]; · iexact H11
    isplitl [H12]; · iexact H12
    iintro ⟨H2, H3, H5, H7, H9, H11, H12, H8, H10⟩
    isplitl [H8 H9 H10 H11 H12 Hg Hq H4 H6]
    · isplitl [H8 H9 H10 H11 H12]
      · isplitl [H8]; · iexact H8
        isplitl [H9]; · iexists _; iexact H9
        isplitl [H10]; · iexact H10
        isplitl [H11]; · iexists _; iexact H11
        iexists _; iexact H12
      isplitl [Hg]; · iexact Hg
      isplitl [Hq]; · iexact Hq
      isplitl [H4]; · iexact H4
      iexact H6
    isplitl [HO]
    · icases HO with ⟨%W', HO⟩
      iexists W'; isplitr; · ipureintro; exact fun _ _ => Or.inl trivial
      iexact HO
    isplitl [H2]; · iapply (closed c (win0_0.stage (cfg0.slots t 0)) (hstage0_0 ((cfg0.slots t 0).cast nbuf0_0)) _); iexact H2
    isplitl [H3]; · iapply (closed c (win0_1.stage (cfg0.slots t 1)) (hstage0_1 ((cfg0.slots t 1).cast nbuf0_1)) _); iexact H3
    isplitl [H5]; · iapply (closed c (win0_2.stage (cfg0.slots t 2)) (hstage0_2 ((cfg0.slots t 2).cast nbuf0_2)) _); iexact H5
    iapply (closed c (win0_3.stage (cfg0.slots t 3)) (hstage0_3 ((cfg0.slots t 3).cast nbuf0_3)) _); iexact H7
  · iapply ((laterRun c (grid0.coords t) (later_conds t h0).1 (later_conds t h0).2 (win0_0.stage (cfg0.slots t 0)) (hstage0_0 ((cfg0.slots t 0).cast nbuf0_0)) (win0_1.stage (cfg0.slots t 1)) (hstage0_1 ((cfg0.slots t 1).cast nbuf0_1)) (Memref.whole main_v1) (Memref.isWhole_whole _) (win0_2.stage (cfg0.slots t 2)) (hstage0_2 ((cfg0.slots t 2).cast nbuf0_2)) (Memref.whole main_v3) (Memref.isWhole_whole _) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 f2).2 _)
    isplitl [H2]; · iexact H2
    iintro H2
    ihave HO : iprop(∃ W', owes (c : Thread nD τ) 0 W') $$ [HO]
    · iexists W; iexact HO
    iapply ((tailRun c (grid0.coords t) (win0_0.stage (cfg0.slots t 0)) (hstage0_0 ((cfg0.slots t 0).cast nbuf0_0)) (win0_1.stage (cfg0.slots t 1)) (hstage0_1 ((cfg0.slots t 1).cast nbuf0_1)) (Memref.whole main_v1) (Memref.isWhole_whole _) (win0_2.stage (cfg0.slots t 2)) (hstage0_2 ((cfg0.slots t 2).cast nbuf0_2)) (Memref.whole main_v3) (Memref.isWhole_whole _) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 _ _ _ _ _ _ _).2 f7 f8 f10 _ _)
    isplitl [H2]; · iexact H2
    isplitl [H3]; · iexact H3
    isplitl [H5]; · iexact H5
    isplitl [H7]; · iexact H7
    isplitl [H8]; · iexact H8
    isplitl [H9]; · iexact H9
    isplitl [H10]; · iexact H10
    isplitl [H11]; · iexact H11
    isplitl [H12]; · iexact H12
    iintro ⟨H2, H3, H5, H7, H9, H11, H12, H8, H10⟩
    isplitl [H8 H9 H10 H11 H12 Hg Hq H4 H6]
    · isplitl [H8 H9 H10 H11 H12]
      · isplitl [H8]; · iexact H8
        isplitl [H9]; · iexists _; iexact H9
        isplitl [H10]; · iexact H10
        isplitl [H11]; · iexists _; iexact H11
        iexists _; iexact H12
      isplitl [Hg]; · iexact Hg
      isplitl [Hq]; · iexact Hq
      isplitl [H4]; · iexact H4
      iexact H6
    isplitl [HO]
    · icases HO with ⟨%W', HO⟩
      iexists W'; isplitr; · ipureintro; exact fun _ _ => Or.inl trivial
      iexact HO
    isplitl [H2]; · iapply (closed c (win0_0.stage (cfg0.slots t 0)) (hstage0_0 ((cfg0.slots t 0).cast nbuf0_0)) _); iexact H2
    isplitl [H3]; · iapply (closed c (win0_1.stage (cfg0.slots t 1)) (hstage0_1 ((cfg0.slots t 1).cast nbuf0_1)) _); iexact H3
    isplitl [H5]; · iapply (closed c (win0_2.stage (cfg0.slots t 2)) (hstage0_2 ((cfg0.slots t 2).cast nbuf0_2)) _); iexact H5
    iapply (closed c (win0_3.stage (cfg0.slots t 3)) (hstage0_3 ((cfg0.slots t 3).cast nbuf0_3)) _); iexact H7

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- The program ends on every schedule without a fault, with its arguments unchanged and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.KernelIdeal.Ffn

end
-- ==== Proof.KernelIdeal.Pieces.lean ====
module

public import proofs.«01_k».proof.Proof.KernelIdeal.Tail

@[expose] public section

set_option maxRecDepth 65536
set_option maxHeartbeats 0

noncomputable section

/-! What a tile's computation stores, in a form that is the same for every chunk of 256 gate columns. -/

namespace Cert.KernelIdeal.Ffn

open Cert.KernelIdeal Cert.KernelIdeal.Gen
open Idealize.ShloMosaic

variable {F : FTy → Type} [FloatOps F] [Named F]
variable (c : Dev nD) (M2 : Memref sig .tc .vmem S1x8x512x128 .f32) (M3 : Memref sig .tc .vmem S1x1024 .f32) (M5 : Memref sig .tc .vmem S3x5632 .f32)
  (M8 : Memref sig .tc .vmem S8x512x128 .f32) (M9 : Memref sig .tc .vmem S11x784x512 .f32) (M10 : Memref sig .tc .vmem S11x512x256 .bf16) (M11 : Memref sig .tc .vmem S1024x5632 .bf16) (M12 : Memref sig .tc .vmem S2816x1024 .bf16)
  (r : Ret F) (f2 : Bf (F := F) c M2) (f3 : Bf (F := F) c M3) (f5 : Bf (F := F) c M5) (f9 : Bf (F := F) c M9) (f11 : Bf (F := F) c M11) (f12 : Bf (F := F) c M12)

/-- A box that fits, its offsets being below the bound coordinate by coordinate. -/
theorem fits3 {n0 n1 n2 a b d p q s : ℕ} (h0 : a + p ≤ n0) (h1 : b + q ≤ n1) (h2 : d + s ≤ n2) :
    ∀ x : Fin (⟨3, ![n0, n1, n2]⟩ : Shape).rank, (![a, b, d] : Fin 3 → ℕ) x + (![p, q, s] : Fin 3 → ℕ) x ≤ (⟨3, ![n0, n1, n2]⟩ : Shape).size x := by
  intro x; match x with
  | ⟨0, _⟩ => exact h0
  | ⟨1, _⟩ => exact h1
  | ⟨2, _⟩ => exact h2
theorem fits2 {n0 n1 a b p q : ℕ} (h0 : a + p ≤ n0) (h1 : b + q ≤ n1) :
    ∀ x : Fin (⟨2, ![n0, n1]⟩ : Shape).rank, (![a, b] : Fin 2 → ℕ) x + (![p, q] : Fin 2 → ℕ) x ≤ (⟨2, ![n0, n1]⟩ : Shape).size x := by
  intro x; match x with
  | ⟨0, _⟩ => exact h0
  | ⟨1, _⟩ => exact h1

/-- The box of `n` rows from row `b` of plane `k` of the up-projections' scratch. -/
abbrev box (k : Fin 11) (b : ℕ) (hb : b + 64 ≤ 784) : Rect S11x784x512 :=
  Rect.unit (s := S11x784x512) ![k.val, b, 0] S1x64x512.size (fits3 (by omega) hb (by omega))

/-- The gate's and the value's columns of the up-projection for chunk `k`, side by side. -/
def pairUp (k : Fin 11) : FVec F S1024x512 .bf16 :=
  concatenate S1024x512 1 [⟨S1024x256, M11.view.readAt (Elt F) (Rect.unit (s := S1024x5632) ![0, 256 * k.val] S1024x256.size (fits2 (by omega) (by omega))).toLoadRect f11⟩,
    ⟨S1024x256, M11.view.readAt (Elt F) (Rect.unit (s := S1024x5632) ![0, 2816 + 256 * k.val] S1024x256.size (fits2 (by omega) (by omega))).toLoadRect f11⟩] concatenates_S1024x256_S1024x256_S1024x512_d1

/-- The up-projection of the tile's tokens for chunk `k`. -/
def upVal (k : Fin 11) : FVec F S512x512 .f32 :=
  mulf (matmul dot_S512x1024_S1024x512_S512x512_1_0_0_1_n_n none (tailRun.sl.v89 c M2 M3 r f2 f3) (pairUp c M11 f11 k) (constant S512x512 .f32 0x00000000#32))
    (broadcastTo S512x512 (tailRun.sl.v84 c M2 r f2) broadcasts_S512x1_S512x512)

/-- The three stores of chunk `k`'s up-projection, latest first: the rows of the last quarter and of the third quarter moved
    by one, and all of it. -/
def upPut (k : Fin 11) (L : List (View.Piece (Elt F) S11x784x512 .f32)) : List (View.Piece (Elt F) S11x784x512 .f32) :=
  ⟨Rect.unit (s := S11x784x512) ![k.val, 649, 0] S1x128x512.size (fits3 (by omega) (by omega) (by omega)), shapeCast S1x128x512 (extractStridedSlice S128x512 ![384, 0] (upVal c M2 M3 M11 r f2 f3 f11 k) slices_S512x512_o384_0_S128x512) shapeCasts_S128x512_S1x128x512⟩
  :: ⟨Rect.unit (s := S11x784x512) ![k.val, 513, 0] S1x128x512.size (fits3 (by omega) (by omega) (by omega)), shapeCast S1x128x512 (extractStridedSlice S128x512 ![256, 0] (upVal c M2 M3 M11 r f2 f3 f11 k) slices_S512x512_o256_0_S128x512) shapeCasts_S128x512_S1x128x512⟩
  :: ⟨Rect.unit (s := S11x784x512) ![k.val, 0, 0] S1x512x512.size (fits3 (by omega) (by omega) (by omega)), shapeCast S1x512x512 (upVal c M2 M3 M11 r f2 f3 f11 k) shapeCasts_S512x512_S1x512x512⟩
  :: L

/-- The stores of the first `n` chunks' up-projections. -/
def upList : ℕ → List (View.Piece (Elt F) S11x784x512 .f32)
  | 0 => []
  | n + 1 => upPut c M2 M3 M11 r f2 f3 f11 (Fin.ofNat 11 n) (upList n)

theorem up2 : tailRun.sl.H9_6 c M2 M3 M11 r f2 f3 f11 = upList c M2 M3 M11 r f2 f3 f11 2 := rfl
theorem up3 : tailRun.sl.H9_9 c M2 M3 M11 r f2 f3 f11 = upPut c M2 M3 M11 r f2 f3 f11 2 (tailRun.sl.H9_6 c M2 M3 M11 r f2 f3 f11) := rfl
theorem up4 : tailRun.sl.H9_12 c M2 M3 M11 r f2 f3 f11 = upPut c M2 M3 M11 r f2 f3 f11 3 (tailRun.sl.H9_9 c M2 M3 M11 r f2 f3 f11) := rfl
theorem up5 : tailRun.sl.H9_15 c M2 M3 M11 r f2 f3 f11 = upPut c M2 M3 M11 r f2 f3 f11 4 (tailRun.sl.H9_12 c M2 M3 M11 r f2 f3 f11) := rfl
theorem up6 : tailRun.sl.H9_18 c M2 M3 M11 r f2 f3 f11 = upPut c M2 M3 M11 r f2 f3 f11 5 (tailRun.sl.H9_15 c M2 M3 M11 r f2 f3 f11) := rfl
theorem up7 : tailRun.sl.H9_21 c M2 M3 M11 r f2 f3 f11 = upPut c M2 M3 M11 r f2 f3 f11 6 (tailRun.sl.H9_18 c M2 M3 M11 r f2 f3 f11) := rfl
theorem up8 : tailRun.sl.H9_24 c M2 M3 M11 r f2 f3 f11 = upPut c M2 M3 M11 r f2 f3 f11 7 (tailRun.sl.H9_21 c M2 M3 M11 r f2 f3 f11) := rfl
theorem up9 : tailRun.sl.H9_27 c M2 M3 M11 r f2 f3 f11 = upPut c M2 M3 M11 r f2 f3 f11 8 (tailRun.sl.H9_24 c M2 M3 M11 r f2 f3 f11) := rfl
theorem up10 : tailRun.sl.H9_30 c M2 M3 M11 r f2 f3 f11 = upPut c M2 M3 M11 r f2 f3 f11 9 (tailRun.sl.H9_27 c M2 M3 M11 r f2 f3 f11) := rfl
theorem up11 : tailRun.sl.H9_33 c M2 M3 M11 r f2 f3 f11 = upPut c M2 M3 M11 r f2 f3 f11 10 (tailRun.sl.H9_30 c M2 M3 M11 r f2 f3 f11) := rfl
/-- The convolution's weights for chunk `k`, the gate's and the value's side by side. -/
def pairCw (k : Fin 11) : FVec F S3x512 .f32 :=
  concatenate S3x512 1 [⟨S3x256, shapeCast S3x256 (M5.view.readAt (Elt F) (Rect.unit (s := S3x5632) ![0, 256 * k.val] S3x256.size (fits2 (by omega) (by omega))).toLoadRect f5) shapeCasts_S3x256_S3x256⟩,
    ⟨S3x256, shapeCast S3x256 (M5.view.readAt (Elt F) (Rect.unit (s := S3x5632) ![0, 2816 + 256 * k.val] S3x256.size (fits2 (by omega) (by omega))).toLoadRect f5) shapeCasts_S3x256_S3x256⟩] concatenates_S3x256_S3x256_S3x512_d1

/-- A piece of 64 rows with the zeros of the token chained to its gate columns. -/
def chained (z : FVec F S64x512 .f32) : FVec F S64x512 .f32 :=
  concatenate S64x512 1 [⟨S64x256, addf (extractStridedSlice S64x256 ![0, 0] z slices_S64x512_o0_0_S64x256)
      (concatenate S64x256 1 [⟨S64x128, tailRun.sl.v350⟩, ⟨S64x128, tailRun.sl.v350⟩] concatenates_S64x128_S64x128_S64x256_d1)⟩,
    ⟨S64x256, extractStridedSlice S64x256 ![0, 256] z slices_S64x512_o0_256_S64x256⟩] concatenates_S64x256_S64x256_S64x512_d1

/-- The convolution of 64 rows: the rows two tokens before, one token before, and the rows themselves. -/
def conv (w : FVec F S3x512 .f32) (s2 s1 z : FVec F S64x512 .f32) : FVec F S64x512 .f32 :=
  addf (addf (mulf (broadcastTo S64x512 (extractStridedSlice S1x512 ![0, 0] w slices_S3x512_o0_0_S1x512) broadcasts_S1x512_S64x512) s2)
      (mulf (broadcastTo S64x512 (extractStridedSlice S1x512 ![1, 0] w slices_S3x512_o1_0_S1x512) broadcasts_S1x512_S64x512) s1))
    (mulf (broadcastTo S64x512 (extractStridedSlice S1x512 ![2, 0] w slices_S3x512_o2_0_S1x512) broadcasts_S1x512_S64x512) z)

/-- The gate: its columns through the sigmoid, times the value's columns. -/
def gated (y : FVec F S64x512 .f32) : FVec F S1x64x256 .bf16 :=
  shapeCast S1x64x256 (truncf .bf16 (mulf (divf (extractStridedSlice S64x256 ![0, 0] y slices_S64x512_o0_0_S64x256)
      (addf (broadcast S64x256 (Scalar.ofBits .f32 0x3F800000#32)) (exp2 (mulf (extractStridedSlice S64x256 ![0, 0] y slices_S64x512_o0_0_S64x256) (broadcast S64x256 (Named.named κ "neg_log2e" 0xBFB8AA3B#32))))))
    (extractStridedSlice S64x256 ![0, 256] y slices_S64x512_o0_256_S64x256)) bitsLt_bf16_f32) shapeCasts_S64x256_S1x64x256

/-- Sixty-four rows read back after the stores `L`. -/
abbrev cov (L : List (View.Piece (Elt F) S11x784x512 .f32)) (k : Fin 11) (b : ℕ) (hb : b + 64 ≤ 784) : FVec F S64x512 .f32 :=
  shapeCast S64x512 (M9.view.readCov (Val := Elt F) L (box k b hb).toLoadRect : FVec F S1x64x512 .f32) shapeCasts_S1x64x512_S64x512
/-- The same where the first row is the one carried from the tile before. -/
abbrev car (L : List (View.Piece (Elt F) S11x784x512 .f32)) (k : Fin 11) (b : ℕ) (hb : b + 64 ≤ 784) : FVec F S64x512 .f32 :=
  shapeCast S64x512 (M9.view.readAt (Elt F) (box k b hb).toLoadRect (M9.view.writes (Elt F) f9 L) : FVec F S1x64x512 .f32) shapeCasts_S1x64x512_S64x512

/-- The eighth `q` of chunk `k`'s rows, two tokens before, after the stores `L`. -/
def back2 (L : List (View.Piece (Elt F) S11x784x512 .f32)) (k : Fin 11) : Fin 8 → FVec F S64x512 .f32
  | 0 => car c M9 f9 L k 512 (by omega)
  | 1 => cov M9 L k 576 (by omega)
  | 2 => car c M9 f9 L k 648 (by omega)
  | 3 => cov M9 L k 712 (by omega)
  | 4 => cov M9 L k 0 (by omega)
  | 5 => cov M9 L k 64 (by omega)
  | 6 => cov M9 L k 128 (by omega)
  | 7 => cov M9 L k 192 (by omega)
/-- The same, one token before. -/
def back1 (L : List (View.Piece (Elt F) S11x784x512 .f32)) (k : Fin 11) : Fin 8 → FVec F S64x512 .f32
  | 0 => car c M9 f9 L k 648 (by omega)
  | 1 => cov M9 L k 712 (by omega)
  | 2 => cov M9 L k 0 (by omega)
  | 3 => cov M9 L k 64 (by omega)
  | 4 => cov M9 L k 128 (by omega)
  | 5 => cov M9 L k 192 (by omega)
  | 6 => cov M9 L k 256 (by omega)
  | 7 => cov M9 L k 320 (by omega)

/-- The store of the eighth `q` of chunk `k`'s gated rows. -/
def gatePiece (L : List (View.Piece (Elt F) S11x784x512 .f32)) (k : Fin 11) (q : Fin 8) (z : FVec F S64x512 .f32) : View.Piece (Elt F) S11x512x256 .bf16 :=
  ⟨Rect.unit (s := S11x512x256) ![k.val, 64 * q.val, 0] S1x64x256.size (fits3 (by omega) (by omega) (by omega)),
    gated (conv (pairCw c M5 f5 k) (back2 c M9 f9 L k q) (back1 c M9 f9 L k q) z)⟩

/-- The eight stores of chunk `k`'s gated rows, latest first; the very first piece has no token to be chained to. -/
def gatePut (L : List (View.Piece (Elt F) S11x784x512 .f32)) (k : Fin 11) (z0 : FVec F S64x512 .f32) (G : List (View.Piece (Elt F) S11x512x256 .bf16)) : List (View.Piece (Elt F) S11x512x256 .bf16) :=
  gatePiece c M5 M9 f5 f9 L k 7 (chained (cov M9 L k 448 (by omega))) :: gatePiece c M5 M9 f5 f9 L k 6 (chained (cov M9 L k 384 (by omega)))
  :: gatePiece c M5 M9 f5 f9 L k 5 (chained (cov M9 L k 320 (by omega))) :: gatePiece c M5 M9 f5 f9 L k 4 (chained (cov M9 L k 256 (by omega)))
  :: gatePiece c M5 M9 f5 f9 L k 3 (chained (cov M9 L k 192 (by omega))) :: gatePiece c M5 M9 f5 f9 L k 2 (chained (cov M9 L k 128 (by omega)))
  :: gatePiece c M5 M9 f5 f9 L k 1 (chained (cov M9 L k 64 (by omega))) :: gatePiece c M5 M9 f5 f9 L k 0 z0 :: G

theorem gate1 : tailRun.sl.H10_8 c M2 M3 M5 M9 M11 r f2 f3 f5 f9 f11
    = gatePut c M5 M9 f5 f9 (tailRun.sl.H9_6 c M2 M3 M11 r f2 f3 f11) 0 (cov M9 (tailRun.sl.H9_6 c M2 M3 M11 r f2 f3 f11) 0 0 (by omega)) [] := rfl
theorem gate2 : tailRun.sl.H10_16 c M2 M3 M5 M9 M11 r f2 f3 f5 f9 f11
    = gatePut c M5 M9 f5 f9 (tailRun.sl.H9_9 c M2 M3 M11 r f2 f3 f11) 1 (chained (cov M9 (tailRun.sl.H9_9 c M2 M3 M11 r f2 f3 f11) 1 0 (by omega))) (tailRun.sl.H10_8 c M2 M3 M5 M9 M11 r f2 f3 f5 f9 f11) := rfl
theorem gate3 : tailRun.sl.H10_24 c M2 M3 M5 M9 M11 r f2 f3 f5 f9 f11
    = gatePut c M5 M9 f5 f9 (tailRun.sl.H9_12 c M2 M3 M11 r f2 f3 f11) 2 (chained (cov M9 (tailRun.sl.H9_12 c M2 M3 M11 r f2 f3 f11) 2 0 (by omega))) (tailRun.sl.H10_16 c M2 M3 M5 M9 M11 r f2 f3 f5 f9 f11) := rfl
theorem gate4 : tailRun.sl.H10_32 c M2 M3 M5 M9 M11 r f2 f3 f5 f9 f11
    = gatePut c M5 M9 f5 f9 (tailRun.sl.H9_15 c M2 M3 M11 r f2 f3 f11) 3 (chained (cov M9 (tailRun.sl.H9_15 c M2 M3 M11 r f2 f3 f11) 3 0 (by omega))) (tailRun.sl.H10_24 c M2 M3 M5 M9 M11 r f2 f3 f5 f9 f11) := rfl
theorem gate5 : tailRun.sl.H10_40 c M2 M3 M5 M9 M11 r f2 f3 f5 f9 f11
    = gatePut c M5 M9 f5 f9 (tailRun.sl.H9_18 c M2 M3 M11 r f2 f3 f11) 4 (chained (cov M9 (tailRun.sl.H9_18 c M2 M3 M11 r f2 f3 f11) 4 0 (by omega))) (tailRun.sl.H10_32 c M2 M3 M5 M9 M11 r f2 f3 f5 f9 f11) := rfl
theorem gate6 : tailRun.sl.H10_48 c M2 M3 M5 M9 M11 r f2 f3 f5 f9 f11
    = gatePut c M5 M9 f5 f9 (tailRun.sl.H9_21 c M2 M3 M11 r f2 f3 f11) 5 (chained (cov M9 (tailRun.sl.H9_21 c M2 M3 M11 r f2 f3 f11) 5 0 (by omega))) (tailRun.sl.H10_40 c M2 M3 M5 M9 M11 r f2 f3 f5 f9 f11) := rfl
theorem gate7 : tailRun.sl.H10_56 c M2 M3 M5 M9 M11 r f2 f3 f5 f9 f11
    = gatePut c M5 M9 f5 f9 (tailRun.sl.H9_24 c M2 M3 M11 r f2 f3 f11) 6 (chained (cov M9 (tailRun.sl.H9_24 c M2 M3 M11 r f2 f3 f11) 6 0 (by omega))) (tailRun.sl.H10_48 c M2 M3 M5 M9 M11 r f2 f3 f5 f9 f11) := rfl
theorem gate8 : tailRun.sl.H10_64 c M2 M3 M5 M9 M11 r f2 f3 f5 f9 f11
    = gatePut c M5 M9 f5 f9 (tailRun.sl.H9_27 c M2 M3 M11 r f2 f3 f11) 7 (chained (cov M9 (tailRun.sl.H9_27 c M2 M3 M11 r f2 f3 f11) 7 0 (by omega))) (tailRun.sl.H10_56 c M2 M3 M5 M9 M11 r f2 f3 f5 f9 f11) := rfl
theorem gate9 : tailRun.sl.H10_72 c M2 M3 M5 M9 M11 r f2 f3 f5 f9 f11
    = gatePut c M5 M9 f5 f9 (tailRun.sl.H9_30 c M2 M3 M11 r f2 f3 f11) 8 (chained (cov M9 (tailRun.sl.H9_30 c M2 M3 M11 r f2 f3 f11) 8 0 (by omega))) (tailRun.sl.H10_64 c M2 M3 M5 M9 M11 r f2 f3 f5 f9 f11) := rfl
theorem gate10 : tailRun.sl.H10_80 c M2 M3 M5 M9 M11 r f2 f3 f5 f9 f11
    = gatePut c M5 M9 f5 f9 (tailRun.sl.H9_33 c M2 M3 M11 r f2 f3 f11) 9 (chained (cov M9 (tailRun.sl.H9_33 c M2 M3 M11 r f2 f3 f11) 9 0 (by omega))) (tailRun.sl.H10_72 c M2 M3 M5 M9 M11 r f2 f3 f5 f9 f11) := rfl
theorem gate11 : tailRun.sl.H10_88 c M2 M3 M5 M9 M11 r f2 f3 f5 f9 f11
    = gatePut c M5 M9 f5 f9 (tailRun.sl.H9_33 c M2 M3 M11 r f2 f3 f11) 10 (chained (cov M9 (tailRun.sl.H9_33 c M2 M3 M11 r f2 f3 f11) 10 0 (by omega))) (tailRun.sl.H10_80 c M2 M3 M5 M9 M11 r f2 f3 f5 f9 f11) := rfl
end Cert.KernelIdeal.Ffn

end
-- ==== Proof.KernelIdeal.Elem.lean ====
module

public import proofs.«01_k».proof.Proof.KernelIdeal.Pieces
public import Idealize.ShloMosaic.Lib.Pointwise
public import Idealize.ShloMosaic.Lib.Writes
public import Idealize.ShloMosaic.Lib.WritesUnit
public import Idealize.ShloMosaic.PureOps.Ideal.Laws

@[expose] public section

set_option maxRecDepth 65536

noncomputable section

/-! The stored chunks read one element at a time, over the extended reals. -/

namespace Cert.KernelIdeal.Ffn

open Cert.KernelIdeal Cert.KernelIdeal.Gen
open Idealize.ShloMosaic

variable (c : Dev nD) (M2 : Memref sig .tc .vmem S1x8x512x128 .f32) (M3 : Memref sig .tc .vmem S1x1024 .f32) (M5 : Memref sig .tc .vmem S3x5632 .f32)
  (M8 : Memref sig .tc .vmem S8x512x128 .f32) (M9 : Memref sig .tc .vmem S11x784x512 .f32) (M10 : Memref sig .tc .vmem S11x512x256 .bf16) (M11 : Memref sig .tc .vmem S1024x5632 .bf16) (M12 : Memref sig .tc .vmem S2816x1024 .bf16)
  (r : Ret Ideal) (f2 : Bf (F := Ideal) c M2) (f3 : Bf (F := Ideal) c M3) (f5 : Bf (F := Ideal) c M5) (f9 : Bf (F := Ideal) c M9) (f11 : Bf (F := Ideal) c M11) (f12 : Bf (F := Ideal) c M12)

/-! ### Places -/

theorem ix2_congr {n0 n1 : ℕ} {a a' : Fin n0} {b b' : Fin n1} (h : a.val = a'.val) (h' : b.val = b'.val) : (ix2 a b : (⟨2, ![n0, n1]⟩ : Shape).Idx) = ix2 a' b' := by
  rw [Fin.ext h, Fin.ext h']
theorem ix3_congr {n0 n1 n2 : ℕ} {a a' : Fin n0} {b b' : Fin n1} {d d' : Fin n2} (h : a.val = a'.val) (h' : b.val = b'.val) (h'' : d.val = d'.val) :
    (ix3 a b d : (⟨3, ![n0, n1, n2]⟩ : Shape).Idx) = ix3 a' b' d' := by
  rw [Fin.ext h, Fin.ext h', Fin.ext h'']

section
variable {Val : EltTy → Type} {sp : Space} {e : EltTy}

/-- A store of a box, read at a place: what was stored there, or what was there before. -/
theorem read_box3 {n0 n1 n2 : ℕ} (v : View sig .tc sp (⟨3, ![n0, n1, n2]⟩ : Shape) e) (g : v.ty.Contents Val) {a b d p q s : ℕ}
    (inb : ∀ x : Fin (⟨3, ![n0, n1, n2]⟩ : Shape).rank, (![a, b, d] : Fin 3 → ℕ) x + (![p, q, s] : Fin 3 → ℕ) x ≤ (⟨3, ![n0, n1, n2]⟩ : Shape).size x)
    (w : (⟨3, ![p, q, s]⟩ : Shape).Idx → Val e) (L : List (View.Piece Val (⟨3, ![n0, n1, n2]⟩ : Shape) e)) (k : Fin n0) (m : Fin n1) (j : Fin n2) :
    v.read Val (v.writes Val g (⟨Rect.unit (s := (⟨3, ![n0, n1, n2]⟩ : Shape)) ![a, b, d] ![p, q, s] inb, w⟩ :: L)) (ix3 k m j)
      = if h : (a ≤ k.val ∧ k.val < a + p) ∧ (b ≤ m.val ∧ m.val < b + q) ∧ (d ≤ j.val ∧ j.val < d + s)
        then w (ix3 ⟨k.val - a, by omega⟩ ⟨m.val - b, by omega⟩ ⟨j.val - d, by omega⟩)
        else v.read Val (v.writes Val g L) (ix3 k m j) := by
  split
  · rename_i h
    refine View.read_writes_cons_unit_of_mem v g inb w L (ix3 k m j) _ rfl ?_
    intro x
    match x with
    | ⟨0, _⟩ => show k.val = a + (k.val - a); omega
    | ⟨1, _⟩ => show m.val = b + (m.val - b); omega
    | ⟨2, _⟩ => show j.val = d + (j.val - d); omega
  · rename_i h
    by_cases h0 : a ≤ k.val ∧ k.val < a + p
    · by_cases h1 : b ≤ m.val ∧ m.val < b + q
      · refine View.read_writes_cons_unit_of_not_mem v g inb w L (ix3 k m j) rfl (2 : Fin 3) ?_
        show j.val < d ∨ d + s ≤ j.val
        by_contra h2; exact h ⟨h0, h1, by omega⟩
      · refine View.read_writes_cons_unit_of_not_mem v g inb w L (ix3 k m j) rfl (1 : Fin 3) ?_
        show m.val < b ∨ b + q ≤ m.val
        omega
    · refine View.read_writes_cons_unit_of_not_mem v g inb w L (ix3 k m j) rfl (0 : Fin 3) ?_
      show k.val < a ∨ a + p ≤ k.val
      omega

theorem read_box2 {n0 n1 : ℕ} (v : View sig .tc sp (⟨2, ![n0, n1]⟩ : Shape) e) (g : v.ty.Contents Val) {a b p q : ℕ}
    (inb : ∀ x : Fin (⟨2, ![n0, n1]⟩ : Shape).rank, (![a, b] : Fin 2 → ℕ) x + (![p, q] : Fin 2 → ℕ) x ≤ (⟨2, ![n0, n1]⟩ : Shape).size x)
    (w : (⟨2, ![p, q]⟩ : Shape).Idx → Val e) (L : List (View.Piece Val (⟨2, ![n0, n1]⟩ : Shape) e)) (k : Fin n0) (m : Fin n1) :
    v.read Val (v.writes Val g (⟨Rect.unit (s := (⟨2, ![n0, n1]⟩ : Shape)) ![a, b] ![p, q] inb, w⟩ :: L)) (ix2 k m)
      = if h : (a ≤ k.val ∧ k.val < a + p) ∧ (b ≤ m.val ∧ m.val < b + q)
        then w (ix2 ⟨k.val - a, by omega⟩ ⟨m.val - b, by omega⟩)
        else v.read Val (v.writes Val g L) (ix2 k m) := by
  split
  · rename_i h
    refine View.read_writes_cons_unit_of_mem v g inb w L (ix2 k m) _ rfl ?_
    intro x
    match x with
    | ⟨0, _⟩ => show k.val = a + (k.val - a); omega
    | ⟨1, _⟩ => show m.val = b + (m.val - b); omega
  · rename_i h
    by_cases h0 : a ≤ k.val ∧ k.val < a + p
    · refine View.read_writes_cons_unit_of_not_mem v g inb w L (ix2 k m) rfl (1 : Fin 2) ?_
      show m.val < b ∨ b + q ≤ m.val
      omega
    · refine View.read_writes_cons_unit_of_not_mem v g inb w L (ix2 k m) rfl (0 : Fin 2) ?_
      show k.val < a ∨ a + p ≤ k.val
      omega

/-- A load of a box, one element. -/
theorem load_box2 {n0 n1 : ℕ} (v : View sig .tc sp (⟨2, ![n0, n1]⟩ : Shape) e) (g : v.ty.Contents Val) {a b p q : ℕ}
    (inb : ∀ x : Fin (⟨2, ![n0, n1]⟩ : Shape).rank, (![a, b] : Fin 2 → ℕ) x + (![p, q] : Fin 2 → ℕ) x ≤ (⟨2, ![n0, n1]⟩ : Shape).size x)
    (k : Fin p) (m : Fin q) :
    v.readAt Val (Rect.unit (s := (⟨2, ![n0, n1]⟩ : Shape)) ![a, b] ![p, q] inb).toLoadRect g (ix2 k m)
      = v.read Val g (ix2 ⟨a + k.val, by have : a + p ≤ n0 := inb 0; omega⟩ ⟨b + m.val, by have : b + q ≤ n1 := inb 1; omega⟩) := by
  rw [View.readAt_apply]
  congr 1
  funext x
  match x with
  | ⟨0, _⟩ => exact Fin.ext (show a + 1 * k.val = a + k.val by omega)
  | ⟨1, _⟩ => exact Fin.ext (show b + 1 * m.val = b + m.val by omega)

theorem load_box3 {n0 n1 n2 : ℕ} (v : View sig .tc sp (⟨3, ![n0, n1, n2]⟩ : Shape) e) (g : v.ty.Contents Val) {a b d p q s : ℕ}
    (inb : ∀ x : Fin (⟨3, ![n0, n1, n2]⟩ : Shape).rank, (![a, b, d] : Fin 3 → ℕ) x + (![p, q, s] : Fin 3 → ℕ) x ≤ (⟨3, ![n0, n1, n2]⟩ : Shape).size x)
    (k : Fin p) (m : Fin q) (j : Fin s) :
    v.readAt Val (Rect.unit (s := (⟨3, ![n0, n1, n2]⟩ : Shape)) ![a, b, d] ![p, q, s] inb).toLoadRect g (ix3 k m j)
      = v.read Val g (ix3 ⟨a + k.val, by have : a + p ≤ n0 := inb 0; omega⟩ ⟨b + m.val, by have : b + q ≤ n1 := inb 1; omega⟩
          ⟨d + j.val, by have : d + s ≤ n2 := inb 2; omega⟩) := by
  rw [View.readAt_apply]
  congr 1
  funext x
  match x with
  | ⟨0, _⟩ => exact Fin.ext (show a + 1 * k.val = a + k.val by omega)
  | ⟨1, _⟩ => exact Fin.ext (show b + 1 * m.val = b + m.val by omega)
  | ⟨2, _⟩ => exact Fin.ext (show d + 1 * j.val = d + j.val by omega)
end

/-! ### The chunks' operands -/

/-- The column of the up-projection that stands at place `j` of chunk `k`. -/
def colUp (k : Fin 11) (j : Fin 512) : Fin 5632 :=
  ⟨if j.val < 256 then 256 * k.val + j.val else 2816 + 256 * k.val + (j.val - 256), by split <;> omega⟩

theorem pairUp_apply (k : Fin 11) (d : Fin 1024) (j : Fin 512) :
    pairUp c M11 f11 k (ix2 d j) = M11.view.read (Elt Ideal) f11 (ix2 d (colUp k j)) := by
  unfold pairUp
  simp only [pointwise]
  split
  · refine (load_box2 M11.view f11 _ _ _).trans (congrArg _ (ix2_congr (by simp) ?_))
    simp [colUp, *]
  · refine (load_box2 M11.view f11 _ _ _).trans (congrArg _ (ix2_congr (by simp) ?_))
    simp [colUp, *]

theorem pairCw_apply (k : Fin 11) (d : Fin 3) (j : Fin 512) :
    pairCw c M5 f5 k (ix2 d j) = M5.view.read (Elt Ideal) f5 (ix2 d (colUp k j)) := by
  unfold pairCw
  simp only [pointwise]
  split
  · refine (load_box2 M5.view f5 _ _ _).trans (congrArg _ (ix2_congr (by simp) ?_))
    simp [colUp, *]
  · refine (load_box2 M5.view f5 _ _ _).trans (congrArg _ (ix2_congr (by simp) ?_))
    simp [colUp, *]

/-- The token is zero. -/
theorem token_zero (y : S64x128.Idx) : (tailRun.sl.v350 (F := Ideal)) y = 0 := by
  have h : ∀ x, (tailRun.sl.v347 (F := Ideal)) x = 0 := by
    intro x
    show FloatOps.uitofp (F := Ideal) _ _ = _
    show (((0#32).toNat : ℝ) : EReal) = 0
    simp
  rw [eq_ix2 y]
  simp only [tailRun.sl.v350, pointwise, h, ite_self, dite_eq_ite]

theorem chained_eq (z : FVec Ideal S64x512 .f32) : chained z = z := by
  funext y
  rw [eq_ix2 y]
  generalize y 0 = i
  generalize y 1 = j
  unfold chained
  simp only [pointwise, token_zero]
  split
  · simp only [dite_eq_ite, ite_self, add_zero]
    exact congrArg _ (ix2_congr (by simp) (by simp))
  · rename_i h
    exact congrArg _ (ix2_congr (by simp) (by simp; omega))

theorem conv_apply (w : FVec Ideal S3x512 .f32) (s2 s1 z : FVec Ideal S64x512 .f32) (i : Fin 64) (j : Fin 512) :
    conv w s2 s1 z (ix2 i j) = w (ix2 0 j) * s2 (ix2 i j) + w (ix2 1 j) * s1 (ix2 i j) + w (ix2 2 j) * z (ix2 i j) := by
  unfold conv
  simp only [pointwise]
  simp

/-- The gate at one place, of the gate's and the value's convolved entries. -/
def gateOf (a b : EReal) : EReal :=
  Ideal.div a (1 + FloatOps.exp2 (F := Ideal) (φ := .f32) (a * Named.named (F := Ideal) (φ := .f32) κ "neg_log2e" 0xBFB8AA3B#32)) * b

theorem gated_apply (y : FVec Ideal S64x512 .f32) (i : Fin 64) (j : Fin 256) :
    gated y (ix3 0 i j) = gateOf (y (ix2 i ⟨j.val, by omega⟩)) (y (ix2 i ⟨256 + j.val, by omega⟩)) := by
  unfold gated gateOf
  simp only [pointwise]
  simp

theorem cov_apply (L : List (View.Piece (Elt Ideal) S11x784x512 .f32)) (k : Fin 11) (b : ℕ) (hb : b + 64 ≤ 784) (i : Fin 64) (j : Fin 512) :
    cov M9 L k b hb (ix2 i j) = M9.view.read (Elt Ideal) (M9.view.writes (Elt Ideal) M9.view.junk L) (ix3 k ⟨b + i.val, by omega⟩ j) := by
  unfold cov View.readCov
  simp only [pointwise]
  exact (load_box3 M9.view _ _ _ _ _).trans (congrArg _ (ix3_congr (by simp) (by simp) (by simp)))

theorem car_apply (L : List (View.Piece (Elt Ideal) S11x784x512 .f32)) (k : Fin 11) (b : ℕ) (hb : b + 64 ≤ 784) (i : Fin 64) (j : Fin 512) :
    car c M9 f9 L k b hb (ix2 i j) = M9.view.read (Elt Ideal) (M9.view.writes (Elt Ideal) f9 L) (ix3 k ⟨b + i.val, by omega⟩ j) := by
  unfold car
  simp only [pointwise]
  exact (load_box3 M9.view _ _ _ _ _).trans (congrArg _ (ix3_congr (by simp) (by simp) (by simp)))

/-- The reciprocal of a row's root mean square. -/
def inv (x : Fin 1024 → EReal) : EReal :=
  Ideal.rsqrt (Ideal.div (∑ d, x d * x d) (Ideal.ofBits .f32 0x44800000#32) + Ideal.ofBits .f32 0x358637BD#32)

theorem upVal_apply (k : Fin 11) (i j : Fin 512) :
    upVal c M2 M3 M11 r f2 f3 f11 k (ix2 i j)
      = (∑ d, tailRun.sl.v76 c M2 r f2 (ix2 i d) * M3.view.read (Elt Ideal) f3 (ix2 0 d) * M11.view.read (Elt Ideal) f11 (ix2 d (colUp k j)))
        * inv fun d => tailRun.sl.v76 c M2 r f2 (ix2 i d) := by
  unfold upVal inv
  simp only [pointwise, pairUp_apply, tailRun.sl.v89,tailRun.sl.v88,tailRun.sl.v87,tailRun.sl.v86,tailRun.sl.v84,tailRun.sl.v83,tailRun.sl.v82,tailRun.sl.v81,tailRun.sl.v80,tailRun.sl.v79,tailRun.sl.v78,tailRun.sl.v77]
  have h3 : ∀ d : Fin 1024, View.readAt (Elt Ideal) M3.view (Rect.unit (s := S1x1024) ![0, 0] ![1, 1024] inb_S1x1024_S1x1024_0_0).toLoadRect f3 (ix2 0 d)
      = M3.view.read (Elt Ideal) f3 (ix2 0 d) := fun d =>
    (load_box2 M3.view f3 _ _ _).trans (congrArg _ (ix2_congr (by simp) (by simp)))
  simp [h3]
  rfl
end Cert.KernelIdeal.Ffn

end
-- ==== Proof.KernelIdeal.Rows.lean ====
module

public import proofs.«01_k».proof.Proof.KernelIdeal.Elem

@[expose] public section

set_option maxRecDepth 65536

noncomputable section

/-! The rows of the up-projections as the scratch holds them, and the gated rows computed from them. -/

namespace Cert.KernelIdeal.Ffn

open Cert.KernelIdeal Cert.KernelIdeal.Gen
open Idealize.ShloMosaic

variable (c : Dev nD) (M2 : Memref sig .tc .vmem S1x8x512x128 .f32) (M3 : Memref sig .tc .vmem S1x1024 .f32) (M5 : Memref sig .tc .vmem S3x5632 .f32)
  (M8 : Memref sig .tc .vmem S8x512x128 .f32) (M9 : Memref sig .tc .vmem S11x784x512 .f32) (M10 : Memref sig .tc .vmem S11x512x256 .bf16) (M11 : Memref sig .tc .vmem S1024x5632 .bf16) (M12 : Memref sig .tc .vmem S2816x1024 .bf16)
  (r : Ret Ideal) (f2 : Bf (F := Ideal) c M2) (f3 : Bf (F := Ideal) c M3) (f5 : Bf (F := Ideal) c M5) (f9 : Bf (F := Ideal) c M9) (f11 : Bf (F := Ideal) c M11) (f12 : Bf (F := Ideal) c M12)

/-- What row `m` of a plane holds, of the rows `v` stored in it and of what was there before. -/
def rowOf (v : FVec Ideal S512x512 .f32) (m : Fin 784) (j : Fin 512) (old : EReal) : EReal :=
  if m.val < 512 then v (ix2 (Fin.ofNat 512 m.val) j)
  else if 513 ≤ m.val ∧ m.val < 641 then v (ix2 (Fin.ofNat 512 (m.val - 257)) j)
  else if 649 ≤ m.val ∧ m.val < 777 then v (ix2 (Fin.ofNat 512 (m.val - 265)) j)
  else old

theorem quarter2 (v : FVec Ideal S512x512 .f32) (i : Fin 128) (j : Fin 512) (z : Fin 1) :
    shapeCast S1x128x512 (extractStridedSlice S128x512 ![256, 0] v slices_S512x512_o256_0_S128x512) shapeCasts_S128x512_S1x128x512 (ix3 z i j)
      = v (ix2 ⟨256 + i.val, by omega⟩ j) := by
  simp only [pointwise]
  exact congrArg v (ix2_congr (by simp) (by simp))
theorem quarter3 (v : FVec Ideal S512x512 .f32) (i : Fin 128) (j : Fin 512) (z : Fin 1) :
    shapeCast S1x128x512 (extractStridedSlice S128x512 ![384, 0] v slices_S512x512_o384_0_S128x512) shapeCasts_S128x512_S1x128x512 (ix3 z i j)
      = v (ix2 ⟨384 + i.val, by omega⟩ j) := by
  simp only [pointwise]
  exact congrArg v (ix2_congr (by simp) (by simp))
theorem all_rows (v : FVec Ideal S512x512 .f32) (i : Fin 512) (j : Fin 512) (z : Fin 1) :
    shapeCast S1x512x512 v shapeCasts_S512x512_S1x512x512 (ix3 z i j) = v (ix2 i j) := by
  simp only [pointwise]

theorem read_upPut (g : M9.view.ty.Contents (Elt Ideal)) (L : List (View.Piece (Elt Ideal) S11x784x512 .f32)) (k' k : Fin 11) (m : Fin 784) (j : Fin 512) :
    M9.view.read (Elt Ideal) (M9.view.writes (Elt Ideal) g (upPut c M2 M3 M11 r f2 f3 f11 k' L)) (ix3 k m j)
      = if k = k' then rowOf (upVal c M2 M3 M11 r f2 f3 f11 k') m j (M9.view.read (Elt Ideal) (M9.view.writes (Elt Ideal) g L) (ix3 k m j))
        else M9.view.read (Elt Ideal) (M9.view.writes (Elt Ideal) g L) (ix3 k m j) := by
  have hj := j.isLt
  unfold upPut rowOf
  generalize upVal c M2 M3 M11 r f2 f3 f11 k' = v
  rw [read_box3, read_box3, read_box3]
  simp only [quarter2, quarter3, all_rows]
  by_cases hk : k = k'
  · subst hk
    rw [if_pos rfl]
    by_cases h1 : 649 ≤ m.val ∧ m.val < 777
    · rw [dif_pos (by omega), if_neg (by omega), if_neg (by omega), if_pos h1]
      exact congrArg v (ix2_congr (by simp; omega) (by simp))
    · rw [dif_neg (by omega)]
      by_cases h2 : 513 ≤ m.val ∧ m.val < 641
      · rw [dif_pos (by omega), if_neg (by omega), if_pos h2]
        exact congrArg v (ix2_congr (by simp; omega) (by simp))
      · rw [dif_neg (by omega)]
        by_cases h3 : m.val < 512
        · rw [dif_pos (by omega), if_pos h3]
          exact congrArg v (ix2_congr (by simp; omega) (by simp))
        · rw [dif_neg (by omega), if_neg h3, if_neg h2, if_neg h1]
  · have : k.val ≠ k'.val := fun h => hk (Fin.ext h)
    rw [dif_neg (by omega), dif_neg (by omega), dif_neg (by omega), if_neg hk]

/-- The planes after the first `n` chunks. -/
theorem read_upList (g : M9.view.ty.Contents (Elt Ideal)) (k : Fin 11) (m : Fin 784) (j : Fin 512) : ∀ n : ℕ, n ≤ 11 →
    M9.view.read (Elt Ideal) (M9.view.writes (Elt Ideal) g (upList c M2 M3 M11 r f2 f3 f11 n)) (ix3 k m j)
      = if k.val < n then rowOf (upVal c M2 M3 M11 r f2 f3 f11 k) m j (M9.view.read (Elt Ideal) g (ix3 k m j))
        else M9.view.read (Elt Ideal) g (ix3 k m j)
  | 0, _ => by rw [if_neg (by omega)]; rfl
  | n + 1, hn => by
    unfold upList
    rw [read_upPut, read_upList g k m j n (by omega)]
    have hv : (Fin.ofNat 11 n).val = n := Nat.mod_eq_of_lt (by omega)
    by_cases hk : k = Fin.ofNat 11 n
    · have hk' : k.val = n := by rw [hk]; exact hv
      rw [if_pos hk, if_neg (by omega), if_pos (by omega), ← hk]
    · have hk' : k.val ≠ n := fun h => hk (Fin.ext (by rw [hv, h]))
      rw [if_neg hk]
      by_cases h : k.val < n
      · rw [if_pos h, if_pos (by omega)]
      · rw [if_neg h, if_neg (by omega)]

/-- The token of the tile at row `n`, and the row of token `t`. -/
def tokOf (n : ℕ) : ℕ := 4 * (n % 128) + n / 128
def rowAt (t : ℕ) : ℕ := (t % 4) * 128 + t / 4

/-- A chunk whose plane the stores `L` fill: what every row holds, over any contents. -/
def Fills (L : List (View.Piece (Elt Ideal) S11x784x512 .f32)) (k : Fin 11) (v : FVec Ideal S512x512 .f32) : Prop :=
  ∀ (g : M9.view.ty.Contents (Elt Ideal)) (m : Fin 784) (j : Fin 512),
    M9.view.read (Elt Ideal) (M9.view.writes (Elt Ideal) g L) (ix3 k m j) = rowOf v m j (M9.view.read (Elt Ideal) g (ix3 k m j))

/-- The up-projection `n` tokens before row `i`'s, the two tokens before the tile given. -/
def earlier (v : FVec Ideal S512x512 .f32) (p2 p1 : Fin 512 → EReal) (n i : ℕ) (j : Fin 512) : EReal :=
  if n ≤ tokOf i then v (ix2 (Fin.ofNat 512 (rowAt (tokOf i - n))) j) else if tokOf i + 1 = n then p1 j else p2 j

variable {M9}

theorem fills_cov {L : List (View.Piece (Elt Ideal) S11x784x512 .f32)} {k : Fin 11} {v : FVec Ideal S512x512 .f32} (hL : Fills M9 L k v)
    (b : ℕ) (hb : b + 64 ≤ 784) (i : Fin 64) (j : Fin 512) (n : ℕ) (hn : n < 512)
    (h : n = b + i.val ∧ b + i.val < 512 ∨ 513 ≤ b + i.val ∧ b + i.val < 641 ∧ n = b + i.val - 257 ∨ 649 ≤ b + i.val ∧ b + i.val < 777 ∧ n = b + i.val - 265) :
    cov M9 L k b hb (ix2 i j) = v (ix2 (Fin.ofNat 512 n) j) := by
  rw [cov_apply, hL]
  unfold rowOf
  dsimp only
  rcases h with ⟨rfl, h⟩ | ⟨h, h', rfl⟩ | ⟨h, h', rfl⟩
  · rw [if_pos h]
  · rw [if_neg (by omega), if_pos ⟨h, h'⟩]
  · rw [if_neg (by omega), if_neg (by omega), if_pos ⟨h, h'⟩]

theorem fills_car {c} {f9 : Bf (F := Ideal) c M9} {L : List (View.Piece (Elt Ideal) S11x784x512 .f32)} {k : Fin 11} {v : FVec Ideal S512x512 .f32} (hL : Fills M9 L k v)
    (b : ℕ) (hb : b + 64 ≤ 784) (i : Fin 64) (j : Fin 512) (n : ℕ) (hn : n < 512)
    (h : 513 ≤ b + i.val ∧ b + i.val < 641 ∧ n = b + i.val - 257 ∨ 649 ≤ b + i.val ∧ b + i.val < 777 ∧ n = b + i.val - 265) :
    car c M9 f9 L k b hb (ix2 i j) = v (ix2 (Fin.ofNat 512 n) j) := by
  rw [car_apply, hL]
  unfold rowOf
  dsimp only
  rcases h with ⟨h, h', rfl⟩ | ⟨h, h', rfl⟩
  · rw [if_neg (by omega), if_pos ⟨h, h'⟩]
  · rw [if_neg (by omega), if_neg (by omega), if_pos ⟨h, h'⟩]

theorem fills_first {c} {f9 : Bf (F := Ideal) c M9} {L : List (View.Piece (Elt Ideal) S11x784x512 .f32)} {k : Fin 11} {v : FVec Ideal S512x512 .f32} (hL : Fills M9 L k v)
    (b : ℕ) (hb : b + 64 ≤ 784) (i : Fin 64) (j : Fin 512) (hi : i.val = 0)
    (h : b = 512 ∨ b = 648) :
    car c M9 f9 L k b hb (ix2 i j) = M9.view.read (Elt Ideal) f9 (ix3 k ⟨b, by omega⟩ j) := by
  rw [car_apply, hL]
  unfold rowOf
  dsimp only
  rw [if_neg (by omega), if_neg (by omega), if_neg (by omega)]
  exact congrArg _ (ix3_congr rfl (by simp [hi]) rfl)

theorem back1_apply {L : List (View.Piece (Elt Ideal) S11x784x512 .f32)} {k : Fin 11} {v : FVec Ideal S512x512 .f32} (hL : Fills M9 L k v)
    (p2 p1 : Fin 512 → EReal) (h1 : ∀ j, M9.view.read (Elt Ideal) f9 (ix3 k 648 j) = p1 j) (q : Fin 8) (i : Fin 64) (j : Fin 512) :
    back1 c M9 f9 L k q (ix2 i j) = earlier v p2 p1 1 (64 * q.val + i.val) j := by
  have hi := i.isLt
  unfold earlier tokOf rowAt
  match q with
  | 0 =>
    by_cases h0 : i.val = 0
    · rw [if_neg (by simp [h0]), if_pos (by simp [h0])]
      exact (fills_first hL _ _ _ _ h0 (Or.inr rfl)).trans (h1 j)
    · rw [if_pos (by simp; omega)]
      exact fills_car hL _ _ _ _ _ (by simp; omega) (by simp; omega)
  | 1 => rw [if_pos (by simp; omega)]; exact fills_cov hL _ _ _ _ _ (by simp; omega) (by simp; omega)
  | 2 => rw [if_pos (by simp; omega)]; exact fills_cov hL _ _ _ _ _ (by simp; omega) (by
      have e1 : i.val / 128 = 0 := by omega
      have e2 : i.val % 128 = i.val := by omega
      simp [e1, e2]; omega)
  | 3 => rw [if_pos (by simp; omega)]; exact fills_cov hL _ _ _ _ _ (by simp; omega) (by simp; omega)
  | 4 => rw [if_pos (by simp; omega)]; exact fills_cov hL _ _ _ _ _ (by simp; omega) (by simp; omega)
  | 5 => rw [if_pos (by simp; omega)]; exact fills_cov hL _ _ _ _ _ (by simp; omega) (by simp; omega)
  | 6 => rw [if_pos (by simp; omega)]; exact fills_cov hL _ _ _ _ _ (by simp; omega) (by simp; omega)
  | 7 => rw [if_pos (by simp; omega)]; exact fills_cov hL _ _ _ _ _ (by simp; omega) (by simp; omega)

theorem back2_apply {L : List (View.Piece (Elt Ideal) S11x784x512 .f32)} {k : Fin 11} {v : FVec Ideal S512x512 .f32} (hL : Fills M9 L k v)
    (p2 p1 : Fin 512 → EReal) (h2 : ∀ j, M9.view.read (Elt Ideal) f9 (ix3 k 512 j) = p2 j)
    (h1 : ∀ j, M9.view.read (Elt Ideal) f9 (ix3 k 648 j) = p1 j) (q : Fin 8) (i : Fin 64) (j : Fin 512) :
    back2 c M9 f9 L k q (ix2 i j) = earlier v p2 p1 2 (64 * q.val + i.val) j := by
  have hi := i.isLt
  unfold earlier tokOf rowAt
  match q with
  | 0 =>
    by_cases h0 : i.val = 0
    · rw [if_neg (by simp [h0]), if_neg (by simp [h0])]
      exact (fills_first hL _ _ _ _ h0 (Or.inl rfl)).trans (h2 j)
    · rw [if_pos (by simp; omega)]
      exact fills_car hL _ _ _ _ _ (by simp; omega) (by simp; omega)
  | 1 => rw [if_pos (by simp; omega)]; exact fills_cov hL _ _ _ _ _ (by simp; omega) (by simp; omega)
  | 2 =>
    by_cases h0 : i.val = 0
    · rw [if_neg (by simp [h0]), if_pos (by simp [h0])]
      exact (fills_first hL _ _ _ _ h0 (Or.inr rfl)).trans (h1 j)
    · rw [if_pos (by simp; omega)]
      exact fills_car hL _ _ _ _ _ (by simp; omega) (by simp; omega)
  | 3 => rw [if_pos (by simp; omega)]; exact fills_cov hL _ _ _ _ _ (by simp; omega) (by simp; omega)
  | 4 => rw [if_pos (by simp; omega)]; exact fills_cov hL _ _ _ _ _ (by simp; omega) (by simp; omega)
  | 5 => rw [if_pos (by simp; omega)]; exact fills_cov hL _ _ _ _ _ (by simp; omega) (by simp; omega)
  | 6 => rw [if_pos (by simp; omega)]; exact fills_cov hL _ _ _ _ _ (by simp; omega) (by simp; omega)
  | 7 => rw [if_pos (by simp; omega)]; exact fills_cov hL _ _ _ _ _ (by simp; omega) (by simp; omega)

/-- The convolved up-projection at row `i` and place `j` of a chunk. -/
def cvOf (w : FVec Ideal S3x512 .f32) (v : FVec Ideal S512x512 .f32) (p2 p1 : Fin 512 → EReal) (i : ℕ) (j : Fin 512) : EReal :=
  w (ix2 0 j) * earlier v p2 p1 2 i j + w (ix2 1 j) * earlier v p2 p1 1 i j + w (ix2 2 j) * v (ix2 (Fin.ofNat 512 i) j)
/-- The gated row. -/
def gtOf (w : FVec Ideal S3x512 .f32) (v : FVec Ideal S512x512 .f32) (p2 p1 : Fin 512 → EReal) (i : ℕ) (j : Fin 256) : EReal :=
  gateOf (cvOf w v p2 p1 i ⟨j.val, by omega⟩) (cvOf w v p2 p1 i ⟨256 + j.val, by omega⟩)

variable {f9}

theorem read_gatePiece (g : M10.view.ty.Contents (Elt Ideal)) {L : List (View.Piece (Elt Ideal) S11x784x512 .f32)} {k : Fin 11} {v : FVec Ideal S512x512 .f32} (hL : Fills M9 L k v)
    (p2 p1 : Fin 512 → EReal) (h2 : ∀ j, M9.view.read (Elt Ideal) f9 (ix3 k 512 j) = p2 j)
    (h1 : ∀ j, M9.view.read (Elt Ideal) f9 (ix3 k 648 j) = p1 j) (q : Fin 8) (b : ℕ) (hb : b + 64 ≤ 784) (hq : b = 64 * q.val)
    (G : List (View.Piece (Elt Ideal) S11x512x256 .bf16)) (k' : Fin 11) (i : Fin 512) (j : Fin 256) :
    M10.view.read (Elt Ideal) (M10.view.writes (Elt Ideal) g (gatePiece c M5 M9 f5 f9 L k q (cov M9 L k b hb) :: G)) (ix3 k' i j)
      = if k' = k ∧ b ≤ i.val ∧ i.val < b + 64 then gtOf (pairCw c M5 f5 k) v p2 p1 i.val j
        else M10.view.read (Elt Ideal) (M10.view.writes (Elt Ideal) g G) (ix3 k' i j) := by
  have hj := j.isLt
  unfold gatePiece
  rw [read_box3]
  by_cases hk : k' = k ∧ b ≤ i.val ∧ i.val < b + 64
  · obtain ⟨rfl, hk, hk'⟩ := hk
    rw [dif_pos (by omega), if_pos ⟨rfl, hk, hk'⟩]
    have hy : ∀ (i' : Fin 64) (j' : Fin 512), i'.val = i.val - b → conv (pairCw c M5 f5 k') (back2 c M9 f9 L k' q) (back1 c M9 f9 L k' q) (cov M9 L k' b hb) (ix2 i' j')
        = cvOf (pairCw c M5 f5 k') v p2 p1 i.val j' := by
      intro i' j' hi'
      rw [conv_apply, back2_apply c f9 hL p2 p1 h2 h1, back1_apply c f9 hL p2 p1 h1, fills_cov hL b hb i' j' i.val i.isLt (by omega)]
      unfold cvOf
      rw [show 64 * q.val + i'.val = i.val by omega]
    refine (congrArg (gated _) (ix3_congr (a' := 0) (b' := ⟨i.val - b, by omega⟩) (d' := j) (by simp) (by simp [hq]) (by simp))).trans ?_
    rw [gated_apply, hy _ _ rfl, hy _ _ rfl]
    rfl
  · rw [if_neg hk, dif_neg]
    rintro ⟨h0, h1, -⟩
    exact hk ⟨Fin.ext (by omega), by omega, by omega⟩

/-- A chunk's eight stores of gated rows. -/
theorem read_gatePut (g : M10.view.ty.Contents (Elt Ideal)) {L : List (View.Piece (Elt Ideal) S11x784x512 .f32)} {k : Fin 11} {v : FVec Ideal S512x512 .f32} (hL : Fills M9 L k v)
    (p2 p1 : Fin 512 → EReal) (h2 : ∀ j, M9.view.read (Elt Ideal) f9 (ix3 k 512 j) = p2 j)
    (h1 : ∀ j, M9.view.read (Elt Ideal) f9 (ix3 k 648 j) = p1 j)
    (z0 : FVec Ideal S64x512 .f32) (hz : z0 = cov M9 L k 0 (by omega))
    (G : List (View.Piece (Elt Ideal) S11x512x256 .bf16)) (k' : Fin 11) (i : Fin 512) (j : Fin 256) :
    M10.view.read (Elt Ideal) (M10.view.writes (Elt Ideal) g (gatePut c M5 M9 f5 f9 L k z0 G)) (ix3 k' i j)
      = if k' = k then gtOf (pairCw c M5 f5 k) v p2 p1 i.val j
        else M10.view.read (Elt Ideal) (M10.view.writes (Elt Ideal) g G) (ix3 k' i j) := by
  subst hz
  have hi := i.isLt
  unfold gatePut
  simp only [chained_eq]
  rw [read_gatePiece c M5 M10 f5 g hL p2 p1 h2 h1 7 448 (by omega) rfl, read_gatePiece c M5 M10 f5 g hL p2 p1 h2 h1 6 384 (by omega) rfl,
    read_gatePiece c M5 M10 f5 g hL p2 p1 h2 h1 5 320 (by omega) rfl, read_gatePiece c M5 M10 f5 g hL p2 p1 h2 h1 4 256 (by omega) rfl,
    read_gatePiece c M5 M10 f5 g hL p2 p1 h2 h1 3 192 (by omega) rfl, read_gatePiece c M5 M10 f5 g hL p2 p1 h2 h1 2 128 (by omega) rfl,
    read_gatePiece c M5 M10 f5 g hL p2 p1 h2 h1 1 64 (by omega) rfl, read_gatePiece c M5 M10 f5 g hL p2 p1 h2 h1 0 0 (by omega) rfl]
  by_cases hk : k' = k
  · simp only [hk, true_and, if_true]
    generalize gtOf (pairCw c M5 f5 k) v p2 p1 i.val j = A
    split_ifs <;> first | rfl | (exfalso; omega)
  · simp only [hk, false_and, if_false]

end Cert.KernelIdeal.Ffn

end
-- ==== Proof.KernelIdeal.Tile.lean ====
module

public import proofs.«01_k».proof.Proof.KernelIdeal.Rows

@[expose] public section

set_option maxRecDepth 65536

noncomputable section

/-! One tile, element by element: the tokens read, the gated chunks, and their projection. -/

namespace Cert.KernelIdeal.Ffn

open Cert.KernelIdeal Cert.KernelIdeal.Gen
open Idealize.ShloMosaic

variable (c : Dev nD) (M2 : Memref sig .tc .vmem S1x8x512x128 .f32) (M3 : Memref sig .tc .vmem S1x1024 .f32) (M5 : Memref sig .tc .vmem S3x5632 .f32)
  (M8 : Memref sig .tc .vmem S8x512x128 .f32) (M9 : Memref sig .tc .vmem S11x784x512 .f32) (M10 : Memref sig .tc .vmem S11x512x256 .bf16) (M11 : Memref sig .tc .vmem S1024x5632 .bf16) (M12 : Memref sig .tc .vmem S2816x1024 .bf16)
  (r : Ret Ideal) (f2 : Bf (F := Ideal) c M2) (f3 : Bf (F := Ideal) c M3) (f5 : Bf (F := Ideal) c M5) (f9 : Bf (F := Ideal) c M9) (f11 : Bf (F := Ideal) c M11) (f12 : Bf (F := Ideal) c M12)

/-- The lanes `128 * s` on of the tokens `4 * i + v`. -/
def slab (s : Fin 8) (v : Fin 4) : FVec Ideal S128x128 .f32 :=
  shapeCast S128x128 (M2.view.readAt (Elt Ideal) { off := ![0, s.val, v.val, 0], size := S1x1x128x128.size, stride := ![1, 1, 4, 1], inb := (by
    intro x
    match x with
    | ⟨0, _⟩ => exact Or.inr (show 0 + 1 * (1 - 1) < 1 by omega)
    | ⟨1, _⟩ => exact Or.inr (show s.val + 1 * (1 - 1) < 8 by omega)
    | ⟨2, _⟩ => exact Or.inr (show v.val + 4 * (128 - 1) < 512 by omega)
    | ⟨3, _⟩ => exact Or.inr (show 0 + 1 * (128 - 1) < 128 by omega)) } f2 : Vec Ideal S1x1x128x128 .f32) shapeCasts_S1x1x128x128_S128x128

theorem slab_apply (s : Fin 8) (v : Fin 4) (i l : Fin 128) :
    slab c M2 f2 s v (ix2 i l) = M2.view.read (Elt Ideal) f2 (ix4 0 s ⟨v.val + 4 * i.val, by omega⟩ l) := by
  unfold slab
  simp only [pointwise]
  rw [View.readAt_apply]
  congr 1
  funext x
  match x with
  | ⟨0, _⟩ => exact Fin.ext (by simp [LoadRect.idx])
  | ⟨1, _⟩ => exact Fin.ext (by simp [LoadRect.idx])
  | ⟨2, _⟩ => exact Fin.ext (by simp [LoadRect.idx])
  | ⟨3, _⟩ => exact Fin.ext (by simp [LoadRect.idx])

/-- All the lanes of the tokens `4 * i + v`. -/
def wide (v : Fin 4) : FVec Ideal S128x1024 .f32 :=
  concatenate S128x1024 1 [⟨S128x128, slab c M2 f2 0 v⟩, ⟨S128x128, slab c M2 f2 1 v⟩, ⟨S128x128, slab c M2 f2 2 v⟩, ⟨S128x128, slab c M2 f2 3 v⟩,
    ⟨S128x128, slab c M2 f2 4 v⟩, ⟨S128x128, slab c M2 f2 5 v⟩, ⟨S128x128, slab c M2 f2 6 v⟩, ⟨S128x128, slab c M2 f2 7 v⟩]
    concatenates_S128x128_S128x128_S128x128_S128x128_S128x128_S128x128_S128x128_S128x128_S128x1024_d1

theorem ix4_congr {n0 n1 n2 n3 : ℕ} {a a' : Fin n0} {b b' : Fin n1} {d d' : Fin n2} {e e' : Fin n3} (h : a.val = a'.val) (h' : b.val = b'.val) (h'' : d.val = d'.val) (h3 : e.val = e'.val) :
    (ix4 a b d e : (⟨4, ![n0, n1, n2, n3]⟩ : Shape).Idx) = ix4 a' b' d' e' := by
  rw [Fin.ext h, Fin.ext h', Fin.ext h'', Fin.ext h3]

theorem wide_apply (v : Fin 4) (i : Fin 128) (d : Fin 1024) :
    wide c M2 f2 v (ix2 i d) = M2.view.read (Elt Ideal) f2 (ix4 0 ⟨d.val / 128, by omega⟩ ⟨v.val + 4 * i.val, by omega⟩ ⟨d.val % 128, by omega⟩) := by
  have hd := d.isLt
  unfold wide
  simp only [pointwise, slab_apply]
  simp
  split_ifs <;> exact congrArg _ (ix4_congr rfl (by simp; omega) rfl (by simp; omega))

/-- The first tokens as both ways of opening a tile return them. -/
def first7 : Ret Ideal := ⟨slab c M2 f2 0 0, slab c M2 f2 1 0, slab c M2 f2 2 0, slab c M2 f2 3 0, slab c M2 f2 4 0, slab c M2 f2 5 0, slab c M2 f2 6 0⟩

theorem v76_eq : tailRun.sl.v76 c M2 (first7 c M2 f2) f2
    = concatenate S512x1024 0 [⟨S128x1024, wide c M2 f2 0⟩, ⟨S128x1024, wide c M2 f2 1⟩, ⟨S128x1024, wide c M2 f2 2⟩, ⟨S128x1024, wide c M2 f2 3⟩]
        concatenates_S128x1024_S128x1024_S128x1024_S128x1024_S512x1024_d0 := rfl

/-- Row `i` of the tile is token `tokOf i`. -/
theorem rows_apply (i : Fin 512) (d : Fin 1024) :
    tailRun.sl.v76 c M2 (first7 c M2 f2) f2 (ix2 i d)
      = M2.view.read (Elt Ideal) f2 (ix4 0 ⟨d.val / 128, by omega⟩ ⟨tokOf i.val, by unfold tokOf; omega⟩ ⟨d.val % 128, by omega⟩) := by
  have hi := i.isLt
  rw [v76_eq]
  simp only [pointwise, wide_apply]
  unfold tokOf
  simp
  split_ifs <;> exact congrArg _ (ix4_congr rfl rfl (by simp; omega) rfl)

/-! ### The gated chunks -/

/-- The carried rows of chunk `k`: the up-projections two tokens and one token before the tile. -/
def carried2 (k : Fin 11) (j : Fin 512) : EReal := M9.view.read (Elt Ideal) f9 (ix3 k 512 j)
def carried1 (k : Fin 11) (j : Fin 512) : EReal := M9.view.read (Elt Ideal) f9 (ix3 k 648 j)

/-- The gated entry of chunk `k` at row `i` and place `j`. -/
def gt (k : Fin 11) (i : ℕ) (j : Fin 256) : EReal :=
  gtOf (pairCw c M5 f5 k) (upVal c M2 M3 M11 r f2 f3 f11 k) (carried2 c M9 f9 k) (carried1 c M9 f9 k) i j

theorem fills (n : ℕ) (hn : n ≤ 11) (k : Fin 11) (hk : k.val < n) : Fills M9 (upList c M2 M3 M11 r f2 f3 f11 n) k (upVal c M2 M3 M11 r f2 f3 f11 k) := by
  intro g m j
  rw [read_upList c M2 M3 M9 M11 r f2 f3 f11 g k m j n hn, if_pos hk]

theorem list2 : tailRun.sl.H9_6 c M2 M3 M11 r f2 f3 f11 = upList c M2 M3 M11 r f2 f3 f11 2 := up2 c M2 M3 M11 r f2 f3 f11
theorem list3 : tailRun.sl.H9_9 c M2 M3 M11 r f2 f3 f11 = upList c M2 M3 M11 r f2 f3 f11 3 := (up3 c M2 M3 M11 r f2 f3 f11).trans (congrArg _ (list2 c M2 M3 M11 r f2 f3 f11))
theorem list4 : tailRun.sl.H9_12 c M2 M3 M11 r f2 f3 f11 = upList c M2 M3 M11 r f2 f3 f11 4 := (up4 c M2 M3 M11 r f2 f3 f11).trans (congrArg _ (list3 c M2 M3 M11 r f2 f3 f11))
theorem list5 : tailRun.sl.H9_15 c M2 M3 M11 r f2 f3 f11 = upList c M2 M3 M11 r f2 f3 f11 5 := (up5 c M2 M3 M11 r f2 f3 f11).trans (congrArg _ (list4 c M2 M3 M11 r f2 f3 f11))
theorem list6 : tailRun.sl.H9_18 c M2 M3 M11 r f2 f3 f11 = upList c M2 M3 M11 r f2 f3 f11 6 := (up6 c M2 M3 M11 r f2 f3 f11).trans (congrArg _ (list5 c M2 M3 M11 r f2 f3 f11))
theorem list7 : tailRun.sl.H9_21 c M2 M3 M11 r f2 f3 f11 = upList c M2 M3 M11 r f2 f3 f11 7 := (up7 c M2 M3 M11 r f2 f3 f11).trans (congrArg _ (list6 c M2 M3 M11 r f2 f3 f11))
theorem list8 : tailRun.sl.H9_24 c M2 M3 M11 r f2 f3 f11 = upList c M2 M3 M11 r f2 f3 f11 8 := (up8 c M2 M3 M11 r f2 f3 f11).trans (congrArg _ (list7 c M2 M3 M11 r f2 f3 f11))
theorem list9 : tailRun.sl.H9_27 c M2 M3 M11 r f2 f3 f11 = upList c M2 M3 M11 r f2 f3 f11 9 := (up9 c M2 M3 M11 r f2 f3 f11).trans (congrArg _ (list8 c M2 M3 M11 r f2 f3 f11))
theorem list10 : tailRun.sl.H9_30 c M2 M3 M11 r f2 f3 f11 = upList c M2 M3 M11 r f2 f3 f11 10 := (up10 c M2 M3 M11 r f2 f3 f11).trans (congrArg _ (list9 c M2 M3 M11 r f2 f3 f11))
theorem list11 : tailRun.sl.H9_33 c M2 M3 M11 r f2 f3 f11 = upList c M2 M3 M11 r f2 f3 f11 11 := (up11 c M2 M3 M11 r f2 f3 f11).trans (congrArg _ (list10 c M2 M3 M11 r f2 f3 f11))

/-- The gated rows read back. -/
theorem read_gates (g : M10.view.ty.Contents (Elt Ideal)) (k : Fin 11) (i : Fin 512) (j : Fin 256) :
    M10.view.read (Elt Ideal) (M10.view.writes (Elt Ideal) g (tailRun.sl.H10_88 c M2 M3 M5 M9 M11 r f2 f3 f5 f9 f11)) (ix3 k i j)
      = gt c M2 M3 M5 M9 M11 r f2 f3 f5 f9 f11 k i.val j := by
  rw [gate11, read_gatePut c M5 M10 f5 g (list11 c M2 M3 M11 r f2 f3 f11 ▸ fills c M2 M3 M9 M11 r f2 f3 f11 11 (by omega) 10 (by decide)) (carried2 c M9 f9 10) (carried1 c M9 f9 10) (fun _ => rfl) (fun _ => rfl) _ (chained_eq _)]
  by_cases h10 : k = 10
  · rw [if_pos h10, h10]; rfl
  rw [if_neg h10]
  rw [gate10, read_gatePut c M5 M10 f5 g (list11 c M2 M3 M11 r f2 f3 f11 ▸ fills c M2 M3 M9 M11 r f2 f3 f11 11 (by omega) 9 (by decide)) (carried2 c M9 f9 9) (carried1 c M9 f9 9) (fun _ => rfl) (fun _ => rfl) _ (chained_eq _)]
  by_cases h9 : k = 9
  · rw [if_pos h9, h9]; rfl
  rw [if_neg h9]
  rw [gate9, read_gatePut c M5 M10 f5 g (list10 c M2 M3 M11 r f2 f3 f11 ▸ fills c M2 M3 M9 M11 r f2 f3 f11 10 (by omega) 8 (by decide)) (carried2 c M9 f9 8) (carried1 c M9 f9 8) (fun _ => rfl) (fun _ => rfl) _ (chained_eq _)]
  by_cases h8 : k = 8
  · rw [if_pos h8, h8]; rfl
  rw [if_neg h8]
  rw [gate8, read_gatePut c M5 M10 f5 g (list9 c M2 M3 M11 r f2 f3 f11 ▸ fills c M2 M3 M9 M11 r f2 f3 f11 9 (by omega) 7 (by decide)) (carried2 c M9 f9 7) (carried1 c M9 f9 7) (fun _ => rfl) (fun _ => rfl) _ (chained_eq _)]
  by_cases h7 : k = 7
  · rw [if_pos h7, h7]; rfl
  rw [if_neg h7]
  rw [gate7, read_gatePut c M5 M10 f5 g (list8 c M2 M3 M11 r f2 f3 f11 ▸ fills c M2 M3 M9 M11 r f2 f3 f11 8 (by omega) 6 (by decide)) (carried2 c M9 f9 6) (carried1 c M9 f9 6) (fun _ => rfl) (fun _ => rfl) _ (chained_eq _)]
  by_cases h6 : k = 6
  · rw [if_pos h6, h6]; rfl
  rw [if_neg h6]
  rw [gate6, read_gatePut c M5 M10 f5 g (list7 c M2 M3 M11 r f2 f3 f11 ▸ fills c M2 M3 M9 M11 r f2 f3 f11 7 (by omega) 5 (by decide)) (carried2 c M9 f9 5) (carried1 c M9 f9 5) (fun _ => rfl) (fun _ => rfl) _ (chained_eq _)]
  by_cases h5 : k = 5
  · rw [if_pos h5, h5]; rfl
  rw [if_neg h5]
  rw [gate5, read_gatePut c M5 M10 f5 g (list6 c M2 M3 M11 r f2 f3 f11 ▸ fills c M2 M3 M9 M11 r f2 f3 f11 6 (by omega) 4 (by decide)) (carried2 c M9 f9 4) (carried1 c M9 f9 4) (fun _ => rfl) (fun _ => rfl) _ (chained_eq _)]
  by_cases h4 : k = 4
  · rw [if_pos h4, h4]; rfl
  rw [if_neg h4]
  rw [gate4, read_gatePut c M5 M10 f5 g (list5 c M2 M3 M11 r f2 f3 f11 ▸ fills c M2 M3 M9 M11 r f2 f3 f11 5 (by omega) 3 (by decide)) (carried2 c M9 f9 3) (carried1 c M9 f9 3) (fun _ => rfl) (fun _ => rfl) _ (chained_eq _)]
  by_cases h3 : k = 3
  · rw [if_pos h3, h3]; rfl
  rw [if_neg h3]
  rw [gate3, read_gatePut c M5 M10 f5 g (list4 c M2 M3 M11 r f2 f3 f11 ▸ fills c M2 M3 M9 M11 r f2 f3 f11 4 (by omega) 2 (by decide)) (carried2 c M9 f9 2) (carried1 c M9 f9 2) (fun _ => rfl) (fun _ => rfl) _ (chained_eq _)]
  by_cases h2 : k = 2
  · rw [if_pos h2, h2]; rfl
  rw [if_neg h2]
  rw [gate2, read_gatePut c M5 M10 f5 g (list3 c M2 M3 M11 r f2 f3 f11 ▸ fills c M2 M3 M9 M11 r f2 f3 f11 3 (by omega) 1 (by decide)) (carried2 c M9 f9 1) (carried1 c M9 f9 1) (fun _ => rfl) (fun _ => rfl) _ (chained_eq _)]
  by_cases h1 : k = 1
  · rw [if_pos h1, h1]; rfl
  rw [if_neg h1]
  rw [gate1, read_gatePut c M5 M10 f5 g (list2 c M2 M3 M11 r f2 f3 f11 ▸ fills c M2 M3 M9 M11 r f2 f3 f11 2 (by omega) 0 (by decide)) (carried2 c M9 f9 0) (carried1 c M9 f9 0) (fun _ => rfl) (fun _ => rfl) _ rfl]
  by_cases h0 : k = 0
  · rw [if_pos h0, h0]; rfl
  rw [if_neg h0]
  omega

/-- A gated chunk as the projection reads it. -/
theorem chunk_apply (b : ℕ) (hb : b < 11) (inb : ∀ x : Fin S11x512x256.rank, (![b, 0, 0] : Fin 3 → ℕ) x + S1x512x256.size x ≤ S11x512x256.size x) (i : Fin 512) (j : Fin 256) :
    shapeCast S512x256 (M10.view.readCov (Val := Elt Ideal) (tailRun.sl.H10_88 c M2 M3 M5 M9 M11 r f2 f3 f5 f9 f11)
        (Rect.unit (s := S11x512x256) ![b, 0, 0] S1x512x256.size inb).toLoadRect : Vec Ideal S1x512x256 .bf16) shapeCasts_S1x512x256_S512x256 (ix2 i j)
      = gt c M2 M3 M5 M9 M11 r f2 f3 f5 f9 f11 ⟨b, hb⟩ i.val j := by
  unfold View.readCov
  simp only [pointwise]
  refine (load_box3 M10.view _ _ _ _ _).trans ?_
  rw [← read_gates c M2 M3 M5 M9 M10 M11 r f2 f3 f5 f9 f11 M10.view.junk]
  exact congrArg _ (ix3_congr (by simp) (by simp) (by simp))

theorem chunk0 (i : Fin 512) (j : Fin 256) : tailRun.sl.r_160 c M2 M3 M5 M9 M10 M11 r f2 f3 f5 f9 f11 (ix2 i j) = gt c M2 M3 M5 M9 M11 r f2 f3 f5 f9 f11 0 i.val j :=
  chunk_apply c M2 M3 M5 M9 M10 M11 r f2 f3 f5 f9 f11 0 (by omega) _ i j
theorem chunk1 (i : Fin 512) (j : Fin 256) : tailRun.sl.r_161 c M2 M3 M5 M9 M10 M11 r f2 f3 f5 f9 f11 (ix2 i j) = gt c M2 M3 M5 M9 M11 r f2 f3 f5 f9 f11 1 i.val j :=
  chunk_apply c M2 M3 M5 M9 M10 M11 r f2 f3 f5 f9 f11 1 (by omega) _ i j
theorem chunk2 (i : Fin 512) (j : Fin 256) : tailRun.sl.r_162 c M2 M3 M5 M9 M10 M11 r f2 f3 f5 f9 f11 (ix2 i j) = gt c M2 M3 M5 M9 M11 r f2 f3 f5 f9 f11 2 i.val j :=
  chunk_apply c M2 M3 M5 M9 M10 M11 r f2 f3 f5 f9 f11 2 (by omega) _ i j
theorem chunk3 (i : Fin 512) (j : Fin 256) : tailRun.sl.v4284 c M2 M3 M5 M9 M10 M11 r f2 f3 f5 f9 f11 (ix2 i j) = gt c M2 M3 M5 M9 M11 r f2 f3 f5 f9 f11 3 i.val j :=
  chunk_apply c M2 M3 M5 M9 M10 M11 r f2 f3 f5 f9 f11 3 (by omega) _ i j
theorem chunk4 (i : Fin 512) (j : Fin 256) : tailRun.sl.v4286 c M2 M3 M5 M9 M10 M11 r f2 f3 f5 f9 f11 (ix2 i j) = gt c M2 M3 M5 M9 M11 r f2 f3 f5 f9 f11 4 i.val j :=
  chunk_apply c M2 M3 M5 M9 M10 M11 r f2 f3 f5 f9 f11 4 (by omega) _ i j
theorem chunk5 (i : Fin 512) (j : Fin 256) : tailRun.sl.v4288 c M2 M3 M5 M9 M10 M11 r f2 f3 f5 f9 f11 (ix2 i j) = gt c M2 M3 M5 M9 M11 r f2 f3 f5 f9 f11 5 i.val j :=
  chunk_apply c M2 M3 M5 M9 M10 M11 r f2 f3 f5 f9 f11 5 (by omega) _ i j
theorem chunk6 (i : Fin 512) (j : Fin 256) : tailRun.sl.v4290 c M2 M3 M5 M9 M10 M11 r f2 f3 f5 f9 f11 (ix2 i j) = gt c M2 M3 M5 M9 M11 r f2 f3 f5 f9 f11 6 i.val j :=
  chunk_apply c M2 M3 M5 M9 M10 M11 r f2 f3 f5 f9 f11 6 (by omega) _ i j
theorem chunk7 (i : Fin 512) (j : Fin 256) : tailRun.sl.v4292 c M2 M3 M5 M9 M10 M11 r f2 f3 f5 f9 f11 (ix2 i j) = gt c M2 M3 M5 M9 M11 r f2 f3 f5 f9 f11 7 i.val j :=
  chunk_apply c M2 M3 M5 M9 M10 M11 r f2 f3 f5 f9 f11 7 (by omega) _ i j
theorem chunk8 (i : Fin 512) (j : Fin 256) : tailRun.sl.v4294 c M2 M3 M5 M9 M10 M11 r f2 f3 f5 f9 f11 (ix2 i j) = gt c M2 M3 M5 M9 M11 r f2 f3 f5 f9 f11 8 i.val j :=
  chunk_apply c M2 M3 M5 M9 M10 M11 r f2 f3 f5 f9 f11 8 (by omega) _ i j
theorem chunk9 (i : Fin 512) (j : Fin 256) : tailRun.sl.v4296 c M2 M3 M5 M9 M10 M11 r f2 f3 f5 f9 f11 (ix2 i j) = gt c M2 M3 M5 M9 M11 r f2 f3 f5 f9 f11 9 i.val j :=
  chunk_apply c M2 M3 M5 M9 M10 M11 r f2 f3 f5 f9 f11 9 (by omega) _ i j
theorem chunk10 (i : Fin 512) (j : Fin 256) : tailRun.sl.v4302 c M2 M3 M5 M9 M10 M11 r f2 f3 f5 f9 f11 (ix2 i j) = gt c M2 M3 M5 M9 M11 r f2 f3 f5 f9 f11 10 i.val j :=
  chunk_apply c M2 M3 M5 M9 M10 M11 r f2 f3 f5 f9 f11 10 (by omega) _ i j

set_option maxHeartbeats 1000000 in
/-- The first ten chunks, side by side. -/
theorem head_apply (i : Fin 512) (j : Fin 2560) : tailRun.sl.v4297 c M2 M3 M5 M9 M10 M11 r f2 f3 f5 f9 f11 (ix2 i j)
    = gt c M2 M3 M5 M9 M11 r f2 f3 f5 f9 f11 ⟨j.val / 256, by omega⟩ i.val ⟨j.val % 256, by omega⟩ := by
  have hj := j.isLt
  unfold tailRun.sl.v4297
  simp only [pointwise, chunk0, chunk1, chunk2, chunk3, chunk4, chunk5, chunk6, chunk7, chunk8, chunk9]
  generalize gt c M2 M3 M5 M9 M11 r f2 f3 f5 f9 f11 = G
  have hG : ∀ (k k' : Fin 11) (j j' : Fin 256), k.val = k'.val → j.val = j'.val → G k i.val j = G k' i.val j' := fun k k' j j' hk hj => by
    rw [Fin.ext hk, Fin.ext hj]
  simp
  split_ifs <;> exact hG _ _ _ _ (by simp; omega) (by simp; omega)

/-- The tile's result at row `i`. -/
theorem tile_apply (i : Fin 512) (d : Fin 1024) : tailRun.sl.v4305 c M2 M3 M5 M9 M10 M11 M12 r f2 f3 f5 f9 f11 f12 (ix2 i d)
    = tailRun.sl.v76 c M2 r f2 (ix2 i d)
      + (∑ j : Fin 2560, gt c M2 M3 M5 M9 M11 r f2 f3 f5 f9 f11 ⟨j.val / 256, by omega⟩ i.val ⟨j.val % 256, by omega⟩ * M12.view.read (Elt Ideal) f12 (ix2 ⟨j.val, by omega⟩ d))
      + ∑ j : Fin 256, gt c M2 M3 M5 M9 M11 r f2 f3 f5 f9 f11 10 i.val j * M12.view.read (Elt Ideal) f12 (ix2 ⟨2560 + j.val, by omega⟩ d) := by
  unfold tailRun.sl.v4305 tailRun.sl.v4300 tailRun.sl.v4304 tailRun.sl.v4299
  simp only [pointwise, head_apply, chunk10]
  have e1 : ∀ j : Fin 2560, M12.view.readAt (Elt Ideal) (Rect.unit (s := S2816x1024) ![0, 0] S2560x1024.size inb_S2816x1024_S2560x1024_0_0).toLoadRect f12 (ix2 j d)
      = M12.view.read (Elt Ideal) f12 (ix2 ⟨j.val, by omega⟩ d) := fun j =>
    (load_box2 M12.view f12 _ _ _).trans (congrArg _ (ix2_congr (by simp) (by simp)))
  have e2 : ∀ j : Fin 256, M12.view.readAt (Elt Ideal) (Rect.unit (s := S2816x1024) ![2560, 0] S256x1024.size inb_S2816x1024_S256x1024_2560_0).toLoadRect f12 (ix2 j d)
      = M12.view.read (Elt Ideal) f12 (ix2 ⟨2560 + j.val, by omega⟩ d) := fun j =>
    (load_box2 M12.view f12 _ _ _).trans (congrArg _ (ix2_congr (by simp) (by simp)))
  have e0 : ∀ y, tailRun.sl.cst_1728 (F := Ideal) y = 0 := fun y => by
    show Ideal.ofBits .f32 0x00000000#32 = 0
    simp
  simp [e0, e1, e2]

end Cert.KernelIdeal.Ffn

end
-- ==== Proof.KernelIdeal.Out.lean ====
module

public import proofs.«01_k».proof.Proof.KernelIdeal.Tile

@[expose] public section

set_option maxRecDepth 65536

noncomputable section

/-! The tile's result, laid out by token. -/

namespace Cert.KernelIdeal.Ffn

open Cert.KernelIdeal Cert.KernelIdeal.Gen
open Idealize.ShloMosaic

variable (c : Dev nD) (M2 : Memref sig .tc .vmem S1x8x512x128 .f32) (M3 : Memref sig .tc .vmem S1x1024 .f32) (M5 : Memref sig .tc .vmem S3x5632 .f32)
  (M8 : Memref sig .tc .vmem S8x512x128 .f32) (M9 : Memref sig .tc .vmem S11x784x512 .f32) (M10 : Memref sig .tc .vmem S11x512x256 .bf16) (M11 : Memref sig .tc .vmem S1024x5632 .bf16) (M12 : Memref sig .tc .vmem S2816x1024 .bf16)
  (r : Ret Ideal) (f2 : Bf (F := Ideal) c M2) (f3 : Bf (F := Ideal) c M3) (f5 : Bf (F := Ideal) c M5) (f9 : Bf (F := Ideal) c M9) (f11 : Bf (F := Ideal) c M11) (f12 : Bf (F := Ideal) c M12)

/-! ### The tile's result, laid out by token -/

/-- Four strided stores of the result's lanes `128 * s` on, latest first: the tokens `4 * i + 3`, …, `4 * i`. -/
def strided (s : Fin 8) (v : Fin 4) : Rect S8x512x128 where
  off := ![s.val, v.val, 0]
  size := S1x128x128.size
  stride := ![1, 4, 1]
  inb := by
    intro x
    match x with
    | ⟨0, _⟩ => exact Or.inr (show s.val + 1 * (1 - 1) < 8 by omega)
    | ⟨1, _⟩ => exact Or.inr (show v.val + 4 * (128 - 1) < 512 by omega)
    | ⟨2, _⟩ => exact Or.inr (show 0 + 1 * (128 - 1) < 128 by omega)
  stride_pos := by
    intro x
    match x with
    | ⟨0, _⟩ => exact (show 0 < 1 by omega)
    | ⟨1, _⟩ => exact (show 0 < 4 by omega)
    | ⟨2, _⟩ => exact (show 0 < 1 by omega)

/-- A quarter of the result's lanes. -/
def part (y : FVec Ideal S512x1024 .f32) (s : Fin 8) (v : Fin 4) : FVec Ideal S1x128x128 .f32 :=
  shapeCast S1x128x128 (extractStridedSlice S128x128 ![128 * v.val, 128 * s.val] y ⟨rfl, fun x => by
    match x with
    | ⟨0, _⟩ => exact (show 128 * v.val + 128 ≤ 512 by omega)
    | ⟨1, _⟩ => exact (show 128 * s.val + 128 ≤ 1024 by omega)⟩) shapeCasts_S128x128_S1x128x128

def partPut (y : FVec Ideal S512x1024 .f32) (s : Fin 8) (L : List (View.Piece (Elt Ideal) S8x512x128 .f32)) : List (View.Piece (Elt Ideal) S8x512x128 .f32) :=
  ⟨strided s 3, part y s 3⟩ :: ⟨strided s 2, part y s 2⟩ :: ⟨strided s 1, part y s 1⟩ :: ⟨strided s 0, part y s 0⟩ :: L

theorem parts0 : tailRun.sl.H8_4 c M2 M3 M5 M9 M10 M11 M12 r f2 f3 f5 f9 f11 f12 = partPut (tailRun.sl.v4305 c M2 M3 M5 M9 M10 M11 M12 r f2 f3 f5 f9 f11 f12) 0 [] := rfl
theorem parts1 : tailRun.sl.H8_8 c M2 M3 M5 M9 M10 M11 M12 r f2 f3 f5 f9 f11 f12 = partPut (tailRun.sl.v4305 c M2 M3 M5 M9 M10 M11 M12 r f2 f3 f5 f9 f11 f12) 1 (tailRun.sl.H8_4 c M2 M3 M5 M9 M10 M11 M12 r f2 f3 f5 f9 f11 f12) := rfl
theorem parts2 : tailRun.sl.H8_12 c M2 M3 M5 M9 M10 M11 M12 r f2 f3 f5 f9 f11 f12 = partPut (tailRun.sl.v4305 c M2 M3 M5 M9 M10 M11 M12 r f2 f3 f5 f9 f11 f12) 2 (tailRun.sl.H8_8 c M2 M3 M5 M9 M10 M11 M12 r f2 f3 f5 f9 f11 f12) := rfl
theorem parts3 : tailRun.sl.H8_16 c M2 M3 M5 M9 M10 M11 M12 r f2 f3 f5 f9 f11 f12 = partPut (tailRun.sl.v4305 c M2 M3 M5 M9 M10 M11 M12 r f2 f3 f5 f9 f11 f12) 3 (tailRun.sl.H8_12 c M2 M3 M5 M9 M10 M11 M12 r f2 f3 f5 f9 f11 f12) := rfl
theorem parts4 : tailRun.sl.H8_20 c M2 M3 M5 M9 M10 M11 M12 r f2 f3 f5 f9 f11 f12 = partPut (tailRun.sl.v4305 c M2 M3 M5 M9 M10 M11 M12 r f2 f3 f5 f9 f11 f12) 4 (tailRun.sl.H8_16 c M2 M3 M5 M9 M10 M11 M12 r f2 f3 f5 f9 f11 f12) := rfl
theorem parts5 : tailRun.sl.H8_24 c M2 M3 M5 M9 M10 M11 M12 r f2 f3 f5 f9 f11 f12 = partPut (tailRun.sl.v4305 c M2 M3 M5 M9 M10 M11 M12 r f2 f3 f5 f9 f11 f12) 5 (tailRun.sl.H8_20 c M2 M3 M5 M9 M10 M11 M12 r f2 f3 f5 f9 f11 f12) := rfl
theorem parts6 : tailRun.sl.H8_28 c M2 M3 M5 M9 M10 M11 M12 r f2 f3 f5 f9 f11 f12 = partPut (tailRun.sl.v4305 c M2 M3 M5 M9 M10 M11 M12 r f2 f3 f5 f9 f11 f12) 6 (tailRun.sl.H8_24 c M2 M3 M5 M9 M10 M11 M12 r f2 f3 f5 f9 f11 f12) := rfl
theorem parts7 : tailRun.sl.H8_32 c M2 M3 M5 M9 M10 M11 M12 r f2 f3 f5 f9 f11 f12 = partPut (tailRun.sl.v4305 c M2 M3 M5 M9 M10 M11 M12 r f2 f3 f5 f9 f11 f12) 7 (tailRun.sl.H8_28 c M2 M3 M5 M9 M10 M11 M12 r f2 f3 f5 f9 f11 f12) := rfl

theorem part_apply (y : FVec Ideal S512x1024 .f32) (s : Fin 8) (v : Fin 4) (i j : Fin 128) :
    part y s v (ix3 0 i j) = y (ix2 ⟨128 * v.val + i.val, by omega⟩ ⟨128 * s.val + j.val, by omega⟩) := by
  unfold part
  simp only [pointwise]
  refine congrArg y (funext fun a => ?_)
  match a with
  | ⟨0, _⟩ => exact Fin.ext rfl
  | ⟨1, _⟩ => exact Fin.ext rfl

theorem strided_hit (V : View sig .tc .vmem S8x512x128 .f32) (f) (y : FVec Ideal S512x1024 .f32) (s : Fin 8) (v : Fin 4) (L : List (View.Piece (Elt Ideal) S8x512x128 .f32))
    (t : Fin 512) (l : Fin 128) (h : t.val % 4 = v.val) :
    V.read (Elt Ideal) (V.writes (Elt Ideal) f (⟨strided s v, part y s v⟩ :: L)) (ix3 s t l) = y (ix2 ⟨rowAt t.val, by unfold rowAt; omega⟩ ⟨128 * s.val + l.val, by omega⟩) := by
  refine (View.read_writes_cons_hit_of_coords V f (strided s v) (part y s v) L (ix3 0 ⟨t.val / 4, by omega⟩ l) (ix3 s t l) ?_).trans ?_
  · intro a
    match a with
    | ⟨0, _⟩ => exact (show s.val = s.val + 1 * 0 by omega)
    | ⟨1, _⟩ => exact (show t.val = v.val + 4 * (t.val / 4) by omega)
    | ⟨2, _⟩ => exact (show l.val = 0 + 1 * l.val by omega)
  · rw [part_apply]
    exact congrArg y (ix2_congr (by unfold rowAt; simp; omega) rfl)

theorem strided_miss (V : View sig .tc .vmem S8x512x128 .f32) (f) (y : FVec Ideal S512x1024 .f32) (s : Fin 8) (v : Fin 4) (L : List (View.Piece (Elt Ideal) S8x512x128 .f32))
    (t : Fin 512) (l : Fin 128) (h : t.val % 4 ≠ v.val) :
    V.read (Elt Ideal) (V.writes (Elt Ideal) f (⟨strided s v, part y s v⟩ :: L)) (ix3 s t l) = V.read (Elt Ideal) (V.writes (Elt Ideal) f L) (ix3 s t l) := by
  refine View.read_writes_cons_miss V f _ L (ix3 s t l) (fun hm => ?_)
  obtain ⟨j, _, hj⟩ := (Idealize.ShloMosaic.LoadRect.mem_set (r := (strided s v).toLoadRect)).mp hm 1
  have hj' : t.val = v.val + 4 * j := hj
  omega

/-- A slab of lanes after its four stores: token `t` comes from row `rowAt t`. -/
theorem read_parts (V : View sig .tc .vmem S8x512x128 .f32) (f) (y : FVec Ideal S512x1024 .f32) (s : Fin 8) (L : List (View.Piece (Elt Ideal) S8x512x128 .f32))
    (t : Fin 512) (l : Fin 128) :
    V.read (Elt Ideal) (V.writes (Elt Ideal) f (partPut y s L)) (ix3 s t l) = y (ix2 ⟨rowAt t.val, by unfold rowAt; omega⟩ ⟨128 * s.val + l.val, by omega⟩) := by
  unfold partPut
  have h4 : t.val % 4 = 3 ∨ t.val % 4 = 2 ∨ t.val % 4 = 1 ∨ t.val % 4 = 0 := by omega
  by_cases h3 : t.val % 4 = 3
  · exact strided_hit V f y s 3 _ t l h3
  rw [strided_miss V f y s 3 _ t l h3]
  by_cases h2 : t.val % 4 = 2
  · exact strided_hit V f y s 2 _ t l h2
  rw [strided_miss V f y s 2 _ t l h2]
  by_cases h1 : t.val % 4 = 1
  · exact strided_hit V f y s 1 _ t l h1
  rw [strided_miss V f y s 1 _ t l h1]
  exact strided_hit V f y s 0 _ t l (show t.val % 4 = 0 by omega)

/-- A slab of lanes, as it goes into the output block. -/
def slabOut (H : List (View.Piece (Elt Ideal) S8x512x128 .f32)) (s : Fin 8) : FVec Ideal S1x512x128 .f32 :=
  shapeCast S1x512x128 (shapeCast S512x128 (View.readCov M8.view H (Rect.unit (s := S8x512x128) ![s.val, 0, 0] S1x512x128.size (fun x => by
    match x with
    | ⟨0, _⟩ => exact (show s.val + 1 ≤ 8 by omega)
    | ⟨1, _⟩ => exact (show 0 + 512 ≤ 512 by omega)
    | ⟨2, _⟩ => exact (show 0 + 128 ≤ 128 by omega))).toLoadRect) shapeCasts_S1x512x128_S512x128) shapeCasts_S512x128_S1x512x128

def outPiece (H : List (View.Piece (Elt Ideal) S8x512x128 .f32)) (s : Fin 8) : View.Piece (Elt Ideal) S1x512x1024 .f32 :=
  ⟨Rect.unit (s := S1x512x1024) ![0, 0, 128 * s.val] ![1, 512, 128] (fun x => by
    match x with
    | ⟨0, _⟩ => exact (show 0 + 1 ≤ 1 by omega)
    | ⟨1, _⟩ => exact (show 0 + 512 ≤ 512 by omega)
    | ⟨2, _⟩ => exact (show 128 * s.val + 128 ≤ 1024 by omega)), slabOut M8 H s⟩

theorem slabOut_apply (y : FVec Ideal S512x1024 .f32) (s : Fin 8) (L : List (View.Piece (Elt Ideal) S8x512x128 .f32)) (t : Fin 512) (l : Fin 128) :
    slabOut M8 (partPut y s L) s (ix3 0 t l) = y (ix2 ⟨rowAt t.val, by unfold rowAt; omega⟩ ⟨128 * s.val + l.val, by omega⟩) := by
  unfold slabOut View.readCov
  simp only [pointwise]
  refine (load_box3 M8.view _ _ _ _ _).trans ?_
  refine (congrArg _ (ix3_congr (by simp) (by simp) (by simp))).trans (read_parts M8.view M8.view.junk y s L t l)

/-- The output block's stores, latest first. -/
def outList (y : FVec Ideal S512x1024 .f32) (Ls : Fin 8 → List (View.Piece (Elt Ideal) S8x512x128 .f32)) : ℕ → List (View.Piece (Elt Ideal) S1x512x1024 .f32)
  | 0 => []
  | n + 1 => outPiece M8 (partPut y (Fin.ofNat 8 n) (Ls (Fin.ofNat 8 n))) (Fin.ofNat 8 n) :: outList y Ls n

theorem read_outList (V : View sig .tc .vmem S1x512x1024 .f32) (f) (y : FVec Ideal S512x1024 .f32) (Ls : Fin 8 → List (View.Piece (Elt Ideal) S8x512x128 .f32))
    (n : ℕ) (hn : n ≤ 8) (t : Fin 512) (d : Fin 1024) (hd : d.val < 128 * n) :
    V.read (Elt Ideal) (V.writes (Elt Ideal) f (outList M8 y Ls n)) (ix3 0 t d) = y (ix2 ⟨rowAt t.val, by unfold rowAt; omega⟩ d) := by
  induction n with
  | zero => omega
  | succ n ih =>
    have en : (Fin.ofNat 8 n).val = n := Nat.mod_eq_of_lt (by omega)
    unfold outList outPiece
    refine (read_box3 V f _ _ _ 0 t d).trans ?_
    split
    · rename_i h
      have e : slabOut M8 (partPut y (Fin.ofNat 8 n) (Ls (Fin.ofNat 8 n))) (Fin.ofNat 8 n) (ix3 0 t ⟨d.val - 128 * (Fin.ofNat 8 n).val, by omega⟩) = _ := slabOut_apply M8 _ _ _ _ _
      refine (congrArg _ (ix3_congr (by simp) (by simp) rfl)).trans (e.trans ?_)
      exact congrArg y (ix2_congr rfl (by simp; omega))
    · rename_i h
      exact ih (by omega) (by simp at h; omega)

/-- The stores before a slab's own four. -/
def befores : Fin 8 → List (View.Piece (Elt Ideal) S8x512x128 .f32) :=
  ![[], tailRun.sl.H8_4 c M2 M3 M5 M9 M10 M11 M12 r f2 f3 f5 f9 f11 f12, tailRun.sl.H8_8 c M2 M3 M5 M9 M10 M11 M12 r f2 f3 f5 f9 f11 f12, tailRun.sl.H8_12 c M2 M3 M5 M9 M10 M11 M12 r f2 f3 f5 f9 f11 f12, tailRun.sl.H8_16 c M2 M3 M5 M9 M10 M11 M12 r f2 f3 f5 f9 f11 f12, tailRun.sl.H8_20 c M2 M3 M5 M9 M10 M11 M12 r f2 f3 f5 f9 f11 f12, tailRun.sl.H8_24 c M2 M3 M5 M9 M10 M11 M12 r f2 f3 f5 f9 f11 f12, tailRun.sl.H8_28 c M2 M3 M5 M9 M10 M11 M12 r f2 f3 f5 f9 f11 f12]

theorem outs : tailRun.sl.H7_8 c M2 M3 M5 M8 M9 M10 M11 M12 r f2 f3 f5 f9 f11 f12 = outList M8 (tailRun.sl.v4305 c M2 M3 M5 M9 M10 M11 M12 r f2 f3 f5 f9 f11 f12) (befores c M2 M3 M5 M9 M10 M11 M12 r f2 f3 f5 f9 f11 f12) 8 := by
  rfl

theorem kept2_apply (k : Fin 11) (j : Fin 512) : tailRun.sl.v4309 c M2 M3 M9 M11 r f2 f3 f11 (ix3 k 0 j) = upVal c M2 M3 M11 r f2 f3 f11 k (ix2 383 j) := by
  unfold tailRun.sl.v4309 tailRun.sl.v4306 View.readCov
  simp only [pointwise]
  rw [list11]
  generalize e : upList c M2 M3 M11 r f2 f3 f11 11 = L
  have hL : Fills M9 L k (upVal c M2 M3 M11 r f2 f3 f11 k) := e ▸ fills c M2 M3 M9 M11 r f2 f3 f11 11 (by omega) k (by omega)
  refine (load_box3 M9.view _ _ _ _ _).trans ((congrArg _ (ix3_congr (by simp) (by simp) (by simp))).trans (hL _ (640 : Fin 784) j))

theorem kept1_apply (k : Fin 11) (j : Fin 512) : tailRun.sl.v4313 c M2 M3 M9 M11 r f2 f3 f11 (ix3 k 0 j) = upVal c M2 M3 M11 r f2 f3 f11 k (ix2 511 j) := by
  unfold tailRun.sl.v4313 tailRun.sl.v4310 View.readCov tailRun.sl.H9_34
  simp only [pointwise]
  rw [list11]
  generalize e : upList c M2 M3 M11 r f2 f3 f11 11 = L
  have hL : Fills M9 L k (upVal c M2 M3 M11 r f2 f3 f11 k) := e ▸ fills c M2 M3 M9 M11 r f2 f3 f11 11 (by omega) k (by omega)
  refine (load_box3 M9.view _ _ _ _ _).trans ((congrArg _ (ix3_congr (by simp) (by simp) (by simp))).trans ((read_box3 M9.view _ _ _ _ k (776 : Fin 784) j).trans ?_))
  rw [dif_neg (by simp)]
  exact hL _ (776 : Fin 784) j

/-- The tile's last two up-projections, kept for the next tile. -/
theorem kept (g : M9.view.ty.Contents (Elt Ideal)) (k : Fin 11) (j : Fin 512) :
    M9.view.read (Elt Ideal) (M9.view.writes (Elt Ideal) g (tailRun.sl.H9_35 c M2 M3 M9 M11 r f2 f3 f11)) (ix3 k 512 j) = upVal c M2 M3 M11 r f2 f3 f11 k (ix2 383 j)
    ∧ M9.view.read (Elt Ideal) (M9.view.writes (Elt Ideal) g (tailRun.sl.H9_35 c M2 M3 M9 M11 r f2 f3 f11)) (ix3 k 648 j) = upVal c M2 M3 M11 r f2 f3 f11 k (ix2 511 j) := by
  unfold tailRun.sl.H9_35 tailRun.sl.H9_34
  refine ⟨(read_box3 M9.view _ _ _ _ k (512 : Fin 784) j).trans ?_, (read_box3 M9.view _ _ _ _ k (648 : Fin 784) j).trans ?_⟩
  · rw [dif_neg (by simp)]
    refine (read_box3 M9.view _ _ _ _ k (512 : Fin 784) j).trans ?_
    rw [dif_pos (by simp)]
    exact (congrArg _ (ix3_congr (by simp) (by simp) (by simp))).trans (kept2_apply c M2 M3 M9 M11 r f2 f3 f11 k j)
  · rw [dif_pos (by simp)]
    exact (congrArg _ (ix3_congr (by simp) (by simp) (by simp))).trans (kept1_apply c M2 M3 M9 M11 r f2 f3 f11 k j)

end Cert.KernelIdeal.Ffn

end
-- ==== Proof.KernelIdeal.Token.lean ====
module

public import proofs.«01_k».proof.Proof.KernelIdeal.Out

@[expose] public section

set_option maxRecDepth 65536

noncomputable section

/-! The layer by token, and one tile of it. -/

namespace Cert.KernelIdeal.Ffn

open Cert.KernelIdeal Cert.KernelIdeal.Gen
open Idealize.ShloMosaic

variable (c : Dev nD) (M2 : Memref sig .tc .vmem S1x8x512x128 .f32) (M3 : Memref sig .tc .vmem S1x1024 .f32) (M5 : Memref sig .tc .vmem S3x5632 .f32)
  (M8 : Memref sig .tc .vmem S8x512x128 .f32) (M9 : Memref sig .tc .vmem S11x784x512 .f32) (M10 : Memref sig .tc .vmem S11x512x256 .bf16) (M11 : Memref sig .tc .vmem S1024x5632 .bf16) (M12 : Memref sig .tc .vmem S2816x1024 .bf16)
  (r : Ret Ideal) (f2 : Bf (F := Ideal) c M2) (f3 : Bf (F := Ideal) c M3) (f5 : Bf (F := Ideal) c M5) (f9 : Bf (F := Ideal) c M9) (f11 : Bf (F := Ideal) c M11) (f12 : Bf (F := Ideal) c M12)

/-! ### The layer, token by token -/

/-- The layer's arrays: the tokens, the norm's weight, the two projections and the convolution's taps. -/
structure Arrays where
  x : ℕ → Fin 1024 → EReal
  nw : Fin 1024 → EReal
  wu : Fin 1024 → Fin 5632 → EReal
  cw : Fin 3 → Fin 5632 → EReal
  wd : Fin 2816 → Fin 1024 → EReal

variable (A : Arrays)

/-- The up-projection of a token. -/
def upS (T : ℕ) (q : Fin 5632) : EReal := (∑ d, A.x T d * A.nw d * A.wu d q) * inv (A.x T)
/-- The up-projection `n` tokens earlier; zero before the first token. -/
def backS (n T : ℕ) (q : Fin 5632) : EReal := if n ≤ T then upS A (T - n) q else 0
/-- The convolution over three tokens. -/
def cvS (T : ℕ) (q : Fin 5632) : EReal := A.cw 0 q * backS A 2 T q + A.cw 1 q * backS A 1 T q + A.cw 2 q * upS A T q
/-- The gated entry. -/
def gtS (T : ℕ) (q : Fin 2816) : EReal := gateOf (cvS A T ⟨q.val, by omega⟩) (cvS A T ⟨2816 + q.val, by omega⟩)
/-- The layer's result. -/
def outS (T : ℕ) (d : Fin 1024) : EReal :=
  A.x T d + (∑ j : Fin 2560, gtS A T ⟨j.val, by omega⟩ * A.wd ⟨j.val, by omega⟩ d)
    + ∑ j : Fin 256, gtS A T ⟨2560 + j.val, by omega⟩ * A.wd ⟨2560 + j.val, by omega⟩ d

variable {A}
variable {c M2 M3 M5 M9 M11 M12 f2 f3 f5 f9 f11 f12}

theorem tok_row (T : ℕ) (h : T < 512) : tokOf (rowAt T) = T := by unfold tokOf rowAt; omega
theorem rowAt_lt (T : ℕ) (h : T < 512) : rowAt T < 512 := by unfold rowAt; omega
theorem tokOf_lt (i : ℕ) (h : i < 512) : tokOf i < 512 := by unfold tokOf; omega

/-- The buffers a tile starts from hold the layer's arrays, at tile `s`. -/
structure Holds (A : Arrays) (s : ℕ) (f2 : Bf (F := Ideal) c M2) (f3 : Bf (F := Ideal) c M3) (f5 : Bf (F := Ideal) c M5) (f9 : Bf (F := Ideal) c M9) (f11 : Bf (F := Ideal) c M11) (f12 : Bf (F := Ideal) c M12) : Prop where
  x : ∀ (a : Fin 8) (t : Fin 512) (l : Fin 128), M2.view.read (Elt Ideal) f2 (ix4 0 a t l) = A.x (512 * s + t.val) ⟨128 * a.val + l.val, by omega⟩
  nw : ∀ d : Fin 1024, M3.view.read (Elt Ideal) f3 (ix2 0 d) = A.nw d
  cw : ∀ (t : Fin 3) (q : Fin 5632), M5.view.read (Elt Ideal) f5 (ix2 t q) = A.cw t q
  wu : ∀ (d : Fin 1024) (q : Fin 5632), M11.view.read (Elt Ideal) f11 (ix2 d q) = A.wu d q
  wd : ∀ (q : Fin 2816) (d : Fin 1024), M12.view.read (Elt Ideal) f12 (ix2 q d) = A.wd q d
  two : ∀ (k : Fin 11) (j : Fin 512), M9.view.read (Elt Ideal) f9 (ix3 k 512 j) = backS A 2 (512 * s) (colUp k j)
  one : ∀ (k : Fin 11) (j : Fin 512), M9.view.read (Elt Ideal) f9 (ix3 k 648 j) = backS A 1 (512 * s) (colUp k j)

variable {s : ℕ} (H : Holds (c := c) (M2 := M2) (M3 := M3) (M5 := M5) (M9 := M9) (M11 := M11) (M12 := M12) A s f2 f3 f5 f9 f11 f12)
include H

theorem row_eq (i : Fin 512) (d : Fin 1024) : tailRun.sl.v76 c M2 (first7 c M2 f2) f2 (ix2 i d) = A.x (512 * s + tokOf i.val) d := by
  rw [rows_apply, H.x]
  exact congrArg _ (Fin.ext (show 128 * (d.val / 128) + d.val % 128 = d.val by omega))

theorem up_eq (k : Fin 11) (i j : Fin 512) : upVal c M2 M3 M11 (first7 c M2 f2) f2 f3 f11 k (ix2 i j) = upS A (512 * s + tokOf i.val) (colUp k j) := by
  rw [upVal_apply]
  unfold upS
  simp only [row_eq H, H.nw, H.wu]

theorem earlier_eq (k : Fin 11) (n : ℕ) (hn : n = 1 ∨ n = 2) (i : Fin 512) (j : Fin 512) :
    earlier (upVal c M2 M3 M11 (first7 c M2 f2) f2 f3 f11 k) (carried2 c M9 f9 k) (carried1 c M9 f9 k) n i.val j = backS A n (512 * s + tokOf i.val) (colUp k j) := by
  have hi := tokOf_lt i.val i.isLt
  unfold earlier
  split
  · rename_i h
    have hr := rowAt_lt (tokOf i.val - n) (by omega)
    rw [up_eq H]
    unfold backS
    rw [if_pos (by omega)]
    refine congrArg (fun T => upS A T (colUp k j)) ?_
    show 512 * s + tokOf (rowAt (tokOf i.val - n) % 512) = _
    rw [Nat.mod_eq_of_lt hr, tok_row _ (by omega)]
    omega
  · rename_i h
    unfold carried1 carried2
    rw [H.one, H.two]
    unfold backS
    split
    · rename_i h1
      by_cases h0 : s = 0
      · rw [if_neg (by omega), if_neg (by omega)]
      · rw [if_pos (by omega), if_pos (by omega)]
        exact congrArg (fun T => upS A T (colUp k j)) (by omega)
    · rename_i h1
      by_cases h0 : s = 0
      · rw [if_neg (by omega), if_neg (by omega)]
      · rw [if_pos (by omega), if_pos (by omega)]
        exact congrArg (fun T => upS A T (colUp k j)) (by omega)

theorem cv_eq (k : Fin 11) (i j : Fin 512) :
    cvOf (pairCw c M5 f5 k) (upVal c M2 M3 M11 (first7 c M2 f2) f2 f3 f11 k) (carried2 c M9 f9 k) (carried1 c M9 f9 k) i.val j = cvS A (512 * s + tokOf i.val) (colUp k j) := by
  unfold cvOf cvS
  rw [earlier_eq H k 2 (Or.inr rfl), earlier_eq H k 1 (Or.inl rfl), up_eq H, pairCw_apply, pairCw_apply, pairCw_apply, H.cw, H.cw, H.cw]
  have e : (Fin.ofNat 512 i.val).val = i.val := Nat.mod_eq_of_lt i.isLt
  rw [e]

theorem gt_eq (k : Fin 11) (i : Fin 512) (j : Fin 256) :
    gt c M2 M3 M5 M9 M11 (first7 c M2 f2) f2 f3 f5 f9 f11 k i.val j = gtS A (512 * s + tokOf i.val) ⟨256 * k.val + j.val, by omega⟩ := by
  unfold gt gtOf gtS
  rw [cv_eq H, cv_eq H]
  have e1 : colUp k ⟨j.val, by omega⟩ = ⟨256 * k.val + j.val, by omega⟩ := Fin.ext (by simp [colUp])
  have e2 : colUp k ⟨256 + j.val, by omega⟩ = ⟨2816 + (256 * k.val + j.val), by omega⟩ := Fin.ext (by simp [colUp]; omega)
  rw [e1, e2]

theorem tile_eq (i : Fin 512) (d : Fin 1024) : tailRun.sl.v4305 c M2 M3 M5 M9 M10 M11 M12 (first7 c M2 f2) f2 f3 f5 f9 f11 f12 (ix2 i d) = outS A (512 * s + tokOf i.val) d := by
  rw [tile_apply, row_eq H]
  unfold outS
  simp only [gt_eq H, H.wd]
  refine congrArg₂ _ (congrArg₂ _ rfl (Finset.sum_congr rfl fun j _ => ?_)) (Finset.sum_congr rfl fun j _ => ?_)
  · exact congrArg (· * _) (congrArg _ (Fin.ext (show 256 * (j.val / 256) + j.val % 256 = j.val by omega)))
  · rfl

/-- What a tile leaves in the output block. -/
theorem left_out (V : View sig .tc .vmem S1x512x1024 .f32) (g) (t : Fin 512) (d : Fin 1024) :
    V.read (Elt Ideal) (V.writes (Elt Ideal) g (tailRun.sl.H7_8 c M2 M3 M5 M8 M9 M10 M11 M12 (first7 c M2 f2) f2 f3 f5 f9 f11 f12)) (ix3 0 t d) = outS A (512 * s + t.val) d := by
  rw [outs, read_outList M8 V g _ _ 8 (by omega) t d (by omega), tile_eq M10 H]
  exact congrArg (fun T => outS A (512 * s + T) d) (tok_row t.val t.isLt)

/-- What a tile leaves for the next one. -/
theorem left_kept (g : M9.view.ty.Contents (Elt Ideal)) (k : Fin 11) (j : Fin 512) :
    M9.view.read (Elt Ideal) (M9.view.writes (Elt Ideal) g (tailRun.sl.H9_35 c M2 M3 M9 M11 (first7 c M2 f2) f2 f3 f11)) (ix3 k 512 j) = backS A 2 (512 * (s + 1)) (colUp k j)
    ∧ M9.view.read (Elt Ideal) (M9.view.writes (Elt Ideal) g (tailRun.sl.H9_35 c M2 M3 M9 M11 (first7 c M2 f2) f2 f3 f11)) (ix3 k 648 j) = backS A 1 (512 * (s + 1)) (colUp k j) := by
  have h := kept c M2 M3 M9 M11 (first7 c M2 f2) f2 f3 f11 g k j
  rw [up_eq H, up_eq H] at h
  unfold backS
  rw [if_pos (by omega), if_pos (by omega)]
  refine ⟨h.1.trans (congrArg (fun T => upS A T (colUp k j)) ?_), h.2.trans (congrArg (fun T => upS A T (colUp k j)) ?_)⟩
  · show 512 * s + tokOf 383 = _
    unfold tokOf
    omega
  · show 512 * s + tokOf 511 = _
    unfold tokOf
    omega

end Cert.KernelIdeal.Ffn

end
-- ==== Proof.KernelIdeal.Entry.lean ====
module

public import proofs.«01_k».proof.Proof.KernelIdeal.Token
public import proofs.«01_k».proof.Proof.KernelIdeal.Frame
public import Idealize.ShloMosaic.Lib.Pipeline.ValueKit
public import Idealize.ShloMosaic.Lib.StableHlo.ReadAt
public import Idealize.ShloMosaic.Lib.Pointwise

@[expose] public section

set_option maxRecDepth 65536

noncomputable section

/-! The arrays the kernel's launch is handed, element by element in the program's arguments. -/

namespace Cert.KernelIdeal.Ffn

open Cert.KernelIdeal Cert.KernelIdeal.Gen
open Idealize.ShloMosaic
open Idealize.ShloMosaic.TcCoe

variable (m : (ℓ : Loc nD τ sig) → Buf (Elt Ideal) ℓ) (c : Dev nD)

/-- The layer's arrays, read off the program's arguments. -/
def arrays : Arrays where
  x T d := m ((c.tc : Thread nD τ).loc main_arg0) (ix3 (0 : Fin 1) (Fin.ofNat 16384 T) d)
  nw d := m ((c.tc : Thread nD τ).loc main_arg1) (ix2 (0 : Fin 1) d)
  wu d q := m ((c.tc : Thread nD τ).loc main_arg2) (ix3 (0 : Fin 1) d q)
  cw t q := m ((c.tc : Thread nD τ).loc main_arg3) (ix3 (0 : Fin 1) t q)
  wd q d := m ((c.tc : Thread nD τ).loc main_arg4) (ix3 (0 : Fin 1) q d)

theorem V_tokens (a : Fin 8) (T : Fin 16384) (l : Fin 128) : V m c main_v5 (ix4 (0 : Fin 1) a T l) = (arrays m c).x T.val ⟨128 * a.val + l.val, by omega⟩ := by
  unfold V
  after_reads_at
  simp [arrays]
  exact congrArg _ (congrArg (ix3 (0 : Fin 1) T) (Fin.ext (by simp; omega)))

theorem V_norm (d : Fin 1024) : V m c main_v6 (ix2 (0 : Fin 1) d) = (arrays m c).nw d := by
  unfold V
  after_reads_at
  simp [arrays]

theorem V_taps (t : Fin 3) (q : Fin 5632) : V m c main_v2 (ix2 t q) = (arrays m c).cw t q := by
  unfold V
  after_reads_at
  simp [arrays]

theorem V_up (d : Fin 1024) (q : Fin 5632) : V m c main_v1 (ix2 d q) = (arrays m c).wu d q := by
  unfold V
  after_reads_at
  simp [arrays]

theorem V_down (q : Fin 2816) (d : Fin 1024) : V m c main_v3 (ix2 q d) = (arrays m c).wd q d := by
  unfold V
  after_reads_at
  simp [arrays]

theorem block_tokens (t : Fin cfg0.N) (a : Fin 8) (j : Fin 512) (l : Fin 128) : iblk m c 0 t (ix4 (0 : Fin 1) a j l) = (arrays m c).x (512 * t.val + j.val) ⟨128 * a.val + l.val, by omega⟩ := by
  have e : ∀ t : Fin grid0.N, win0_0.index t = ![0, 0, t.val, 0] := by decide +kernel
  have ht : t.val < 32 := t.isLt
  blk_simp [iblk, e]
  have h : (win0_0.blk t).view.emb (ix4 (0 : Fin 1) a j l) = ix4 (0 : Fin 1) a (⟨512 * t.val + j.val, by omega⟩ : Fin 16384) l := by
    blk_ext [e]
  rw [h]
  exact V_tokens m c a _ l

theorem block_norm (t : Fin cfg0.N) (d : Fin 1024) : iblk m c 1 t (ix2 (0 : Fin 1) d) = (arrays m c).nw d := by
  have e : ∀ t : Fin grid0.N, win0_1.index t = ![0, 0] := by decide +kernel
  rw [← V_norm]
  blk_simp [iblk, e]
  have h : (win0_1.blk t).view.emb (ix2 (0 : Fin 1) d) = ix2 (0 : Fin 1) d := by
    blk_ext [e]
  rw [h]

theorem block_taps (t : Fin cfg0.N) (a : Fin 3) (q : Fin 5632) : iblk m c 2 t (ix2 a q) = (arrays m c).cw a q := by
  have e : ∀ t : Fin grid0.N, win0_2.index t = ![0, 0] := by decide +kernel
  rw [← V_taps]
  blk_simp [iblk, e]
  have h : (win0_2.blk t).view.emb (ix2 a q) = ix2 a q := by
    blk_ext [e]
  rw [h]

end Cert.KernelIdeal.Ffn

end
-- ==== Proof.KernelIdeal.Fetched.lean ====
module

public import proofs.«01_k».proof.Proof.KernelIdeal.Out

@[expose] public section

set_option maxRecDepth 65536

noncomputable section

/-! What the two programs are left with. -/

namespace Cert.KernelIdeal.Ffn

open Cert.KernelIdeal Cert.KernelIdeal.Gen
open Idealize.ShloMosaic

variable (c : Dev nD) (M2 : Memref sig .tc .vmem S1x8x512x128 .f32) (M3 : Memref sig .tc .vmem S1x1024 .f32) (M5 : Memref sig .tc .vmem S3x5632 .f32)
  (M8 : Memref sig .tc .vmem S8x512x128 .f32) (M9 : Memref sig .tc .vmem S11x784x512 .f32) (M10 : Memref sig .tc .vmem S11x512x256 .bf16) (M11 : Memref sig .tc .vmem S1024x5632 .bf16) (M12 : Memref sig .tc .vmem S2816x1024 .bf16)
  (r : Ret Ideal) (f2 : Bf (F := Ideal) c M2) (f3 : Bf (F := Ideal) c M3) (f5 : Bf (F := Ideal) c M5) (f9 : Bf (F := Ideal) c M9) (f11 : Bf (F := Ideal) c M11) (f12 : Bf (F := Ideal) c M12)

variable (i : grid0.Coords) (h2 : M2.IsWhole) (h3 : M3.IsWhole) (M4 : Memref sig .tc .hbm S1024x5632 .f32) (h4 : M4.IsWhole) (h5 : M5.IsWhole) (M6 : Memref sig .tc .hbm S2816x1024 .f32) (h6 : M6.IsWhole) (M7 : Memref sig .tc .vmem S1x512x1024 .f32) (h7 : M7.IsWhole) (h8 : M8.IsWhole) (h9 : M9.IsWhole) (h10 : M10.IsWhole) (h11 : M11.IsWhole) (h12 : M12.IsWhole) (S13 : DmaSems sig S11)
  (f4 : Bf (F := Ideal) c M4) (f6 : Bf (F := Ideal) c M6)
    (hc1 : (Scalar.cmpi .ne (Scalar.extui (Scalar.andi (Scalar.cmpi .eq (BitVec.ofNat 32 (i 0).val) 0#32) (Scalar.cmpi .eq (BitVec.ofNat 32 (i 1).val) 0#32)) : BitVec 32) 0#32 = 1#1)) (hc2 : (Scalar.cmpi .ne (Scalar.extui (Scalar.cmpi .eq (BitVec.ofNat 32 (i 1).val) 0#32) : BitVec 32) 0#32 = 1#1))
    (hd1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1)) (hd2 : ¬ (Scalar.cmpi .ne (Scalar.extui (Scalar.cmpi .eq (BitVec.ofNat 32 (i 1).val) 0#32) : BitVec 32) 0#32 = 1#1))

theorem tail_out : (tailRun c i M2 h2 M3 h3 M4 h4 M5 h5 M6 h6 M7 h7 M8 h8 M9 h9 M10 h10 M11 h11 M12 h12 S13 r f2 f3 f5 f9 f11 f12).1.1 = M7.view.writes (Elt Ideal) M7.view.junk (tailRun.sl.H7_8 c M2 M3 M5 M8 M9 M10 M11 M12 r f2 f3 f5 f9 f11 f12) := by
  unfold tailRun
  rfl
theorem tail_kept : (tailRun c i M2 h2 M3 h3 M4 h4 M5 h5 M6 h6 M7 h7 M8 h8 M9 h9 M10 h10 M11 h11 M12 h12 S13 r f2 f3 f5 f9 f11 f12).1.2 = M9.view.writes (Elt Ideal) f9 (tailRun.sl.H9_35 c M2 M3 M9 M11 r f2 f3 f11) := by
  unfold tailRun
  dsimp only
theorem later_ret : (laterRun c i hd1 hd2 M2 h2 M3 h3 M4 h4 M5 h5 M6 h6 M7 h7 M8 h8 M9 h9 M10 h10 M11 h11 M12 h12 S13 f2).1 = first7 c M2 f2 := by
  unfold laterRun
  rfl

theorem fetch_ret : (fetchRun c i hc1 hc2 M2 h2 M3 h3 M4 h4 M5 h5 M6 h6 M7 h7 M8 h8 M9 h9 M10 h10 M11 h11 M12 h12 f2 f4 f6 f9).1.2.2 = first7 c M2 f2 := by
  unfold fetchRun
  rfl
theorem fetch_up : (fetchRun c i hc1 hc2 M2 h2 M3 h3 M4 h4 M5 h5 M6 h6 M7 h7 M8 h8 M9 h9 M10 h10 M11 h11 M12 h12 f2 f4 f6 f9).1.1.1 = M11.view.writes (Elt Ideal) M11.view.junk (fetchRun.sl.H11_22 c M4 M9 f4) := by
  unfold fetchRun
  rfl
theorem fetch_down : (fetchRun c i hc1 hc2 M2 h2 M3 h3 M4 h4 M5 h5 M6 h6 M7 h7 M8 h8 M9 h9 M10 h10 M11 h11 M12 h12 f2 f4 f6 f9).1.1.2 = M12.view.writes (Elt Ideal) M12.view.junk (fetchRun.sl.H12_22 c M6 M9 f6) := by
  unfold fetchRun
  rfl
theorem fetch_zero (g : Bf (F := Ideal) c M9) : (fetchRun c i hc1 hc2 M2 h2 M3 h3 M4 h4 M5 h5 M6 h6 M7 h7 M8 h8 M9 h9 M10 h10 M11 h11 M12 h12 f2 f4 f6 f9).1.2.1 g = M9.view.writes (Elt Ideal) g [⟨Rect.unit (s := S11x784x512) ![0, 648, 0] ![11, 8, 512] inb_S11x784x512_S11x8x512_0_648_0, k0_pay46 (F := Ideal)⟩, ⟨Rect.unit (s := S11x784x512) ![0, 512, 0] ![11, 8, 512] inb_S11x784x512_S11x8x512_0_512_0, k0_pay45 (F := Ideal)⟩] := by
  unfold fetchRun
  rfl

/-! ### The weights, fetched block by block -/

/-- What a block's transfer carries. -/
def carriedUp (n : ℕ) : FVec Ideal S512x512 .f32 :=
  ReadAs.apply ReadAs.same (View.read (Elt Ideal) (Memref.slice M4 (Rect.unit (s := S1024x5632) ![512 * (n / 11 % 2), 512 * (n % 11)] S512x512.size (fun x => by
    match x with
    | ⟨0, _⟩ => exact (show 512 * (n / 11 % 2) + 512 ≤ 1024 by omega)
    | ⟨1, _⟩ => exact (show 512 * (n % 11) + 512 ≤ 5632 by omega))) (fun _ => rfl)).view f4)

def carriedDown (n : ℕ) : FVec Ideal S256x512 .f32 :=
  ReadAs.apply ReadAs.same (View.read (Elt Ideal) (Memref.slice M6 (Rect.unit (s := S2816x1024) ![256 * (n / 2 % 11), 512 * (n % 2)] S256x512.size (fun x => by
    match x with
    | ⟨0, _⟩ => exact (show 256 * (n / 2 % 11) + 256 ≤ 2816 by omega)
    | ⟨1, _⟩ => exact (show 512 * (n % 2) + 512 ≤ 1024 by omega))) (fun _ => rfl)).view f6)

/-- A block read back from its slot of the scratch buffer and rounded. -/
def landedUp (n : ℕ) : FVec Ideal S512x512 .bf16 :=
  let R := Rect.unit (s := S11x784x512) ![n % 11, 0, 0] S1x512x512.size (fun x => by
    match x with
    | ⟨0, _⟩ => exact (show n % 11 + 1 ≤ 11 by omega)
    | ⟨1, _⟩ => exact (show 0 + 512 ≤ 784 by omega)
    | ⟨2, _⟩ => exact (show 0 + 512 ≤ 512 by omega))
  let V := (Memref.squeeze (Memref.slice M9 R (fun _ => rfl)) S512x512 squeezes_S1x512x512_S512x512).view
  shapeCast S512x512 (truncf .bf16 (shapeCast S512x512 (View.readAt (Elt Ideal) M9.view R.toLoadRect
    (V.writes (Elt Ideal) V.junk (⟨Rect.whole S512x512, carriedUp c M4 f4 n⟩ :: if n < 11 then [] else [⟨Rect.whole S512x512, carriedUp c M4 f4 (n - 11)⟩])))
      shapeCasts_S1x512x512_S512x512) bitsLt_bf16_f32) shapeCasts_S512x512_S512x512

def landedDown (n : ℕ) : FVec Ideal S256x512 .bf16 :=
  let R := Rect.unit (s := S11x784x512) ![n % 11, 0, 0] S1x256x512.size (fun x => by
    match x with
    | ⟨0, _⟩ => exact (show n % 11 + 1 ≤ 11 by omega)
    | ⟨1, _⟩ => exact (show 0 + 256 ≤ 784 by omega)
    | ⟨2, _⟩ => exact (show 0 + 512 ≤ 512 by omega))
  let V := (Memref.squeeze (Memref.slice M9 R (fun _ => rfl)) S256x512 squeezes_S1x256x512_S256x512).view
  shapeCast S256x512 (truncf .bf16 (shapeCast S256x512 (View.readAt (Elt Ideal) M9.view R.toLoadRect
    (V.writes (Elt Ideal) V.junk (⟨Rect.whole S256x512, carriedDown c M6 f6 n⟩ :: if n < 11 then [] else [⟨Rect.whole S256x512, carriedDown c M6 f6 (n - 11)⟩])))
      shapeCasts_S1x256x512_S256x512) bitsLt_bf16_f32) shapeCasts_S256x512_S256x512

/-- The up-projection's weight after `n` blocks. -/
def upW : ℕ → List (View.Piece (Elt Ideal) S1024x5632 .bf16)
  | 0 => []
  | n + 1 => ⟨Rect.unit (s := S1024x5632) ![512 * (n / 11 % 2), 512 * (n % 11)] ![512, 512] (fun x => by
    match x with
    | ⟨0, _⟩ => exact (show 512 * (n / 11 % 2) + 512 ≤ 1024 by omega)
    | ⟨1, _⟩ => exact (show 512 * (n % 11) + 512 ≤ 5632 by omega)), landedUp c M9 M4 f4 n⟩ :: upW n

/-- The down-projection's weight after `n` blocks. -/
def downW : ℕ → List (View.Piece (Elt Ideal) S2816x1024 .bf16)
  | 0 => []
  | n + 1 => ⟨Rect.unit (s := S2816x1024) ![256 * (n / 2 % 11), 512 * (n % 2)] ![256, 512] (fun x => by
    match x with
    | ⟨0, _⟩ => exact (show 256 * (n / 2 % 11) + 256 ≤ 2816 by omega)
    | ⟨1, _⟩ => exact (show 512 * (n % 2) + 512 ≤ 1024 by omega)), landedDown c M9 M6 f6 n⟩ :: downW n

theorem upW_eq : fetchRun.sl.H11_22 c M4 M9 f4 = upW c M9 M4 f4 22 := rfl
theorem downW_eq : fetchRun.sl.H12_22 c M6 M9 f6 = downW c M9 M6 f6 22 := rfl

theorem landedUp_apply (n : ℕ) (i j : Fin 512) : landedUp c M9 M4 f4 n (ix2 i j)
    = M4.view.read (Elt Ideal) f4 (ix2 ⟨512 * (n / 11 % 2) + i.val, by omega⟩ ⟨512 * (n % 11) + j.val, by omega⟩) := by
  unfold landedUp
  dsimp only
  rw [← Memref.read_squeeze_slice M9 _ (fun _ => rfl) squeezes_S1x512x512_S512x512]
  simp only [pointwise]
  refine (View.read_writes_cons_hit_of_coords _ _ (Rect.whole S512x512) _ _ (ix2 i j) (ix2 i j) ?_).trans ?_
  · intro a
    show _ = 0 + 1 * _
    omega
  · show M4.view.read (Elt Ideal) f4 _ = _
    refine congrArg _ (funext fun a => ?_)
    match a with
    | ⟨0, _⟩ => exact Fin.ext (show _ + 1 * _ = _ by rw [Nat.one_mul]; rfl)
    | ⟨1, _⟩ => exact Fin.ext (show _ + 1 * _ = _ by rw [Nat.one_mul]; rfl)

theorem landedDown_apply (n : ℕ) (i : Fin 256) (j : Fin 512) : landedDown c M9 M6 f6 n (ix2 i j)
    = M6.view.read (Elt Ideal) f6 (ix2 ⟨256 * (n / 2 % 11) + i.val, by omega⟩ ⟨512 * (n % 2) + j.val, by omega⟩) := by
  unfold landedDown
  dsimp only
  rw [← Memref.read_squeeze_slice M9 _ (fun _ => rfl) squeezes_S1x256x512_S256x512]
  simp only [pointwise]
  refine (View.read_writes_cons_hit_of_coords _ _ (Rect.whole S256x512) _ _ (ix2 i j) (ix2 i j) ?_).trans ?_
  · intro a
    show _ = 0 + 1 * _
    omega
  · show M6.view.read (Elt Ideal) f6 _ = _
    refine congrArg _ (funext fun a => ?_)
    match a with
    | ⟨0, _⟩ => exact Fin.ext (show _ + 1 * _ = _ by rw [Nat.one_mul]; rfl)
    | ⟨1, _⟩ => exact Fin.ext (show _ + 1 * _ = _ by rw [Nat.one_mul]; rfl)

theorem read_upW (g : M11.view.ty.Contents (Elt Ideal)) (i : Fin 1024) (j : Fin 5632) (n : ℕ) (hn : n ≤ 22) (h : i.val / 512 * 11 + j.val / 512 < n) :
    M11.view.read (Elt Ideal) (M11.view.writes (Elt Ideal) g (upW c M9 M4 f4 n)) (ix2 i j) = M4.view.read (Elt Ideal) f4 (ix2 i j) := by
  induction n with
  | zero => omega
  | succ n ih =>
    unfold upW
    refine (read_box2 M11.view g _ _ _ i j).trans ?_
    split
    · rename_i hb
      refine (landedUp_apply c M9 M4 f4 n _ _).trans (congrArg _ (ix2_congr ?_ ?_)) <;> (dsimp only; omega)
    · rename_i hb
      exact ih (by omega) (by omega)

theorem read_downW (g : M12.view.ty.Contents (Elt Ideal)) (i : Fin 2816) (j : Fin 1024) (n : ℕ) (hn : n ≤ 22) (h : i.val / 256 * 2 + j.val / 512 < n) :
    M12.view.read (Elt Ideal) (M12.view.writes (Elt Ideal) g (downW c M9 M6 f6 n)) (ix2 i j) = M6.view.read (Elt Ideal) f6 (ix2 i j) := by
  induction n with
  | zero => omega
  | succ n ih =>
    unfold downW
    refine (read_box2 M12.view g _ _ _ i j).trans ?_
    split
    · rename_i hb
      refine (landedDown_apply c M9 M6 f6 n _ _).trans (congrArg _ (ix2_congr ?_ ?_)) <;> (dsimp only; omega)
    · rename_i hb
      exact ih (by omega) (by omega)

/-- The carried rows before the first tile are zero. -/
theorem cleared (g : M9.view.ty.Contents (Elt Ideal)) (k : Fin 11) (j : Fin 512) :
    M9.view.read (Elt Ideal) (M9.view.writes (Elt Ideal) g [⟨Rect.unit (s := S11x784x512) ![0, 648, 0] ![11, 8, 512] inb_S11x784x512_S11x8x512_0_648_0, k0_pay46 (F := Ideal)⟩, ⟨Rect.unit (s := S11x784x512) ![0, 512, 0] ![11, 8, 512] inb_S11x784x512_S11x8x512_0_512_0, k0_pay45 (F := Ideal)⟩]) (ix3 k 512 j) = 0
    ∧ M9.view.read (Elt Ideal) (M9.view.writes (Elt Ideal) g [⟨Rect.unit (s := S11x784x512) ![0, 648, 0] ![11, 8, 512] inb_S11x784x512_S11x8x512_0_648_0, k0_pay46 (F := Ideal)⟩, ⟨Rect.unit (s := S11x784x512) ![0, 512, 0] ![11, 8, 512] inb_S11x784x512_S11x8x512_0_512_0, k0_pay45 (F := Ideal)⟩]) (ix3 k 648 j) = 0 := by
  have z5 : ∀ y, k0_pay45 (F := Ideal) y = 0 := fun y => by
    show Ideal.ofBits .f32 0x00000000#32 = 0
    simp
  have z6 : ∀ y, k0_pay46 (F := Ideal) y = 0 := fun y => by
    show Ideal.ofBits .f32 0x00000000#32 = 0
    simp
  refine ⟨(read_box3 M9.view _ _ _ _ k (512 : Fin 784) j).trans ?_, (read_box3 M9.view _ _ _ _ k (648 : Fin 784) j).trans ?_⟩
  · rw [dif_neg (by simp)]
    refine (read_box3 M9.view _ _ _ _ k (512 : Fin 784) j).trans ?_
    rw [dif_pos (by simp)]
    exact z5 _
  · rw [dif_pos (by simp)]
    exact z6 _

end Cert.KernelIdeal.Ffn

end
-- ==== Proof.KernelIdeal.Exact.lean ====
module

public import proofs.«01_k».proof.Proof.KernelIdeal.Entry
public import proofs.«01_k».proof.Proof.KernelIdeal.Fetched
public import proofs.«01_k».proof.Proof.KernelIdeal.Frame

@[expose] public section

set_option pp.maxSteps 300
set_option maxRecDepth 65536
set_option maxHeartbeats 0

noncomputable section

/-! The launch with every window's contents: tile after tile, the output array is the layer's. -/

namespace Cert.KernelIdeal.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-! ### What the scratch holds between tiles -/

/-- The carried rows before tile `s`. -/
def Rows (c : Dev nD) (s : ℕ) (f : Bf (F := Ideal) c (Memref.whole cc0_scratch1)) : Prop :=
  (∀ (k : Fin 11) (j : Fin 512), (Memref.whole cc0_scratch1).view.read (Elt Ideal) f (ix3 k 512 j) = backS (arrays m c) 2 (512 * s) (colUp k j))
  ∧ ∀ (k : Fin 11) (j : Fin 512), (Memref.whole cc0_scratch1).view.read (Elt Ideal) f (ix3 k 648 j) = backS (arrays m c) 1 (512 * s) (colUp k j)
/-- The up-projection is in place. -/
def UpIn (c : Dev nD) (f : Bf (F := Ideal) c (Memref.whole cc0_scratch3)) : Prop :=
  ∀ (d : Fin 1024) (q : Fin 5632), (Memref.whole cc0_scratch3).view.read (Elt Ideal) f (ix2 d q) = (arrays m c).wu d q
/-- The down-projection is in place. -/
def DownIn (c : Dev nD) (f : Bf (F := Ideal) c (Memref.whole cc0_scratch4)) : Prop :=
  ∀ (q : Fin 2816) (d : Fin 1024), (Memref.whole cc0_scratch4).view.read (Elt Ideal) f (ix2 q d) = (arrays m c).wd q d

/-- The scratch before tile `s`: the carried rows and both projections are in place, the rest is arbitrary. -/
def holdsAt (c : Dev nD) (s : ℕ) : sProp 𝕄 :=
  iprop(iprop((∃ f, pt c (Memref.whole cc0_scratch0) f) ∗ (∃ f, ⌜Rows m c s f⌝ ∗ pt c (Memref.whole cc0_scratch1) f) ∗ (∃ f, pt c (Memref.whole cc0_scratch2) f) ∗ (∃ f, ⌜UpIn m c f⌝ ∗ pt c (Memref.whole cc0_scratch3) f) ∗ (∃ f, ⌜DownIn m c f⌝ ∗ pt c (Memref.whole cc0_scratch4) f)) ∗ (∃ r, prngReg c r) ∗ idle c
          ∗ iprop(pt c (Memref.whole main_v1) (V m c main_v1) ∗ pt c (Memref.whole main_v3) (V m c main_v3)))

theorem holdsAt_any (c : Dev nD) (s : ℕ) : holdsAt m c s ⊢ (Pipeline.ΦD osem0 spec0 H0 (V m) c : sProp 𝕄) := by
  rw [PhiD0_eq]
  unfold holdsAt
  iintro ⟨⟨H8, ⟨%f9, -, H9⟩, H10, ⟨%f11, -, H11⟩, ⟨%f12, -, H12⟩⟩, HR⟩
  isplitr [HR]
  · isplitl [H8]; · iexact H8
    isplitl [H9]; · iexists f9; iexact H9
    isplitl [H10]; · iexact H10
    isplitl [H11]; · iexists f11; iexact H11
    iexists f12; iexact H12
  iexact HR

/-- The output block after a tile. -/
def outBlock (c : Dev nD) (s : ℕ) : S1x512x1024.Idx → Elt Ideal .f32 := fun y => outS (arrays m c) (512 * s + (y 1).val) (y 2)

/-- The launch's data: each input window keeps its block, the output window holds the tile's part of the layer, and between
    tiles the scratch holds what `holdsAt` says. -/
def tileDat (_ : Fin 1) (c : Dev nD) : Dat τ (Elt Ideal) Unit ℕ (Pipeline.UD sig nD τ) ℕ cfg0 c where
  A w := V m c (Pipeline.arrRef spec0 w)
  after := fun w => match w with
    | 0 => fun t => iblk m c 0 t
    | 1 => fun t => iblk m c 1 t
    | 2 => fun t => iblk m c 2 t
    | 3 => fun t => outBlock m c t.val
  Φ t := if t.val = 0 then Pipeline.ΦD osem0 spec0 H0 (V m) c else holdsAt m c t.val
  q _ := fullShare
  owed _ := 0

theorem exact_A (c : Dev nD) (w : Fin cfg0.W) : (tileDat m 0 c).A w = V m c (Pipeline.arrRef spec0 w) := by dsimp only [tileDat]

theorem before_0 (c : Dev nD) (t : Fin cfg0.N) (d) : (tileDat m 0 c).before 0 t d = iblk m c 0 t :=
  ((tileDat m 0 c).before_in_eq_fetched 0 rfl (fun _ => rfl) (fun _ _ _ => rfl) (fun t => by
    show iblk m c 0 t = _
    unfold Dat.blockOf iblk; rw [exact_A]; try rfl) t d).trans
    (by unfold Dat.fetched Dat.blockOf iblk; rw [exact_A]; try rfl)

theorem before_1 (c : Dev nD) (t : Fin cfg0.N) (d) : (tileDat m 0 c).before 1 t d = iblk m c 1 t :=
  ((tileDat m 0 c).before_in_eq_fetched 1 rfl (fun _ => rfl) (fun _ _ _ => rfl) (fun t => by
    show iblk m c 1 t = _
    unfold Dat.blockOf iblk; rw [exact_A]; try rfl) t d).trans
    (by unfold Dat.fetched Dat.blockOf iblk; rw [exact_A]; try rfl)

theorem before_2 (c : Dev nD) (t : Fin cfg0.N) (d) : (tileDat m 0 c).before 2 t d = iblk m c 2 t :=
  ((tileDat m 0 c).before_in_eq_fetched 2 rfl (fun _ => rfl) (fun _ _ _ => rfl) (fun t => by
    show iblk m c 2 t = _
    unfold Dat.blockOf iblk; rw [exact_A]; try rfl) t d).trans
    (by unfold Dat.fetched Dat.blockOf iblk; rw [exact_A]; try rfl)

/-- A whole memref held at `X` is its buffer held whole, reading `X`. -/
theorem openedAs (c : Dev nD) {sp : Space} {S : Shape} {e : EltTy} (M : Memref sig .tc sp S e) (h : M.IsWhole) (X) :
    owns (c : Thread nD τ) M fullShare X ⊢ (iprop(∃ f : Bf (F := Ideal) c M, ⌜M.view.read (Elt Ideal) f = X⌝ ∗ pt c M f) : sProp 𝕄) := by
  iintro H; unfold owns; icases H with ⟨%f, %hf, H⟩; rw [h.set_eq_univ]; iexists f
  isplitr; · ipureintro; exact hf
  iexact H
theorem closedAs (c : Dev nD) {sp : Space} {S : Shape} {e : EltTy} (M : Memref sig .tc sp S e) (h : M.IsWhole) (f : Bf (F := Ideal) c M) (X) (hX : M.view.read (Elt Ideal) f = X) :
    pt c M f ⊢ (owns (c : Thread nD τ) M fullShare X : sProp 𝕄) := by
  iintro H; unfold owns; rw [h.set_eq_univ]; iexists f; isplitr; · ipureintro; exact hX
  iexact H

/-- What a tile starts from. -/
theorem starts (c : Dev nD) (t : Fin cfg0.N) (f2 : Bf (F := Ideal) c (win0_0.stage (cfg0.slots t 0))) (f3 : Bf (F := Ideal) c (win0_1.stage (cfg0.slots t 1))) (f5 : Bf (F := Ideal) c (win0_2.stage (cfg0.slots t 2)))
    (f9 : Bf (F := Ideal) c (Memref.whole cc0_scratch1)) (f11 : Bf (F := Ideal) c (Memref.whole cc0_scratch3)) (f12 : Bf (F := Ideal) c (Memref.whole cc0_scratch4))
    (e2 : (win0_0.stage (cfg0.slots t 0)).view.read (Elt Ideal) f2 = iblk m c 0 t) (e3 : (win0_1.stage (cfg0.slots t 1)).view.read (Elt Ideal) f3 = iblk m c 1 t) (e5 : (win0_2.stage (cfg0.slots t 2)).view.read (Elt Ideal) f5 = iblk m c 2 t)
    (e9 : Rows m c t.val f9) (e11 : UpIn m c f11) (e12 : DownIn m c f12) :
    Holds (c := c) (M2 := (win0_0.stage (cfg0.slots t 0))) (M3 := (win0_1.stage (cfg0.slots t 1))) (M5 := (win0_2.stage (cfg0.slots t 2))) (M9 := (Memref.whole cc0_scratch1)) (M11 := (Memref.whole cc0_scratch3)) (M12 := (Memref.whole cc0_scratch4)) (arrays m c) t.val f2 f3 f5 f9 f11 f12 where
  x a j l := by rw [e2]; exact block_tokens m c t a j l
  nw d := by rw [e3]; exact block_norm m c t d
  cw a q := by rw [e5]; exact block_taps m c t a q
  wu := e11
  wd := e12
  two := e9.1
  one := e9.2

section
variable (c : Dev nD) (t : Fin cfg0.N) (h0 : t.val = 0) (f2 : Bf (F := Ideal) c (win0_0.stage (cfg0.slots t 0))) (f9 g9 : Bf (F := Ideal) c (Memref.whole cc0_scratch1))

theorem fetched_up : UpIn m c (fetchRun c (grid0.coords t) (first_conds t h0).1 (first_conds t h0).2 (win0_0.stage (cfg0.slots t 0)) (hstage0_0 ((cfg0.slots t 0).cast nbuf0_0)) (win0_1.stage (cfg0.slots t 1)) (hstage0_1 ((cfg0.slots t 1).cast nbuf0_1)) (Memref.whole main_v1) (Memref.isWhole_whole _) (win0_2.stage (cfg0.slots t 2)) (hstage0_2 ((cfg0.slots t 2).cast nbuf0_2)) (Memref.whole main_v3) (Memref.isWhole_whole _) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f2 (V m c main_v1) (V m c main_v3) f9).1.1.1 := fun d q => by
  rw [fetch_up]
  exact (read_upW c (Memref.whole cc0_scratch1) (Memref.whole cc0_scratch3) (Memref.whole main_v1) (V m c main_v1) _ d q 22 (by omega) (by omega)).trans (V_up m c d q)

theorem fetched_down : DownIn m c (fetchRun c (grid0.coords t) (first_conds t h0).1 (first_conds t h0).2 (win0_0.stage (cfg0.slots t 0)) (hstage0_0 ((cfg0.slots t 0).cast nbuf0_0)) (win0_1.stage (cfg0.slots t 1)) (hstage0_1 ((cfg0.slots t 1).cast nbuf0_1)) (Memref.whole main_v1) (Memref.isWhole_whole _) (win0_2.stage (cfg0.slots t 2)) (hstage0_2 ((cfg0.slots t 2).cast nbuf0_2)) (Memref.whole main_v3) (Memref.isWhole_whole _) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f2 (V m c main_v1) (V m c main_v3) f9).1.1.2 := fun q d => by
  rw [fetch_down]
  exact (read_downW c (Memref.whole cc0_scratch1) (Memref.whole cc0_scratch4) (Memref.whole main_v3) (V m c main_v3) _ q d 22 (by omega) (by omega)).trans (V_down m c q d)

theorem fetched_rows : Rows m c t.val ((fetchRun c (grid0.coords t) (first_conds t h0).1 (first_conds t h0).2 (win0_0.stage (cfg0.slots t 0)) (hstage0_0 ((cfg0.slots t 0).cast nbuf0_0)) (win0_1.stage (cfg0.slots t 1)) (hstage0_1 ((cfg0.slots t 1).cast nbuf0_1)) (Memref.whole main_v1) (Memref.isWhole_whole _) (win0_2.stage (cfg0.slots t 2)) (hstage0_2 ((cfg0.slots t 2).cast nbuf0_2)) (Memref.whole main_v3) (Memref.isWhole_whole _) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f2 (V m c main_v1) (V m c main_v3) f9).1.2.1 g9) := by
  rw [fetch_zero]
  refine ⟨fun k j => ((cleared (Memref.whole cc0_scratch1) _ k j).1).trans ?_, fun k j => ((cleared (Memref.whole cc0_scratch1) _ k j).2).trans ?_⟩
  · unfold backS; rw [if_neg (by omega)]
  · unfold backS; rw [if_neg (by omega)]
end

section
variable {c : Dev nD} {t : Fin cfg0.N} {f2 : Bf (F := Ideal) c (win0_0.stage (cfg0.slots t 0))} {f3 : Bf (F := Ideal) c (win0_1.stage (cfg0.slots t 1))} {f5 : Bf (F := Ideal) c (win0_2.stage (cfg0.slots t 2))}
    {f9 : Bf (F := Ideal) c (Memref.whole cc0_scratch1)} {f11 : Bf (F := Ideal) c (Memref.whole cc0_scratch3)} {f12 : Bf (F := Ideal) c (Memref.whole cc0_scratch4)}
    (H : Holds (c := c) (M2 := (win0_0.stage (cfg0.slots t 0))) (M3 := (win0_1.stage (cfg0.slots t 1))) (M5 := (win0_2.stage (cfg0.slots t 2))) (M9 := (Memref.whole cc0_scratch1)) (M11 := (Memref.whole cc0_scratch3)) (M12 := (Memref.whole cc0_scratch4)) (arrays m c) t.val f2 f3 f5 f9 f11 f12)
    (r : Ret Ideal) (hr : r = first7 c (win0_0.stage (cfg0.slots t 0)) f2)
include H hr

theorem ends_out : (win0_3.stage (cfg0.slots t 3)).view.read (Elt Ideal) (tailRun c (grid0.coords t) (win0_0.stage (cfg0.slots t 0)) (hstage0_0 ((cfg0.slots t 0).cast nbuf0_0)) (win0_1.stage (cfg0.slots t 1)) (hstage0_1 ((cfg0.slots t 1).cast nbuf0_1)) (Memref.whole main_v1) (Memref.isWhole_whole _) (win0_2.stage (cfg0.slots t 2)) (hstage0_2 ((cfg0.slots t 2).cast nbuf0_2)) (Memref.whole main_v3) (Memref.isWhole_whole _) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 r f2 f3 f5 f9 f11 f12).1.1 = outBlock m c t.val := by
  rw [tail_out, hr]
  funext y
  have hy : y = ix3 (0 : Fin 1) (y 1 : Fin 512) (y 2 : Fin 1024) := by
    funext a
    match a with
    | ⟨0, _⟩ => exact Fin.ext (by have := (y ⟨0, by decide⟩).isLt; show (y ⟨0, _⟩).val = 0; exact Nat.lt_one_iff.mp this)
    | ⟨1, _⟩ => rfl
    | ⟨2, _⟩ => rfl
  rw [hy]
  exact left_out (Memref.whole cc0_scratch0) (Memref.whole cc0_scratch2) H (win0_3.stage (cfg0.slots t 3)).view _ _ _

theorem ends_rows : Rows m c (t.val + 1) (tailRun c (grid0.coords t) (win0_0.stage (cfg0.slots t 0)) (hstage0_0 ((cfg0.slots t 0).cast nbuf0_0)) (win0_1.stage (cfg0.slots t 1)) (hstage0_1 ((cfg0.slots t 1).cast nbuf0_1)) (Memref.whole main_v1) (Memref.isWhole_whole _) (win0_2.stage (cfg0.slots t 2)) (hstage0_2 ((cfg0.slots t 2).cast nbuf0_2)) (Memref.whole main_v3) (Memref.isWhole_whole _) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 r f2 f3 f5 f9 f11 f12).1.2 := by
  rw [tail_kept, hr]
  exact ⟨fun k j => (left_kept H _ k j).1, fun k j => (left_kept H _ k j).2⟩
end

/-- The four windows' buffers as a tile finds them. -/
def exactWins (c : Dev nD) (t : Fin cfg0.N) : sProp 𝕄 :=
  iprop((∃ d, owns (c : Thread nD τ) (win0_0.stage (cfg0.slots t 0)) fullShare ((tileDat m 0 c).before 0 t d)) ∗ (∃ d, owns (c : Thread nD τ) (win0_1.stage (cfg0.slots t 1)) fullShare ((tileDat m 0 c).before 1 t d))
    ∗ (∃ d, owns (c : Thread nD τ) (win0_2.stage (cfg0.slots t 2)) fullShare ((tileDat m 0 c).before 2 t d)) ∗ (∃ d, owns (c : Thread nD τ) (win0_3.stage (cfg0.slots t 3)) fullShare ((tileDat m 0 c).before 3 t d)))
/-- The four windows' buffers as a tile leaves them. -/
def leftWins (c : Dev nD) (t : Fin cfg0.N) : sProp 𝕄 :=
  iprop(owns (c : Thread nD τ) (win0_0.stage (cfg0.slots t 0)) fullShare (iblk m c 0 t) ∗ owns (c : Thread nD τ) (win0_1.stage (cfg0.slots t 1)) fullShare (iblk m c 1 t)
    ∗ owns (c : Thread nD τ) (win0_2.stage (cfg0.slots t 2)) fullShare (iblk m c 2 t) ∗ owns (c : Thread nD τ) (win0_3.stage (cfg0.slots t 3)) fullShare (outBlock m c t.val))

theorem Phi_succ (c : Dev nD) (t : Fin cfg0.N) : (tileDat m 0 c).Φ t.succ = holdsAt m c (t.val + 1) := by
  show (if t.val + 1 = 0 then Pipeline.ΦD osem0 spec0 H0 (V m) c else holdsAt m c (t.val + 1)) = _
  exact if_neg (Nat.succ_ne_zero _)

theorem exact_body (c : Dev nD) (t : Fin cfg0.N) :
    iprop((tileDat m 0 c).Φ t.castSucc ∗ (tileDat m 0 c).owesAt () t.castSucc ∗ exactWins m c t)
      ⊢ wp frame (wpE (defs₀ (F := Ideal)) Variants.none c none) Set.univ (bodyAt0 t)
          (fun _ => iprop((tileDat m 0 c).Φ t.succ ∗ (tileDat m 0 c).owesAt () t.succ ∗ leftWins m c t)) := by
  unfold exactWins leftWins bodyAt0
  rw [show (tileDat m 0 c).Φ t.succ = holdsAt m c (t.val + 1) from Phi_succ m c t,
    show (tileDat m 0 c).owesAt () t.succ = (tileDat m 0 c).owesAt () t.castSucc from rfl]
  unfold Dat.owesAt Pipeline.owesWithin
  rw [show (tileDat m 0 c).owed t.castSucc = 0 from rfl]
  by_cases h0 : t.val = 0
  · rw [show (tileDat m 0 c).Φ t.castSucc = Pipeline.ΦD osem0 spec0 H0 (V m) c from if_pos h0, PhiD0_eq]
    iintro ⟨⟨⟨⟨%f8, H8⟩, ⟨%f9, H9⟩, ⟨%f10, H10⟩, ⟨%f11, H11⟩, ⟨%f12, H12⟩⟩, Hg, Hq, ⟨H4, H6⟩⟩, ⟨%W, %hW, HO⟩, ⟨%d2, H2⟩, ⟨%d3, H3⟩, ⟨%d5, H5⟩, ⟨%d7, H7⟩⟩
    rw [before_0, before_1, before_2]
    ihave H2 := (openedAs c (win0_0.stage (cfg0.slots t 0)) (hstage0_0 ((cfg0.slots t 0).cast nbuf0_0)) _) $$ H2
    ihave H3 := (openedAs c (win0_1.stage (cfg0.slots t 1)) (hstage0_1 ((cfg0.slots t 1).cast nbuf0_1)) _) $$ H3
    ihave H5 := (openedAs c (win0_2.stage (cfg0.slots t 2)) (hstage0_2 ((cfg0.slots t 2).cast nbuf0_2)) _) $$ H5
    ihave H7 := (openedAs c (win0_3.stage (cfg0.slots t 3)) (hstage0_3 ((cfg0.slots t 3).cast nbuf0_3)) _) $$ H7
    icases H2 with ⟨%f2, %e2, H2⟩
    icases H3 with ⟨%f3, %e3, H3⟩
    icases H5 with ⟨%f5, %e5, H5⟩
    icases H7 with ⟨%f7, -, H7⟩
    rw [(tailOf (F := Ideal) (grid0.coords t) (win0_0.stage (cfg0.slots t 0)) (hstage0_0 ((cfg0.slots t 0).cast nbuf0_0)) (win0_1.stage (cfg0.slots t 1)) (hstage0_1 ((cfg0.slots t 1).cast nbuf0_1)) (Memref.whole main_v1) (Memref.isWhole_whole _) (win0_2.stage (cfg0.slots t 2)) (hstage0_2 ((cfg0.slots t 2).cast nbuf0_2)) (Memref.whole main_v3) (Memref.isWhole_whole _) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5).2, wp_bind]
    iapply ((fetchRun c (grid0.coords t) (first_conds t h0).1 (first_conds t h0).2 (win0_0.stage (cfg0.slots t 0)) (hstage0_0 ((cfg0.slots t 0).cast nbuf0_0)) (win0_1.stage (cfg0.slots t 1)) (hstage0_1 ((cfg0.slots t 1).cast nbuf0_1)) (Memref.whole main_v1) (Memref.isWhole_whole _) (win0_2.stage (cfg0.slots t 2)) (hstage0_2 ((cfg0.slots t 2).cast nbuf0_2)) (Memref.whole main_v3) (Memref.isWhole_whole _) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f2 (V m c main_v1) (V m c main_v3) f9).2 f11 f12 W _)
    isplitl [H2]; · iexact H2
    isplitl [H4]; · iexact H4
    isplitl [H6]; · iexact H6
    isplitl [H9]; · iexact H9
    isplitl [H11]; · iexact H11
    isplitl [H12]; · iexact H12
    isplitl [Hq]; · iexact Hq
    isplitl [HO]; · iexact HO
    iintro ⟨H2, H4, H6, H11, H12, ⟨%g9, H9⟩, Hq, HO⟩
    have hs := starts m c t f2 f3 f5 _ _ _ e2 e3 e5 (fetched_rows m c t h0 f2 f9 g9) (fetched_up m c t h0 f2 f9) (fetched_down m c t h0 f2 f9)
    have hr : (fetchRun c (grid0.coords t) (first_conds t h0).1 (first_conds t h0).2 (win0_0.stage (cfg0.slots t 0)) (hstage0_0 ((cfg0.slots t 0).cast nbuf0_0)) (win0_1.stage (cfg0.slots t 1)) (hstage0_1 ((cfg0.slots t 1).cast nbuf0_1)) (Memref.whole main_v1) (Memref.isWhole_whole _) (win0_2.stage (cfg0.slots t 2)) (hstage0_2 ((cfg0.slots t 2).cast nbuf0_2)) (Memref.whole main_v3) (Memref.isWhole_whole _) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f2 (V m c main_v1) (V m c main_v3) f9).1.2.2 = first7 c (win0_0.stage (cfg0.slots t 0)) f2 := by rw [fetch_ret]
    iapply ((tailRun c (grid0.coords t) (win0_0.stage (cfg0.slots t 0)) (hstage0_0 ((cfg0.slots t 0).cast nbuf0_0)) (win0_1.stage (cfg0.slots t 1)) (hstage0_1 ((cfg0.slots t 1).cast nbuf0_1)) (Memref.whole main_v1) (Memref.isWhole_whole _) (win0_2.stage (cfg0.slots t 2)) (hstage0_2 ((cfg0.slots t 2).cast nbuf0_2)) (Memref.whole main_v3) (Memref.isWhole_whole _) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 _ _ _ _ _ _ _).2 f7 f8 f10 _ _)
    isplitl [H2]; · iexact H2
    isplitl [H3]; · iexact H3
    isplitl [H5]; · iexact H5
    isplitl [H7]; · iexact H7
    isplitl [H8]; · iexact H8
    isplitl [H9]; · iexact H9
    isplitl [H10]; · iexact H10
    isplitl [H11]; · iexact H11
    isplitl [H12]; · iexact H12
    iintro ⟨H2, H3, H5, H7, H9, H11, H12, H8, H10⟩
    isplitl [H8 H9 H10 H11 H12 Hg Hq H4 H6]
    · unfold holdsAt
      isplitl [H8 H9 H10 H11 H12]
      · isplitl [H8]; · iexact H8
        isplitl [H9]
        · iexists _; isplitr
          · ipureintro; exact ends_rows m hs _ hr
          iexact H9
        isplitl [H10]; · iexact H10
        isplitl [H11]
        · iexists _; isplitr
          · ipureintro; exact fetched_up m c t h0 f2 f9
          iexact H11
        iexists _; isplitr
        · ipureintro; exact fetched_down m c t h0 f2 f9
        iexact H12
      isplitl [Hg]; · iexact Hg
      isplitl [Hq]; · iexact Hq
      isplitl [H4]; · iexact H4
      iexact H6
    isplitl [HO]
    · icases HO with ⟨%W', HO⟩
      iexists W'; isplitr; · ipureintro; exact fun _ _ => Or.inl trivial
      iexact HO
    isplitl [H2]; · iapply (closedAs c (win0_0.stage (cfg0.slots t 0)) (hstage0_0 ((cfg0.slots t 0).cast nbuf0_0)) _ _ e2); iexact H2
    isplitl [H3]; · iapply (closedAs c (win0_1.stage (cfg0.slots t 1)) (hstage0_1 ((cfg0.slots t 1).cast nbuf0_1)) _ _ e3); iexact H3
    isplitl [H5]; · iapply (closedAs c (win0_2.stage (cfg0.slots t 2)) (hstage0_2 ((cfg0.slots t 2).cast nbuf0_2)) _ _ e5); iexact H5
    iapply (closedAs c (win0_3.stage (cfg0.slots t 3)) (hstage0_3 ((cfg0.slots t 3).cast nbuf0_3)) _ _ (ends_out m hs _ hr)); iexact H7
  · rw [show (tileDat m 0 c).Φ t.castSucc = holdsAt m c t.val from if_neg h0]
    unfold holdsAt
    iintro ⟨⟨⟨⟨%f8, H8⟩, ⟨%f9, %e9, H9⟩, ⟨%f10, H10⟩, ⟨%f11, %e11, H11⟩, ⟨%f12, %e12, H12⟩⟩, Hg, Hq, ⟨H4, H6⟩⟩, ⟨%W, %hW, HO⟩, ⟨%d2, H2⟩, ⟨%d3, H3⟩, ⟨%d5, H5⟩, ⟨%d7, H7⟩⟩
    rw [before_0, before_1, before_2]
    ihave H2 := (openedAs c (win0_0.stage (cfg0.slots t 0)) (hstage0_0 ((cfg0.slots t 0).cast nbuf0_0)) _) $$ H2
    ihave H3 := (openedAs c (win0_1.stage (cfg0.slots t 1)) (hstage0_1 ((cfg0.slots t 1).cast nbuf0_1)) _) $$ H3
    ihave H5 := (openedAs c (win0_2.stage (cfg0.slots t 2)) (hstage0_2 ((cfg0.slots t 2).cast nbuf0_2)) _) $$ H5
    ihave H7 := (openedAs c (win0_3.stage (cfg0.slots t 3)) (hstage0_3 ((cfg0.slots t 3).cast nbuf0_3)) _) $$ H7
    icases H2 with ⟨%f2, %e2, H2⟩
    icases H3 with ⟨%f3, %e3, H3⟩
    icases H5 with ⟨%f5, %e5, H5⟩
    icases H7 with ⟨%f7, -, H7⟩
    rw [(tailOf (F := Ideal) (grid0.coords t) (win0_0.stage (cfg0.slots t 0)) (hstage0_0 ((cfg0.slots t 0).cast nbuf0_0)) (win0_1.stage (cfg0.slots t 1)) (hstage0_1 ((cfg0.slots t 1).cast nbuf0_1)) (Memref.whole main_v1) (Memref.isWhole_whole _) (win0_2.stage (cfg0.slots t 2)) (hstage0_2 ((cfg0.slots t 2).cast nbuf0_2)) (Memref.whole main_v3) (Memref.isWhole_whole _) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5).2, wp_bind]
    have hs := starts m c t f2 f3 f5 _ _ _ e2 e3 e5 e9 e11 e12
    have hr : (laterRun c (grid0.coords t) (later_conds t h0).1 (later_conds t h0).2 (win0_0.stage (cfg0.slots t 0)) (hstage0_0 ((cfg0.slots t 0).cast nbuf0_0)) (win0_1.stage (cfg0.slots t 1)) (hstage0_1 ((cfg0.slots t 1).cast nbuf0_1)) (Memref.whole main_v1) (Memref.isWhole_whole _) (win0_2.stage (cfg0.slots t 2)) (hstage0_2 ((cfg0.slots t 2).cast nbuf0_2)) (Memref.whole main_v3) (Memref.isWhole_whole _) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 f2).1 = first7 c (win0_0.stage (cfg0.slots t 0)) f2 := by rw [later_ret]
    iapply ((laterRun c (grid0.coords t) (later_conds t h0).1 (later_conds t h0).2 (win0_0.stage (cfg0.slots t 0)) (hstage0_0 ((cfg0.slots t 0).cast nbuf0_0)) (win0_1.stage (cfg0.slots t 1)) (hstage0_1 ((cfg0.slots t 1).cast nbuf0_1)) (Memref.whole main_v1) (Memref.isWhole_whole _) (win0_2.stage (cfg0.slots t 2)) (hstage0_2 ((cfg0.slots t 2).cast nbuf0_2)) (Memref.whole main_v3) (Memref.isWhole_whole _) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 f2).2 _)
    isplitl [H2]; · iexact H2
    iintro H2
    ihave HO : iprop(∃ W', owes (c : Thread nD τ) 0 W') $$ [HO]
    · iexists W; iexact HO
    iapply ((tailRun c (grid0.coords t) (win0_0.stage (cfg0.slots t 0)) (hstage0_0 ((cfg0.slots t 0).cast nbuf0_0)) (win0_1.stage (cfg0.slots t 1)) (hstage0_1 ((cfg0.slots t 1).cast nbuf0_1)) (Memref.whole main_v1) (Memref.isWhole_whole _) (win0_2.stage (cfg0.slots t 2)) (hstage0_2 ((cfg0.slots t 2).cast nbuf0_2)) (Memref.whole main_v3) (Memref.isWhole_whole _) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 _ _ _ _ _ _ _).2 f7 f8 f10 _ _)
    isplitl [H2]; · iexact H2
    isplitl [H3]; · iexact H3
    isplitl [H5]; · iexact H5
    isplitl [H7]; · iexact H7
    isplitl [H8]; · iexact H8
    isplitl [H9]; · iexact H9
    isplitl [H10]; · iexact H10
    isplitl [H11]; · iexact H11
    isplitl [H12]; · iexact H12
    iintro ⟨H2, H3, H5, H7, H9, H11, H12, H8, H10⟩
    isplitl [H8 H9 H10 H11 H12 Hg Hq H4 H6]
    · isplitl [H8 H9 H10 H11 H12]
      · isplitl [H8]; · iexact H8
        isplitl [H9]
        · iexists _; isplitr
          · ipureintro; exact ends_rows m hs _ hr
          iexact H9
        isplitl [H10]; · iexact H10
        isplitl [H11]
        · iexists _; isplitr
          · ipureintro; exact e11
          iexact H11
        iexists _; isplitr
        · ipureintro; exact e12
        iexact H12
      isplitl [Hg]; · iexact Hg
      isplitl [Hq]; · iexact Hq
      isplitl [H4]; · iexact H4
      iexact H6
    isplitl [HO]
    · icases HO with ⟨%W', HO⟩
      iexists W'; isplitr; · ipureintro; exact fun _ _ => Or.inl trivial
      iexact HO
    isplitl [H2]; · iapply (closedAs c (win0_0.stage (cfg0.slots t 0)) (hstage0_0 ((cfg0.slots t 0).cast nbuf0_0)) _ _ e2); iexact H2
    isplitl [H3]; · iapply (closedAs c (win0_1.stage (cfg0.slots t 1)) (hstage0_1 ((cfg0.slots t 1).cast nbuf0_1)) _ _ e3); iexact H3
    isplitl [H5]; · iapply (closedAs c (win0_2.stage (cfg0.slots t 2)) (hstage0_2 ((cfg0.slots t 2).cast nbuf0_2)) _ _ e5); iexact H5
    iapply (closedAs c (win0_3.stage (cfg0.slots t 3)) (hstage0_3 ((cfg0.slots t 3).cast nbuf0_3)) _ _ (ends_out m hs _ hr)); iexact H7

theorem exact_obligation (c : Dev nD) :
    BodyObligation (tileDat m 0 c) (defs₀ (F := Ideal)) Variants.none () Set.univ := fun t => by
  rw [bigSep_W0, bigSep_W0, defs₀_row]
  exact triple_restated (exact_body m c t) rfl .rfl fun _ => .rfl

set_option backward.isDefEq.respectTransparency.types false in
theorem run_exact :
    θ_run defs (onTc (τ := τ) (main (F := Ideal))) (s₀ m ρ)
      (fun r => Pipeline.FramePost cfgs (tileDat m) 0 (V m) r ∧ r.2.sem = fun _ => 0) :=
  Pipeline.θ_run_frame_dma (Q' := _) cfgs (tileDat m) (0 : Fin 1) launch0 osem0 defs₀ Variants.none ownSemFacts0 H0 H0_sub m ρ main
    (hbody := fun c => (exact_obligation m c).loose) (hshare := fun c => (tileDat m 0 c).share_full fun _ => rfl)
    (howed := fun _ _ => rfl) (V := V m) (hmain := hmainD m Variants.none) (hA := exact_A m)
    (hin := fun _ => .rfl) (hout := fun c => holdsAt_any m c _)

/-- The output array after the run. -/
theorem final_out (c : Dev nD) : (tileDat m 0 c).arrAt 3 cfg0.N = fun i => outS (arrays m c) (i 1).val (i 2) := by
  have e : ∀ t : Fin grid0.N, win0_3.index t = ![0, t.val, 0] := by decide +kernel
  refine (tileDat m 0 c).arrAt_eq_of_covers 3 _ (by decide +kernel) fun t hf y => ?_
  blk_simp [e]
  show outS (arrays m c) (512 * t.val + (y 1).val) (y 2) = _
  exact congrArg₂ _ (by omega) (Fin.ext (by blk_simp [e]))

end Cert.KernelIdeal.Ffn

end
-- ==== Proof.ReferenceIdeal.Layer.lean ====
module

public import proofs.«01_k».proof.Proof.Gen.ReferenceIdeal.Run
public import Idealize.ShloMosaic.Lib.Pointwise
public import proofs.«01_k».proof.Proof.KernelIdeal.Token

@[expose] public section

set_option maxRecDepth 65536

noncomputable section

/-! The reference's result, element by element. -/

namespace Cert.ReferenceIdeal.Ffn

open Cert.ReferenceIdeal Cert.ReferenceIdeal.Gen Cert.ReferenceIdeal.Value
open Idealize.ShloMosaic
open Cert.KernelIdeal.Ffn (Arrays gateOf upS backS cvS gtS outS)
open Idealize.ShloMosaic.TcCoe

variable (m : (ℓ : Loc nD τ sig) → Buf (Elt Ideal) ℓ) (c : Dev nD)

/-- The reciprocal root mean square of every token, along its row. -/
def scale : FVec Ideal S1x16384x1024 .f32 := (broadcastInDim S1x16384x1024 ![0, 1, 2] bcast_S1x16384x1_S1x16384x1024_0_1_2 (Host.rsqrt (F := Ideal) (addf (Host.divf (broadcastInDim S1x16384x1 ![0, 1] bcast_S1x16384_S1x16384x1_0_1 (Host.reduceAdd (mulf (m ((c.tc : Thread nD τ).loc main_arg0)) (m ((c.tc : Thread nD τ).loc main_arg0))) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))
/-- The up-projection of the normalized tokens. -/
def up : FVec Ideal S1x16384x5632 .f32 := (Host.dotGeneral (φ₂ := .f32) dot_S1x16384x1024_S1024x5632_S1x16384x5632_2_0_01_1_n_n none (mulf (mulf (m ((c.tc : Thread nD τ).loc main_arg0)) (scale m c)) (broadcastInDim S1x16384x1024 ![0, 1, 2] bcast_S1x1x1024_S1x16384x1024_0_1_2 (broadcastInDim S1x1x1024 ![2] bcast_S1024_S1x1x1024_2 (shapeCast _ (m ((c.tc : Thread nD τ).loc main_arg1)) shapeCasts_S1x1024_S1024)))) (shapeCast _ (m ((c.tc : Thread nD τ).loc main_arg2)) shapeCasts_S1x1024x5632_S1024x5632))
/-- The convolution over three tokens. -/
def taps : FVec Ideal S1x16384x5632 .f32 := (addf (addf (mulf (extractStridedSlice S1x16384x5632 ![0, 0, 0] (pad S1x16386x5632 ![0, 2, 0] ![0, 0, 0] ![0, 0, 0] (up m c) (sitofp .f32 (constantI S_ 32 0#32)) pads_S1x16384x5632_S1x16386x5632_000_200_000 h_S_) slices_S1x16386x5632_S1x16384x5632_0_0_0) (broadcastInDim S1x16384x5632 ![0, 1, 2] bcast_S1x1x5632_S1x16384x5632_0_1_2 (broadcastInDim S1x1x5632 ![2] bcast_S5632_S1x1x5632_2 (shapeCast _ (extractStridedSlice S1x5632 ![0, 0] (shapeCast _ (m ((c.tc : Thread nD τ).loc main_arg3)) shapeCasts_S1x3x5632_S3x5632) slices_S3x5632_S1x5632_0_0) shapeCasts_S1x5632_S5632)))) (mulf (extractStridedSlice S1x16384x5632 ![0, 1, 0] (pad S1x16386x5632 ![0, 2, 0] ![0, 0, 0] ![0, 0, 0] (up m c) (sitofp .f32 (constantI S_ 32 0#32)) pads_S1x16384x5632_S1x16386x5632_000_200_000 h_S_) slices_S1x16386x5632_S1x16384x5632_0_1_0) (broadcastInDim S1x16384x5632 ![0, 1, 2] bcast_S1x1x5632_S1x16384x5632_0_1_2 (broadcastInDim S1x1x5632 ![2] bcast_S5632_S1x1x5632_2 (shapeCast _ (extractStridedSlice S1x5632 ![1, 0] (shapeCast _ (m ((c.tc : Thread nD τ).loc main_arg3)) shapeCasts_S1x3x5632_S3x5632) slices_S3x5632_S1x5632_1_0) shapeCasts_S1x5632_S5632))))) (mulf (extractStridedSlice S1x16384x5632 ![0, 2, 0] (pad S1x16386x5632 ![0, 2, 0] ![0, 0, 0] ![0, 0, 0] (up m c) (sitofp .f32 (constantI S_ 32 0#32)) pads_S1x16384x5632_S1x16386x5632_000_200_000 h_S_) slices_S1x16386x5632_S1x16384x5632_0_2_0) (broadcastInDim S1x16384x5632 ![0, 1, 2] bcast_S1x1x5632_S1x16384x5632_0_1_2 (broadcastInDim S1x1x5632 ![2] bcast_S5632_S1x1x5632_2 (shapeCast _ (extractStridedSlice S1x5632 ![2, 0] (shapeCast _ (m ((c.tc : Thread nD τ).loc main_arg3)) shapeCasts_S1x3x5632_S3x5632) slices_S3x5632_S1x5632_2_0) shapeCasts_S1x5632_S5632)))))

theorem res_eq : res_main_v44 (F := Ideal) m c = addf (m ((c.tc : Thread nD τ).loc main_arg0)) (Host.dotGeneral (φ₂ := .f32) dot_S1x16384x2816_S2816x1024_S1x16384x1024_2_0_01_1_n_n none (mulf (mulf (extractStridedSlice S1x16384x2816 ![0, 0, 0] (taps m c) slices_S1x16384x5632_S1x16384x2816_0_0_0) (Host.divf (broadcastInDim S1x16384x2816 ![] bcast_S_S1x16384x2816 (constant S_ .f32 0x3F800000#32)) (addf (broadcastInDim S1x16384x2816 ![] bcast_S_S1x16384x2816 (constant S_ .f32 0x3F800000#32)) (Host.exp (Host.negf (extractStridedSlice S1x16384x2816 ![0, 0, 0] (taps m c) slices_S1x16384x5632_S1x16384x2816_0_0_0)))))) (extractStridedSlice S1x16384x2816 ![0, 0, 2816] (taps m c) slices_S1x16384x5632_S1x16384x2816_0_0_2816)) (shapeCast _ (m ((c.tc : Thread nD τ).loc main_arg4)) shapeCasts_S1x2816x1024_S2816x1024)) := by
  unfold res_main_v44 taps up scale
  rfl

/-! ### Laws of the extended reals -/

theorem eps_eq : Ideal.ofBits .f32 0x358637BD#32 = ((8796093 / 8796093022208 : ℝ) : EReal) := by
  simp [Ideal.ofBits, Ideal.ieee, -EReal.coe_mul]; norm_num

theorem width_eq : Ideal.ofBits .f32 0x44800000#32 = ((1024 : ℝ) : EReal) := by
  simp [Ideal.ofBits, Ideal.ieee, -EReal.coe_mul]; norm_num

theorem sq_nonneg' (x : EReal) : 0 ≤ x * x := by
  induction x with
  | bot => simp
  | top => simp
  | coe r => exact_mod_cast mul_self_nonneg r

/-- The reciprocal root mean square is a nonnegative real. -/
theorem inv_real (x : Fin 1024 → EReal) : ∃ r : ℝ, 0 ≤ r ∧ KernelIdeal.Ffn.inv x = (r : EReal) := by
  unfold KernelIdeal.Ffn.inv
  rw [eps_eq, width_eq, Ideal.div_coe (by norm_num)]
  have h : 0 ≤ ∑ d, x d * x d := Finset.sum_nonneg fun d _ => sq_nonneg' (x d)
  generalize ∑ d, x d * x d = s at h
  induction s with
  | bot => simp at h
  | top =>
    refine ⟨0, le_refl _, ?_⟩
    rw [EReal.top_mul_coe_of_pos (by norm_num), EReal.top_add_coe]
    rfl
  | coe r =>
    have hr : 0 ≤ r := by exact_mod_cast h
    refine ⟨(Real.sqrt (r * (1 / 1024) + 8796093 / 8796093022208))⁻¹, by positivity, ?_⟩
    rw [← EReal.coe_mul, ← EReal.coe_add, Ideal.rsqrt_coe, if_neg (not_lt.mpr (by positivity)), if_neg (ne_of_gt (by positivity))]

/-- A nonnegative real leaves a sum. -/
theorem sum_scale {n : ℕ} (f : Fin n → EReal) (r : ℝ) (hr : 0 ≤ r) : ∑ d, f d * (r : EReal) = (∑ d, f d) * (r : EReal) := by
  refine Finset.induction_on (Finset.univ : Finset (Fin n)) (by simp) fun a s ha ih => ?_
  rw [Finset.sum_insert ha, Finset.sum_insert ha, ih]
  rw [mul_comm (f a + _), EReal.left_distrib_of_nonneg_of_ne_top (by exact_mod_cast hr) (EReal.coe_ne_top r), mul_comm (f a), mul_comm (r : EReal) (∑ i ∈ s, f i)]

/-- The kernel's gate is the reference's. -/
theorem gate_eq (g u : EReal) : g * Ideal.div 1 (1 + Ideal.exp (-g)) * u = gateOf g u := by
  unfold gateOf
  refine congrArg (· * u) ?_
  have hk : Named.named (F := Ideal) (φ := .f32) KernelIdeal.κ "neg_log2e" 0xBFB8AA3B#32 = ((-((Real.log 2)⁻¹) : ℝ) : EReal) := rfl
  have h2 : 0 < Real.log 2 := Real.log_pos (by norm_num)
  rw [hk]
  show _ = Ideal.div g (1 + Ideal.exp2 (g * _))
  induction g with
  | bot =>
    rw [EReal.bot_mul_coe_of_neg (by simpa using h2)]
    simp [Ideal.div]
  | top =>
    rw [EReal.top_mul_coe_of_neg (by simpa using h2)]
    simp [Ideal.div]
  | coe r =>
    rw [← EReal.coe_mul, Ideal.exp2_coe, ← EReal.coe_neg, Ideal.exp_coe]
    have e : Real.rpow 2 (r * -(Real.log 2)⁻¹) = Real.exp (-r) := by
      rw [Real.rpow_eq_pow, Real.rpow_def_of_pos (by norm_num)]
      congr 1
      field_simp
    rw [e, ← EReal.coe_one, ← EReal.coe_add, Ideal.div_coe (by positivity), Ideal.div_coe (by positivity), EReal.coe_one, one_mul]

/-! ### The elements -/

/-- The layer's arrays, read off the reference's arguments. -/
def arrays : Arrays where
  x T d := m ((c.tc : Thread nD τ).loc main_arg0) (ix3 (0 : Fin 1) (Fin.ofNat 16384 T) d)
  nw d := m ((c.tc : Thread nD τ).loc main_arg1) (ix2 (0 : Fin 1) d)
  wu d q := m ((c.tc : Thread nD τ).loc main_arg2) (ix3 (0 : Fin 1) d q)
  cw t q := m ((c.tc : Thread nD τ).loc main_arg3) (ix3 (0 : Fin 1) t q)
  wd q d := m ((c.tc : Thread nD τ).loc main_arg4) (ix3 (0 : Fin 1) q d)

theorem x_eq (T : Fin 16384) (d : Fin 1024) : (arrays m c).x T.val d = m ((c.tc : Thread nD τ).loc main_arg0) (ix3 (0 : Fin 1) T d) := by
  unfold arrays
  exact congrArg _ (congrArg (fun t => ix3 (0 : Fin 1) t d) (Fin.ext (Nat.mod_eq_of_lt T.isLt)))

theorem scale_apply (T : Fin 16384) (d : Fin 1024) : scale m c (ix3 (0 : Fin 1) T d) = KernelIdeal.Ffn.inv ((arrays m c).x T.val) := by
  unfold scale KernelIdeal.Ffn.inv
  simp only [pointwise, x_eq]
  simp

theorem up_apply (T : Fin 16384) (q : Fin 5632) : up m c (ix3 (0 : Fin 1) T q) = upS (arrays m c) T.val q := by
  have h : up m c (ix3 (0 : Fin 1) T q) = ∑ d, (arrays m c).x T.val d * KernelIdeal.Ffn.inv ((arrays m c).x T.val) * (arrays m c).nw d * (arrays m c).wu d q := by
    have hs := fun d => scale_apply m c T d
    unfold up
    generalize scale m c = S at hs
    simp only [pointwise]
    simp [hs, x_eq]
    rfl
  rw [h]
  unfold upS
  obtain ⟨r, hr, e⟩ := inv_real ((arrays m c).x T.val)
  rw [e, ← sum_scale _ r hr]
  refine Finset.sum_congr rfl fun d _ => ?_
  simp only [mul_assoc, mul_comm, mul_left_comm]

theorem taps_apply (T : Fin 16384) (q : Fin 5632) : taps m c (ix3 (0 : Fin 1) T q) = cvS (arrays m c) T.val q := by
  have z : FloatOps.sitofp (F := Ideal) .f32 (0#32) = (0 : EReal) := by
    show ((((0#32 : BitVec 32).toInt : ℝ)) : EReal) = 0
    simp
  have hu := fun T => up_apply m c T q
  unfold taps cvS backS
  generalize up m c = S at hu
  simp only [pointwise]
  simp [z, Fin.forall_fin_succ, Nat.mod_one, hu]
  have e1 : (2 ≤ T.val ∧ T.val - 2 < 16384) = (2 ≤ T.val) := propext ⟨fun h => h.1, fun h => ⟨h, by omega⟩⟩
  have e2 : (2 ≤ 1 + T.val ∧ T.val - 1 < 16384) = (1 ≤ T.val) := propext ⟨fun h => by omega, fun h => ⟨by omega, by omega⟩⟩
  have e3 : 1 + T.val - 2 = T.val - 1 := by omega
  rw [e3]
  simp only [e1, e2]
  refine congrArg₂ _ (congrArg₂ _ (if_congr Iff.rfl (mul_comm _ _) rfl) (if_congr Iff.rfl (mul_comm _ _) rfl)) (mul_comm _ _)

theorem res_apply (T : Fin 16384) (d : Fin 1024) : res_main_v44 (F := Ideal) m c (ix3 (0 : Fin 1) T d) = outS (arrays m c) T.val d := by
  have ht := taps_apply m c T
  rw [res_eq]
  generalize taps m c = S at ht
  simp only [pointwise]
  simp [ht]
  simp only [gate_eq]
  unfold outS
  rw [add_assoc]
  refine congrArg₂ _ (x_eq m c T d).symm ?_
  exact Fin.sum_univ_add (a := 2560) (b := 256) fun j : Fin 2816 => gtS (arrays m c) T.val j * (arrays m c).wd j d

end Cert.ReferenceIdeal.Ffn

end
-- ==== Proof.Value.lean ====
module

public import proofs.«01_k».proof.Defs
public import proofs.«01_k».proof.Proof.KernelIdeal.Exact
public import proofs.«01_k».proof.Proof.ReferenceIdeal.Layer

@[expose] public section

set_option maxRecDepth 65536

noncomputable section

/-! The kernel's result is the reference's. -/

namespace Cert.Proof

open Idealize.ShloMosaic Idealize.SL.Sem

section
open Cert.KernelIdeal Cert.KernelIdeal.Gen Cert.KernelIdeal.Ffn

/-- What the kernel ends with: the layer in its output array, its arguments unchanged. -/
theorem kernel_ends (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = (fun i => outS (arrays m c) (i 1).val (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 3).trans (final_out m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_exact m ρ)
end

/-- An index of the result, by its coordinates. -/
theorem ix_eq (i : Cert.ReferenceIdeal.S1x16384x1024.Idx) : i = ix3 (0 : Fin 1) (i 1 : Fin 16384) (i 2 : Fin 1024) := by
  funext a
  match a with
  | ⟨0, _⟩ => exact Fin.ext (by have := (i ⟨0, by decide⟩).isLt; show (i ⟨0, _⟩).val = 0; exact Nat.lt_one_iff.mp this)
  | ⟨1, _⟩ => rfl
  | ⟨2, _⟩ => rfl

theorem value : Cert.algebraic_KernelIdeal_ReferenceIdeal := fun m g m' g' _ hag =>
  ⟨fun c i => Cert.KernelIdeal.Ffn.outS (Cert.KernelIdeal.Ffn.arrays m c) (i 1).val (i 2), kernel_ends m g,
    (θ_run Cert.ReferenceIdeal.defs _ _).mono (fun r h c => ⟨(h c).1.trans (by
      funext i
      have ha : Cert.ReferenceIdeal.Ffn.arrays m' c = Cert.KernelIdeal.Ffn.arrays m c := by
        obtain ⟨h0, h1, h2, h3, h4⟩ := hag c
        unfold Cert.ReferenceIdeal.Ffn.arrays Cert.KernelIdeal.Ffn.arrays
        rw [h0, h1, h2, h3, h4]
      rw [ix_eq i]
      exact (Cert.ReferenceIdeal.Ffn.res_apply m' c _ _).trans (congrArg (fun A => Cert.KernelIdeal.Ffn.outS A (i 1).val (i 2)) ha)), (h c).2⟩)
      (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.Value
public import Idealize.ShloMosaic.Adequacy
public import Idealize.ShloMosaic.Init
public import Idealize.ShloMosaic.Lib.Bf16Pair

@[expose] public section

noncomputable section

namespace Cert.Proof

open Idealize.ShloMosaic Idealize.SL.Sem

/-- The kernel's frame. -/
theorem frame_k : Cert.quiescent_Kernel := fun m ρ _ => Cert.Kernel.Ffn.quiet (F := Bits) m ρ
/-- The frame of its reading in exact arithmetic. -/
theorem frame_ki : Cert.quiescent_KernelIdeal := fun m ρ _ => Cert.KernelIdeal.Ffn.quiet (F := Ideal) m ρ
/-- The reference's frame: its run, and it declares no counter. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- Each rewriting of the idealization, by its rule. -/
theorem rewrites : Cert.preserves_Kernel_KernelIdeal :=
  ⟨IdealRules.named_const.statement Cert.KernelIdeal.κ "neg_log2e" .f32 0xBFB8AA3B#32 ((-((Real.log 2)⁻¹) : ℝ) : EReal) rfl,
    IdealRules.bf16_pair.statement Cert.KernelIdeal.S64x256 Cert.KernelIdeal.S32x256,
    IdealRules.shift_out.by16TwiceStatement Cert.KernelIdeal.S8x128⟩

theorem claim : Cert.Claim :=
  ⟨Cert.Kernel.Gen.facts, Cert.KernelIdeal.Gen.facts, Cert.ReferenceIdeal.Gen.facts, frame_k, frame_ki, frame_ri, rewrites, value⟩

end Cert.Proof

end
